-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Experts [hPre_dispatch : Cert.Pre_dispatch.Facts] (m : (ℓ : Loc Cert.Experts.nD Cert.Experts.τ Cert.Experts.sig) → Buf (Elt Bits) ℓ) : Prop :=
  ∀ c : Dev Cert.Experts.nD,
    (Cert.Pre_dispatch.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8)) (m ((c.tc : Thread Cert.Experts.nD Cert.Experts.τ).loc Cert.Experts.main_arg9)) (m ((c.tc : Thread Cert.Experts.nD Cert.Experts.τ).loc Cert.Experts.main_arg10))) = (fun _ => 1#1)

def Pre_ExpertsIdeal [hPre_dispatch : Cert.Pre_dispatch.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_dispatch.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9)) (m ((c.tc : Thread Cert.ExpertsIdeal.nD Cert.ExpertsIdeal.τ).loc Cert.ExpertsIdeal.main_arg10))) = (fun _ => 1#1)

def Pre_MixtureIdeal (m : (ℓ : Loc Cert.MixtureIdeal.nD Cert.MixtureIdeal.τ Cert.MixtureIdeal.sig) → Buf (Elt Ideal) ℓ) : Prop :=
  True

def Pre_MixtureIdeal_dispatch [hPre_dispatch : Cert.Pre_dispatch.Facts] (m : (ℓ : Loc Cert.MixtureIdeal.nD Cert.MixtureIdeal.τ Cert.MixtureIdeal.sig) → Buf (Elt Ideal) ℓ) : Prop :=
  ∀ c : Dev Cert.MixtureIdeal.nD,
    (Cert.Pre_dispatch.fn (F := Ideal) (m ((c.tc : Thread Cert.MixtureIdeal.nD Cert.MixtureIdeal.τ).loc Cert.MixtureIdeal.main_arg0)) (m ((c.tc : Thread Cert.MixtureIdeal.nD Cert.MixtureIdeal.τ).loc Cert.MixtureIdeal.main_arg1)) (m ((c.tc : Thread Cert.MixtureIdeal.nD Cert.MixtureIdeal.τ).loc Cert.MixtureIdeal.main_arg2)) (m ((c.tc : Thread Cert.MixtureIdeal.nD Cert.MixtureIdeal.τ).loc Cert.MixtureIdeal.main_arg3)) (m ((c.tc : Thread Cert.MixtureIdeal.nD Cert.MixtureIdeal.τ).loc Cert.MixtureIdeal.main_arg4)) (m ((c.tc : Thread Cert.MixtureIdeal.nD Cert.MixtureIdeal.τ).loc Cert.MixtureIdeal.main_arg5)) (m ((c.tc : Thread Cert.MixtureIdeal.nD Cert.MixtureIdeal.τ).loc Cert.MixtureIdeal.main_arg6)) (m ((c.tc : Thread Cert.MixtureIdeal.nD Cert.MixtureIdeal.τ).loc Cert.MixtureIdeal.main_arg7)) (m ((c.tc : Thread Cert.MixtureIdeal.nD Cert.MixtureIdeal.τ).loc Cert.MixtureIdeal.main_arg8)) (m ((c.tc : Thread Cert.MixtureIdeal.nD Cert.MixtureIdeal.τ).loc Cert.MixtureIdeal.main_arg9)) (m ((c.tc : Thread Cert.MixtureIdeal.nD Cert.MixtureIdeal.τ).loc Cert.MixtureIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_dispatch : Cert.Pre_dispatch.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9)
      ∧ r.2.mem ((c.tc : Thread Cert.Experts.nD Cert.Experts.τ).loc Cert.Experts.main_arg10) = m ((c.tc : Thread Cert.Experts.nD Cert.Experts.τ).loc Cert.Experts.main_arg10))
      ∧ r.2.sem = fun _ => 0)

def quiescent_ExpertsIdeal [hExpertsIdeal : Cert.ExpertsIdeal.Facts] [hPre_dispatch : Cert.Pre_dispatch.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
      ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10))
      ∧ r.2.sem = fun _ => 0)

def quiescent_MixtureIdeal [hMixtureIdeal : Cert.MixtureIdeal.Facts] : Prop :=
  ∀ (m : (ℓ : Loc Cert.MixtureIdeal.nD Cert.MixtureIdeal.τ Cert.MixtureIdeal.sig) → Buf (Elt Ideal) ℓ) (g : Dev Cert.MixtureIdeal.nD → PrngReg), Pre_MixtureIdeal m →
    θ_run (Cert.MixtureIdeal.defs (F := Ideal)) (onTc (τ := Cert.MixtureIdeal.τ) (Cert.MixtureIdeal.main (F := Ideal))) ⟨m, fun _ => 0, g⟩ (fun r => (∀ c : Dev Cert.MixtureIdeal.nD,
      r.2.mem ((c.tc : Thread Cert.MixtureIdeal.nD Cert.MixtureIdeal.τ).loc Cert.MixtureIdeal.main_arg0) = m ((c.tc : Thread Cert.MixtureIdeal.nD Cert.MixtureIdeal.τ).loc Cert.MixtureIdeal.main_arg0)
      ∧ r.2.mem ((c.tc : Thread Cert.MixtureIdeal.nD Cert.MixtureIdeal.τ).loc Cert.MixtureIdeal.main_arg1) = m ((c.tc : Thread Cert.MixtureIdeal.nD Cert.MixtureIdeal.τ).loc Cert.MixtureIdeal.main_arg1)
      ∧ r.2.mem ((c.tc : Thread Cert.MixtureIdeal.nD Cert.MixtureIdeal.τ).loc Cert.MixtureIdeal.main_arg2) = m ((c.tc : Thread Cert.MixtureIdeal.nD Cert.MixtureIdeal.τ).loc Cert.MixtureIdeal.main_arg2)
      ∧ r.2.mem ((c.tc : Thread Cert.MixtureIdeal.nD Cert.MixtureIdeal.τ).loc Cert.MixtureIdeal.main_arg3) = m ((c.tc : Thread Cert.MixtureIdeal.nD Cert.MixtureIdeal.τ).loc Cert.MixtureIdeal.main_arg3)
      ∧ r.2.mem ((c.tc : Thread Cert.MixtureIdeal.nD Cert.MixtureIdeal.τ).loc Cert.MixtureIdeal.main_arg4) = m ((c.tc : Thread Cert.MixtureIdeal.nD Cert.MixtureIdeal.τ).loc Cert.MixtureIdeal.main_arg4)
      ∧ r.2.mem ((c.tc : Thread Cert.MixtureIdeal.nD Cert.MixtureIdeal.τ).loc Cert.MixtureIdeal.main_arg5) = m ((c.tc : Thread Cert.MixtureIdeal.nD Cert.MixtureIdeal.τ).loc Cert.MixtureIdeal.main_arg5)
      ∧ r.2.mem ((c.tc : Thread Cert.MixtureIdeal.nD Cert.MixtureIdeal.τ).loc Cert.MixtureIdeal.main_arg6) = m ((c.tc : Thread Cert.MixtureIdeal.nD Cert.MixtureIdeal.τ).loc Cert.MixtureIdeal.main_arg6)
      ∧ r.2.mem ((c.tc : Thread Cert.MixtureIdeal.nD Cert.MixtureIdeal.τ).loc Cert.MixtureIdeal.main_arg7) = m ((c.tc : Thread Cert.MixtureIdeal.nD Cert.MixtureIdeal.τ).loc Cert.MixtureIdeal.main_arg7)
      ∧ r.2.mem ((c.tc : Thread Cert.MixtureIdeal.nD Cert.MixtureIdeal.τ).loc Cert.MixtureIdeal.main_arg8) = m ((c.tc : Thread Cert.MixtureIdeal.nD Cert.MixtureIdeal.τ).loc Cert.MixtureIdeal.main_arg8)
      ∧ r.2.mem ((c.tc : Thread Cert.MixtureIdeal.nD Cert.MixtureIdeal.τ).loc Cert.MixtureIdeal.main_arg9) = m ((c.tc : Thread Cert.MixtureIdeal.nD Cert.MixtureIdeal.τ).loc Cert.MixtureIdeal.main_arg9)
      ∧ r.2.mem ((c.tc : Thread Cert.MixtureIdeal.nD Cert.MixtureIdeal.τ).loc Cert.MixtureIdeal.main_arg10) = m ((c.tc : Thread Cert.MixtureIdeal.nD Cert.MixtureIdeal.τ).loc Cert.MixtureIdeal.main_arg10))
      ∧ r.2.sem = fun _ => 0)

def quiescent_MixtureIdeal_pre_dispatch [hMixtureIdeal : Cert.MixtureIdeal.Facts] [hPre_dispatch : Cert.Pre_dispatch.Facts] : Prop :=
  ∀ (m : (ℓ : Loc Cert.MixtureIdeal.nD Cert.MixtureIdeal.τ Cert.MixtureIdeal.sig) → Buf (Elt Ideal) ℓ) (g : Dev Cert.MixtureIdeal.nD → PrngReg), Pre_MixtureIdeal_dispatch m →
    θ_run (Cert.MixtureIdeal.defs (F := Ideal)) (onTc (τ := Cert.MixtureIdeal.τ) (Cert.MixtureIdeal.main (F := Ideal))) ⟨m, fun _ => 0, g⟩ (fun r => (∀ c : Dev Cert.MixtureIdeal.nD,
      r.2.mem ((c.tc : Thread Cert.MixtureIdeal.nD Cert.MixtureIdeal.τ).loc Cert.MixtureIdeal.main_arg0) = m ((c.tc : Thread Cert.MixtureIdeal.nD Cert.MixtureIdeal.τ).loc Cert.MixtureIdeal.main_arg0)
      ∧ r.2.mem ((c.tc : Thread Cert.MixtureIdeal.nD Cert.MixtureIdeal.τ).loc Cert.MixtureIdeal.main_arg1) = m ((c.tc : Thread Cert.MixtureIdeal.nD Cert.MixtureIdeal.τ).loc Cert.MixtureIdeal.main_arg1)
      ∧ r.2.mem ((c.tc : Thread Cert.MixtureIdeal.nD Cert.MixtureIdeal.τ).loc Cert.MixtureIdeal.main_arg2) = m ((c.tc : Thread Cert.MixtureIdeal.nD Cert.MixtureIdeal.τ).loc Cert.MixtureIdeal.main_arg2)
      ∧ r.2.mem ((c.tc : Thread Cert.MixtureIdeal.nD Cert.MixtureIdeal.τ).loc Cert.MixtureIdeal.main_arg3) = m ((c.tc : Thread Cert.MixtureIdeal.nD Cert.MixtureIdeal.τ).loc Cert.MixtureIdeal.main_arg3)
      ∧ r.2.mem ((c.tc : Thread Cert.MixtureIdeal.nD Cert.MixtureIdeal.τ).loc Cert.MixtureIdeal.main_arg4) = m ((c.tc : Thread Cert.MixtureIdeal.nD Cert.MixtureIdeal.τ).loc Cert.MixtureIdeal.main_arg4)
      ∧ r.2.mem ((c.tc : Thread Cert.MixtureIdeal.nD Cert.MixtureIdeal.τ).loc Cert.MixtureIdeal.main_arg5) = m ((c.tc : Thread Cert.MixtureIdeal.nD Cert.MixtureIdeal.τ).loc Cert.MixtureIdeal.main_arg5)
      ∧ r.2.mem ((c.tc : Thread Cert.MixtureIdeal.nD Cert.MixtureIdeal.τ).loc Cert.MixtureIdeal.main_arg6) = m ((c.tc : Thread Cert.MixtureIdeal.nD Cert.MixtureIdeal.τ).loc Cert.MixtureIdeal.main_arg6)
      ∧ r.2.mem ((c.tc : Thread Cert.MixtureIdeal.nD Cert.MixtureIdeal.τ).loc Cert.MixtureIdeal.main_arg7) = m ((c.tc : Thread Cert.MixtureIdeal.nD Cert.MixtureIdeal.τ).loc Cert.MixtureIdeal.main_arg7)
      ∧ r.2.mem ((c.tc : Thread Cert.MixtureIdeal.nD Cert.MixtureIdeal.τ).loc Cert.MixtureIdeal.main_arg8) = m ((c.tc : Thread Cert.MixtureIdeal.nD Cert.MixtureIdeal.τ).loc Cert.MixtureIdeal.main_arg8)
      ∧ r.2.mem ((c.tc : Thread Cert.MixtureIdeal.nD Cert.MixtureIdeal.τ).loc Cert.MixtureIdeal.main_arg9) = m ((c.tc : Thread Cert.MixtureIdeal.nD Cert.MixtureIdeal.τ).loc Cert.MixtureIdeal.main_arg9)
      ∧ r.2.mem ((c.tc : Thread Cert.MixtureIdeal.nD Cert.MixtureIdeal.τ).loc Cert.MixtureIdeal.main_arg10) = m ((c.tc : Thread Cert.MixtureIdeal.nD Cert.MixtureIdeal.τ).loc Cert.MixtureIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_MixtureIdeal [hExpertsIdeal : Cert.ExpertsIdeal.Facts] [hMixtureIdeal : Cert.MixtureIdeal.Facts] [hPre_dispatch : Cert.Pre_dispatch.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.MixtureIdeal.nD Cert.MixtureIdeal.τ Cert.MixtureIdeal.sig) → Buf (Elt Ideal) ℓ) (g' : Dev Cert.MixtureIdeal.nD → PrngReg), Pre_ExpertsIdeal m →
    (∀ c : Dev Cert.ExpertsIdeal.nD,
      m' ((c.tc : Thread Cert.MixtureIdeal.nD Cert.MixtureIdeal.τ).loc Cert.MixtureIdeal.main_arg0) = m ((c.tc : Thread Cert.ExpertsIdeal.nD Cert.ExpertsIdeal.τ).loc Cert.ExpertsIdeal.main_arg0)
      ∧ m' ((c.tc : Thread Cert.MixtureIdeal.nD Cert.MixtureIdeal.τ).loc Cert.MixtureIdeal.main_arg1) = m ((c.tc : Thread Cert.ExpertsIdeal.nD Cert.ExpertsIdeal.τ).loc Cert.ExpertsIdeal.main_arg1)
      ∧ m' ((c.tc : Thread Cert.MixtureIdeal.nD Cert.MixtureIdeal.τ).loc Cert.MixtureIdeal.main_arg2) = m ((c.tc : Thread Cert.ExpertsIdeal.nD Cert.ExpertsIdeal.τ).loc Cert.ExpertsIdeal.main_arg2)
      ∧ m' ((c.tc : Thread Cert.MixtureIdeal.nD Cert.MixtureIdeal.τ).loc Cert.MixtureIdeal.main_arg3) = m ((c.tc : Thread Cert.ExpertsIdeal.nD Cert.ExpertsIdeal.τ).loc Cert.ExpertsIdeal.main_arg3)
      ∧ m' ((c.tc : Thread Cert.MixtureIdeal.nD Cert.MixtureIdeal.τ).loc Cert.MixtureIdeal.main_arg4) = m ((c.tc : Thread Cert.ExpertsIdeal.nD Cert.ExpertsIdeal.τ).loc Cert.ExpertsIdeal.main_arg4)
      ∧ m' ((c.tc : Thread Cert.MixtureIdeal.nD Cert.MixtureIdeal.τ).loc Cert.MixtureIdeal.main_arg5) = m ((c.tc : Thread Cert.ExpertsIdeal.nD Cert.ExpertsIdeal.τ).loc Cert.ExpertsIdeal.main_arg5)
      ∧ m' ((c.tc : Thread Cert.MixtureIdeal.nD Cert.MixtureIdeal.τ).loc Cert.MixtureIdeal.main_arg6) = m ((c.tc : Thread Cert.ExpertsIdeal.nD Cert.ExpertsIdeal.τ).loc Cert.ExpertsIdeal.main_arg6)
      ∧ m' ((c.tc : Thread Cert.MixtureIdeal.nD Cert.MixtureIdeal.τ).loc Cert.MixtureIdeal.main_arg7) = m ((c.tc : Thread Cert.ExpertsIdeal.nD Cert.ExpertsIdeal.τ).loc Cert.ExpertsIdeal.main_arg7)
      ∧ m' ((c.tc : Thread Cert.MixtureIdeal.nD Cert.MixtureIdeal.τ).loc Cert.MixtureIdeal.main_arg8) = m ((c.tc : Thread Cert.ExpertsIdeal.nD Cert.ExpertsIdeal.τ).loc Cert.ExpertsIdeal.main_arg8)
      ∧ m' ((c.tc : Thread Cert.MixtureIdeal.nD Cert.MixtureIdeal.τ).loc Cert.MixtureIdeal.main_arg9) = m ((c.tc : Thread Cert.ExpertsIdeal.nD Cert.ExpertsIdeal.τ).loc Cert.ExpertsIdeal.main_arg9)
      ∧ m' ((c.tc : Thread Cert.MixtureIdeal.nD Cert.MixtureIdeal.τ).loc Cert.MixtureIdeal.main_arg10) = m ((c.tc : Thread Cert.ExpertsIdeal.nD Cert.ExpertsIdeal.τ).loc Cert.ExpertsIdeal.main_arg10)) →
    ∃ (v0 : (c : Dev Cert.ExpertsIdeal.nD) → Buf (Elt Ideal) ((c.tc : Thread Cert.ExpertsIdeal.nD Cert.ExpertsIdeal.τ).loc Cert.ExpertsIdeal.main_v8)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v8) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9)
          ∧ r.2.mem ((c.tc : Thread Cert.ExpertsIdeal.nD Cert.ExpertsIdeal.τ).loc Cert.ExpertsIdeal.main_arg10) = m ((c.tc : Thread Cert.ExpertsIdeal.nD Cert.ExpertsIdeal.τ).loc Cert.ExpertsIdeal.main_arg10))
      ∧ θ_run (Cert.MixtureIdeal.defs (F := Ideal)) (onTc (τ := Cert.MixtureIdeal.τ) (Cert.MixtureIdeal.main (F := Ideal))) ⟨m', fun _ => 0, g'⟩ (fun r => ∀ c : Dev Cert.MixtureIdeal.nD,
          r.2.mem ((c.tc : Thread Cert.MixtureIdeal.nD Cert.MixtureIdeal.τ).loc Cert.MixtureIdeal.main_v31) = v0 c
          ∧ r.2.mem ((c.tc : Thread Cert.MixtureIdeal.nD Cert.MixtureIdeal.τ).loc Cert.MixtureIdeal.main_arg0) = m' ((c.tc : Thread Cert.MixtureIdeal.nD Cert.MixtureIdeal.τ).loc Cert.MixtureIdeal.main_arg0)
          ∧ r.2.mem ((c.tc : Thread Cert.MixtureIdeal.nD Cert.MixtureIdeal.τ).loc Cert.MixtureIdeal.main_arg1) = m' ((c.tc : Thread Cert.MixtureIdeal.nD Cert.MixtureIdeal.τ).loc Cert.MixtureIdeal.main_arg1)
          ∧ r.2.mem ((c.tc : Thread Cert.MixtureIdeal.nD Cert.MixtureIdeal.τ).loc Cert.MixtureIdeal.main_arg2) = m' ((c.tc : Thread Cert.MixtureIdeal.nD Cert.MixtureIdeal.τ).loc Cert.MixtureIdeal.main_arg2)
          ∧ r.2.mem ((c.tc : Thread Cert.MixtureIdeal.nD Cert.MixtureIdeal.τ).loc Cert.MixtureIdeal.main_arg3) = m' ((c.tc : Thread Cert.MixtureIdeal.nD Cert.MixtureIdeal.τ).loc Cert.MixtureIdeal.main_arg3)
          ∧ r.2.mem ((c.tc : Thread Cert.MixtureIdeal.nD Cert.MixtureIdeal.τ).loc Cert.MixtureIdeal.main_arg4) = m' ((c.tc : Thread Cert.MixtureIdeal.nD Cert.MixtureIdeal.τ).loc Cert.MixtureIdeal.main_arg4)
          ∧ r.2.mem ((c.tc : Thread Cert.MixtureIdeal.nD Cert.MixtureIdeal.τ).loc Cert.MixtureIdeal.main_arg5) = m' ((c.tc : Thread Cert.MixtureIdeal.nD Cert.MixtureIdeal.τ).loc Cert.MixtureIdeal.main_arg5)
          ∧ r.2.mem ((c.tc : Thread Cert.MixtureIdeal.nD Cert.MixtureIdeal.τ).loc Cert.MixtureIdeal.main_arg6) = m' ((c.tc : Thread Cert.MixtureIdeal.nD Cert.MixtureIdeal.τ).loc Cert.MixtureIdeal.main_arg6)
          ∧ r.2.mem ((c.tc : Thread Cert.MixtureIdeal.nD Cert.MixtureIdeal.τ).loc Cert.MixtureIdeal.main_arg7) = m' ((c.tc : Thread Cert.MixtureIdeal.nD Cert.MixtureIdeal.τ).loc Cert.MixtureIdeal.main_arg7)
          ∧ r.2.mem ((c.tc : Thread Cert.MixtureIdeal.nD Cert.MixtureIdeal.τ).loc Cert.MixtureIdeal.main_arg8) = m' ((c.tc : Thread Cert.MixtureIdeal.nD Cert.MixtureIdeal.τ).loc Cert.MixtureIdeal.main_arg8)
          ∧ r.2.mem ((c.tc : Thread Cert.MixtureIdeal.nD Cert.MixtureIdeal.τ).loc Cert.MixtureIdeal.main_arg9) = m' ((c.tc : Thread Cert.MixtureIdeal.nD Cert.MixtureIdeal.τ).loc Cert.MixtureIdeal.main_arg9)
          ∧ r.2.mem ((c.tc : Thread Cert.MixtureIdeal.nD Cert.MixtureIdeal.τ).loc Cert.MixtureIdeal.main_arg10) = m' ((c.tc : Thread Cert.MixtureIdeal.nD Cert.MixtureIdeal.τ).loc Cert.MixtureIdeal.main_arg10))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hMixtureIdeal : Cert.MixtureIdeal.Facts) (hPre_finite : Cert.Pre_finite.Facts) (hPre_dispatch : Cert.Pre_dispatch.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_dispatch := hPre_dispatch)
    ∧ quiescent_ExpertsIdeal (hExpertsIdeal := hExpertsIdeal) (hPre_dispatch := hPre_dispatch)
    ∧ quiescent_MixtureIdeal (hMixtureIdeal := hMixtureIdeal)
    ∧ quiescent_MixtureIdeal_pre_dispatch (hMixtureIdeal := hMixtureIdeal) (hPre_dispatch := hPre_dispatch)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_MixtureIdeal (hExpertsIdeal := hExpertsIdeal) (hMixtureIdeal := hMixtureIdeal) (hPre_dispatch := hPre_dispatch)
-- ==== Pre_dispatch.lean ====
abbrev S32768x1024 : Shape := ⟨2, ![32768, 1024]⟩
abbrev S32x2x1024 : Shape := ⟨3, ![32, 2, 1024]⟩
abbrev S1024 : Shape := ⟨1, ![1024]⟩
abbrev S32x1024x256 : Shape := ⟨3, ![32, 1024, 256]⟩
abbrev S32x256x1024 : Shape := ⟨3, ![32, 256, 1024]⟩
abbrev S32x32 : Shape := ⟨2, ![32, 32]⟩
abbrev S_ : Shape := ⟨0, ![]⟩
abbrev S32x31 : Shape := ⟨2, ![32, 31]⟩
abbrev S32x1x1024 : Shape := ⟨3, ![32, 1, 1024]⟩
abbrev S32x1024 : Shape := ⟨2, ![32, 1024]⟩
abbrev S32x2x1024x1 : Shape := ⟨4, ![32, 2, 1024, 1]⟩
abbrev S32 : Shape := ⟨1, ![32]⟩
abbrev S1x1x1x32 : Shape := ⟨4, ![1, 1, 1, 32]⟩
abbrev S32x2x1024x32 : Shape := ⟨4, ![32, 2, 1024, 32]⟩
abbrev S32x1x1x32 : Shape := ⟨4, ![32, 1, 1, 32]⟩
abbrev S1024x1 : Shape := ⟨2, ![1024, 1]⟩
abbrev S1x1024 : Shape := ⟨2, ![1, 1024]⟩
abbrev S1024x1024 : Shape := ⟨2, ![1024, 1024]⟩
abbrev S32x1024x1 : Shape := ⟨3, ![32, 1024, 1]⟩
abbrev S32x1024x1024 : Shape := ⟨3, ![32, 1024, 1024]⟩
abbrev S1x1024x1024 : Shape := ⟨3, ![1, 1024, 1024]⟩

class Facts : Prop where
  shapeCasts_S1024_S32x32 : S1024.ShapeCasts S32x32
  bcast_S_S32x32 : S_.BroadcastsInDim S32x32 (![] : Fin 0 → Fin S32x32.rank)
  reducesTo_S32x32_S_d0_1 : S32x32.ReducesTo [0, 1] S_
  h_S_ : 0 < S_.numel
  slices_S32x32_S32x31_0_0 : S32x32.Slices ![0, 0] S32x31
  slices_S32x32_S32x31_0_1 : S32x32.Slices ![0, 1] S32x31
  reducesTo_S32x31_S_d0_1 : S32x31.ReducesTo [0, 1] S_
  bcast_S_S32x2x1024 : S_.BroadcastsInDim S32x2x1024 (![] : Fin 0 → Fin S32x2x1024.rank)
  reducesTo_S32x2x1024_S_d0_1_2 : S32x2x1024.ReducesTo [0, 1, 2] S_
  slices_S32x2x1024_S32x1x1024_0_0_0 : S32x2x1024.Slices ![0, 0, 0] S32x1x1024
  shapeCasts_S32x1x1024_S32x1024 : S32x1x1024.ShapeCasts S32x1024
  slices_S32x2x1024_S32x1x1024_0_1_0 : S32x2x1024.Slices ![0, 1, 0] S32x1x1024
  reducesTo_S32x1024_S_d0_1 : S32x1024.ReducesTo [0, 1] S_
  bcast_S32x2x1024_S32x2x1024x1_0_1_2 : S32x2x1024.BroadcastsInDim S32x2x1024x1 (![0, 1, 2] : Fin 3 → Fin S32x2x1024x1.rank)
  bcast_S32_S1x1x1x32_3 : S32.BroadcastsInDim S1x1x1x32 (![3] : Fin 1 → Fin S1x1x1x32.rank)
  bcast_S32x2x1024x1_S32x2x1024x32_0_1_2_3 : S32x2x1024x1.BroadcastsInDim S32x2x1024x32 (![0, 1, 2, 3] : Fin 4 → Fin S32x2x1024x32.rank)
  bcast_S1x1x1x32_S32x2x1024x32_0_1_2_3 : S1x1x1x32.BroadcastsInDim S32x2x1024x32 (![0, 1, 2, 3] : Fin 4 → Fin S32x2x1024x32.rank)
  bcast_S32x32_S32x1x1x32_0_3 : S32x32.BroadcastsInDim S32x1x1x32 (![0, 3] : Fin 2 → Fin S32x1x1x32.rank)
  bcast_S32x1x1x32_S32x2x1024x32_0_1_2_3 : S32x1x1x32.BroadcastsInDim S32x2x1024x32 (![0, 1, 2, 3] : Fin 4 → Fin S32x2x1024x32.rank)
  reducesTo_S32x2x1024x32_S_d0_1_2_3 : S32x2x1024x32.ReducesTo [0, 1, 2, 3] S_
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S_d0_1_2 : S32x1024x1024.ReducesTo [0, 1, 2] S_

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S32x32 32) (arg1 : IVec S_ 32) : IVec S32x32 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S32x32 32 := broadcastInDim S32x32 ![] bcast_S_S32x32 v2
  let v4 : IVec S32x32 32 := Host.remsi arg0 v3
  let c_1 : IVec S_ 32 := constantI S_ 32 0#32
  let v5 : IVec S32x32 32 := broadcastInDim S32x32 ![] bcast_S_S32x32 c_1
  let v6 : IVec S32x32 1 := cmpi .ne v4 v5
  let c_2 : IVec S_ 32 := constantI S_ 32 0#32
  let v7 : IVec S32x32 32 := broadcastInDim S32x32 ![] bcast_S_S32x32 c_2
  let v8 : IVec S32x32 1 := cmpi .slt v4 v7
  let c_3 : IVec S_ 32 := constantI S_ 32 0#32
  let v9 : IVec S_ 1 := cmpi .slt v2 c_3
  let v10 : IVec S32x32 1 := broadcastInDim S32x32 ![] bcast_S_S32x32 v9
  let v11 : IVec S32x32 1 := cmpi .ne v8 v10
  let v12 : IVec S32x32 1 := andi v11 v6
  let v13 : IVec S32x32 32 := broadcastInDim S32x32 ![] bcast_S_S32x32 v2
  let v14 : IVec S32x32 32 := addi v4 v13
  let v15 : IVec S32x32 32 := select v12 v14 v4
  v15

def fn_part4 {F : FTy → Type} [FloatOps F] (main_v61 : IVec S_ 1) (main_v63 : IVec S32x1024 32) (main_v65 : IVec S32x1024 32) (main_v72 : IVec S1024x1024 1) (main_v80 : IVec S32x1024x1024 1) (main_c_13 : IVec S_ 1) : IVec S_ 1 :=
  let main_v81 : IVec S_ 1 := (fun x v => Host.reduce IntOp.andi x v reducesTo_S32x1024x1024_S_d0_1_2 h_S_) main_v80 main_c_13
  let main_v82 : IVec S32x1024x1 32 := broadcastInDim S32x1024x1 ![0, 1] bcast_S32x1024_S32x1024x1_0_1 main_v65
  let main_v83 : IVec S32x1x1024 32 := broadcastInDim S32x1x1024 ![0, 2] bcast_S32x1024_S32x1x1024_0_2 main_v65
  let main_v84 : IVec S32x1024x1024 32 := broadcastInDim S32x1024x1024 ![0, 1, 2] bcast_S32x1024x1_S32x1024x1024_0_1_2 main_v82
  let main_v85 : IVec S32x1024x1024 32 := broadcastInDim S32x1024x1024 ![0, 1, 2] bcast_S32x1x1024_S32x1024x1024_0_1_2 main_v83
  let main_v86 : IVec S32x1024x1024 1 := cmpi .ne main_v84 main_v85
  let main_v87 : IVec S1x1024x1024 1 := broadcastInDim S1x1024x1024 ![1, 2] bcast_S1024x1024_S1x1024x1024_1_2 main_v72
  let main_v88 : IVec S32x1024x1024 1 := broadcastInDim S32x1024x1024 ![0, 1, 2] bcast_S1x1024x1024_S32x1024x1024_0_1_2 main_v87
  let main_v89 : IVec S32x1024x1024 1 := ori main_v86 main_v88
  let main_c_14 : IVec S_ 1 := constantI S_ 1 1#1
  let main_v90 : IVec S_ 1 := (fun x v => Host.reduce IntOp.andi x v reducesTo_S32x1024x1024_S_d0_1_2 h_S_) main_v89 main_c_14
  let main_v91 : IVec S_ 1 := andi main_v81 main_v90
  let main_v92 : IVec S_ 1 := andi main_v61 main_v91
  let main_v93 : IVec S32x1024x1 32 := broadcastInDim S32x1024x1 ![0, 1] bcast_S32x1024_S32x1024x1_0_1 main_v63
  let main_v94 : IVec S32x1x1024 32 := broadcastInDim S32x1x1024 ![0, 2] bcast_S32x1024_S32x1x1024_0_2 main_v65
  let main_v95 : IVec S32x1024x1024 32 := broadcastInDim S32x1024x1024 ![0, 1, 2] bcast_S32x1024x1_S32x1024x1024_0_1_2 main_v93
  let main_v96 : IVec S32x1024x1024 32 := broadcastInDim S32x1024x1024 ![0, 1, 2] bcast_S32x1x1024_S32x1024x1024_0_1_2 main_v94
  let main_v97 : IVec S32x1024x1024 1 := cmpi .ne main_v95 main_v96
  let main_c_15 : IVec S_ 1 := constantI S_ 1 1#1
  let main_v98 : IVec S_ 1 := (fun x v => Host.reduce IntOp.andi x v reducesTo_S32x1024x1024_S_d0_1_2 h_S_) main_v97 main_c_15
  let main_v99 : IVec S_ 1 := andi main_v92 main_v98
  main_v99

def fn_part3 {F : FTy → Type} [FloatOps F] (main_arg3 : IVec S32x2x1024 32) (main_v40 : IVec S_ 1) (main_v57 : IVec S32x2x1024x32 1) (main_v58 : IVec S32x2x1024x32 1) : IVec S_ 1 :=
  let main_v59 : IVec S32x2x1024x32 1 := ori main_v58 main_v57
  let main_c_12 : IVec S_ 1 := constantI S_ 1 1#1
  let main_v60 : IVec S_ 1 := (fun x v => Host.reduce IntOp.andi x v reducesTo_S32x2x1024x32_S_d0_1_2_3 h_S_) main_v59 main_c_12
  let main_v61 : IVec S_ 1 := andi main_v40 main_v60
  let main_v62 : IVec S32x1x1024 32 := (extractStridedSlice S32x1x1024 ![0, 0, 0] · slices_S32x2x1024_S32x1x1024_0_0_0) main_arg3
  let main_v63 : IVec S32x1024 32 := shapeCast S32x1024 main_v62 shapeCasts_S32x1x1024_S32x1024
  let main_v64 : IVec S32x1x1024 32 := (extractStridedSlice S32x1x1024 ![0, 1, 0] · slices_S32x2x1024_S32x1x1024_0_1_0) main_arg3
  let main_v65 : IVec S32x1024 32 := shapeCast S32x1024 main_v64 shapeCasts_S32x1x1024_S32x1024
  let main_v66 : IVec S1024 32 := iotaInDim S1024 32 0
  let main_v67 : IVec S1024x1 32 := broadcastInDim S1024x1 ![0] bcast_S1024_S1024x1_0 main_v66
  let main_v68 : IVec S1024 32 := iotaInDim S1024 32 0
  let main_v69 : IVec S1x1024 32 := broadcastInDim S1x1024 ![1] bcast_S1024_S1x1024_1 main_v68
  let main_v70 : IVec S1024x1024 32 := broadcastInDim S1024x1024 ![0, 1] bcast_S1024x1_S1024x1024_0_1 main_v67
  let main_v71 : IVec S1024x1024 32 := broadcastInDim S1024x1024 ![0, 1] bcast_S1x1024_S1024x1024_0_1 main_v69
  let main_v72 : IVec S1024x1024 1 := cmpi .eq main_v70 main_v71
  let main_v73 : IVec S32x1024x1 32 := broadcastInDim S32x1024x1 ![0, 1] bcast_S32x1024_S32x1024x1_0_1 main_v63
  let main_v74 : IVec S32x1x1024 32 := broadcastInDim S32x1x1024 ![0, 2] bcast_S32x1024_S32x1x1024_0_2 main_v63
  let main_v75 : IVec S32x1024x1024 32 := broadcastInDim S32x1024x1024 ![0, 1, 2] bcast_S32x1024x1_S32x1024x1024_0_1_2 main_v73
  let main_v76 : IVec S32x1024x1024 32 := broadcastInDim S32x1024x1024 ![0, 1, 2] bcast_S32x1x1024_S32x1024x1024_0_1_2 main_v74
  let main_v77 : IVec S32x1024x1024 1 := cmpi .ne main_v75 main_v76
  let main_v78 : IVec S1x1024x1024 1 := broadcastInDim S1x1024x1024 ![1, 2] bcast_S1024x1024_S1x1024x1024_1_2 main_v72
  let main_v79 : IVec S32x1024x1024 1 := broadcastInDim S32x1024x1024 ![0, 1, 2] bcast_S1x1024x1024_S32x1024x1024_0_1_2 main_v78
  let main_v80 : IVec S32x1024x1024 1 := ori main_v77 main_v79
  let main_c_13 : IVec S_ 1 := constantI S_ 1 1#1
  fn_part4 (F := F) main_v61 main_v63 main_v65 main_v72 main_v80 main_c_13

def fn_part2 {F : FTy → Type} [FloatOps F] (main_arg2 : IVec S32x2x1024 32) (main_arg3 : IVec S32x2x1024 32) (main_v0 : IVec S32x32 32) (main_v2 : IVec S32x32 32) (main_v26 : IVec S_ 1) (main_v32 : IVec S_ 1) (main_v34 : IVec S32x1024 32) (main_v35 : IVec S32x1x1024 32) : IVec S_ 1 :=
  let main_v36 : IVec S32x1024 32 := shapeCast S32x1024 main_v35 shapeCasts_S32x1x1024_S32x1024
  let main_v37 : IVec S32x1024 1 := cmpi .ne main_v34 main_v36
  let main_c_11 : IVec S_ 1 := constantI S_ 1 1#1
  let main_v38 : IVec S_ 1 := (fun x v => Host.reduce IntOp.andi x v reducesTo_S32x1024_S_d0_1 h_S_) main_v37 main_c_11
  let main_v39 : IVec S_ 1 := andi main_v32 main_v38
  let main_v40 : IVec S_ 1 := andi main_v26 main_v39
  let main_v41 : IVec S32x2x1024x1 32 := broadcastInDim S32x2x1024x1 ![0, 1, 2] bcast_S32x2x1024_S32x2x1024x1_0_1_2 main_arg2
  let main_v42 : IVec S32 32 := iotaInDim S32 32 0
  let main_v43 : IVec S1x1x1x32 32 := broadcastInDim S1x1x1x32 ![3] bcast_S32_S1x1x1x32_3 main_v42
  let main_v44 : IVec S32x2x1024x32 32 := broadcastInDim S32x2x1024x32 ![0, 1, 2, 3] bcast_S32x2x1024x1_S32x2x1024x32_0_1_2_3 main_v41
  let main_v45 : IVec S32x2x1024x32 32 := broadcastInDim S32x2x1024x32 ![0, 1, 2, 3] bcast_S1x1x1x32_S32x2x1024x32_0_1_2_3 main_v43
  let main_v46 : IVec S32x2x1024x32 1 := cmpi .eq main_v44 main_v45
  let main_v47 : IVec S32x1x1x32 32 := broadcastInDim S32x1x1x32 ![0, 3] bcast_S32x32_S32x1x1x32_0_3 main_v0
  let main_v48 : IVec S32x2x1024x1 32 := broadcastInDim S32x2x1024x1 ![0, 1, 2] bcast_S32x2x1024_S32x2x1024x1_0_1_2 main_arg3
  let main_v49 : IVec S32x2x1024x32 32 := broadcastInDim S32x2x1024x32 ![0, 1, 2, 3] bcast_S32x1x1x32_S32x2x1024x32_0_1_2_3 main_v47
  let main_v50 : IVec S32x2x1024x32 32 := broadcastInDim S32x2x1024x32 ![0, 1, 2, 3] bcast_S32x2x1024x1_S32x2x1024x32_0_1_2_3 main_v48
  let main_v51 : IVec S32x2x1024x32 1 := cmpi .sle main_v49 main_v50
  let main_v52 : IVec S32x2x1024x1 32 := broadcastInDim S32x2x1024x1 ![0, 1, 2] bcast_S32x2x1024_S32x2x1024x1_0_1_2 main_arg3
  let main_v53 : IVec S32x1x1x32 32 := broadcastInDim S32x1x1x32 ![0, 3] bcast_S32x32_S32x1x1x32_0_3 main_v2
  let main_v54 : IVec S32x2x1024x32 32 := broadcastInDim S32x2x1024x32 ![0, 1, 2, 3] bcast_S32x2x1024x1_S32x2x1024x32_0_1_2_3 main_v52
  let main_v55 : IVec S32x2x1024x32 32 := broadcastInDim S32x2x1024x32 ![0, 1, 2, 3] bcast_S32x1x1x32_S32x2x1024x32_0_1_2_3 main_v53
  let main_v56 : IVec S32x2x1024x32 1 := cmpi .slt main_v54 main_v55
  let main_v57 : IVec S32x2x1024x32 1 := andi main_v51 main_v56
  let main_v58 : IVec S32x2x1024x32 1 := noti main_v46
  fn_part3 (F := F) main_arg3 main_v40 main_v57 main_v58

def fn_part1 {F : FTy → Type} [FloatOps F] (main_arg2 : IVec S32x2x1024 32) (main_arg3 : IVec S32x2x1024 32) (main_v0 : IVec S32x32 32) (main_v2 : IVec S32x32 32) (main_v17 : IVec S32x32 1) : IVec S_ 1 :=
  let main_c_5 : IVec S_ 32 := constantI S_ 32 2560#32
  let main_v18 : IVec S32x32 32 := broadcastInDim S32x32 ![] bcast_S_S32x32 main_c_5
  let main_v19 : IVec S32x32 1 := cmpi .sle main_v2 main_v18
  let main_v20 : IVec S32x32 1 := andi main_v17 main_v19
  let main_c_6 : IVec S_ 1 := constantI S_ 1 1#1
  let main_v21 : IVec S_ 1 := (fun x v => Host.reduce IntOp.andi x v reducesTo_S32x32_S_d0_1 h_S_) main_v20 main_c_6
  let main_v22 : IVec S32x31 32 := (extractStridedSlice S32x31 ![0, 0] · slices_S32x32_S32x31_0_0) main_v2
  let main_v23 : IVec S32x31 32 := (extractStridedSlice S32x31 ![0, 1] · slices_S32x32_S32x31_0_1) main_v0
  let main_v24 : IVec S32x31 1 := cmpi .sle main_v22 main_v23
  let main_c_7 : IVec S_ 1 := constantI S_ 1 1#1
  let main_v25 : IVec S_ 1 := (fun x v => Host.reduce IntOp.andi x v reducesTo_S32x31_S_d0_1 h_S_) main_v24 main_c_7
  let main_v26 : IVec S_ 1 := andi main_v21 main_v25
  let main_c_8 : IVec S_ 32 := constantI S_ 32 0#32
  let main_v27 : IVec S32x2x1024 32 := broadcastInDim S32x2x1024 ![] bcast_S_S32x2x1024 main_c_8
  let main_v28 : IVec S32x2x1024 1 := cmpi .sge main_arg2 main_v27
  let main_c_9 : IVec S_ 32 := constantI S_ 32 32#32
  let main_v29 : IVec S32x2x1024 32 := broadcastInDim S32x2x1024 ![] bcast_S_S32x2x1024 main_c_9
  let main_v30 : IVec S32x2x1024 1 := cmpi .slt main_arg2 main_v29
  let main_v31 : IVec S32x2x1024 1 := andi main_v28 main_v30
  let main_c_10 : IVec S_ 1 := constantI S_ 1 1#1
  let main_v32 : IVec S_ 1 := (fun x v => Host.reduce IntOp.andi x v reducesTo_S32x2x1024_S_d0_1_2 h_S_) main_v31 main_c_10
  let main_v33 : IVec S32x1x1024 32 := (extractStridedSlice S32x1x1024 ![0, 0, 0] · slices_S32x2x1024_S32x1x1024_0_0_0) main_arg2
  let main_v34 : IVec S32x1024 32 := shapeCast S32x1024 main_v33 shapeCasts_S32x1x1024_S32x1024
  let main_v35 : IVec S32x1x1024 32 := (extractStridedSlice S32x1x1024 ![0, 1, 0] · slices_S32x2x1024_S32x1x1024_0_1_0) main_arg2
  fn_part2 (F := F) main_arg2 main_arg3 main_v0 main_v2 main_v26 main_v32 main_v34 main_v35

def fn {F : FTy → Type} [FloatOps F] (main_arg0 : FVec F S32768x1024 .f32) (main_arg1 : FVec F S32768x1024 .f32) (main_arg2 : IVec S32x2x1024 32) (main_arg3 : IVec S32x2x1024 32) (main_arg4 : FVec F S32x2x1024 .f32) (main_arg5 : IVec S1024 32) (main_arg6 : IVec S1024 32) (main_arg7 : FVec F S32x1024x256 .f32) (main_arg8 : FVec F S32x1024x256 .f32) (main_arg9 : FVec F S32x256x1024 .f32) (main_arg10 : FVec F S1024 .f32) : IVec S_ 1 :=
  let main_v0 : IVec S32x32 32 := shapeCast S32x32 main_arg5 shapeCasts_S1024_S32x32
  let main_v1 : IVec S32x32 32 := shapeCast S32x32 main_arg6 shapeCasts_S1024_S32x32
  let main_v2 : IVec S32x32 32 := addi main_v0 main_v1
  let main_c : IVec S_ 32 := constantI S_ 32 0#32
  let main_v3 : IVec S32x32 32 := broadcastInDim S32x32 ![] bcast_S_S32x32 main_c
  let main_v4 : IVec S32x32 1 := cmpi .sge main_v0 main_v3
  let main_c_0 : IVec S_ 32 := constantI S_ 32 16#32
  let main_v5 : IVec S32x32 32 := fn_remainder (F := F) main_v0 main_c_0
  let main_c_1 : IVec S_ 32 := constantI S_ 32 0#32
  let main_v6 : IVec S32x32 32 := broadcastInDim S32x32 ![] bcast_S_S32x32 main_c_1
  let main_v7 : IVec S32x32 1 := cmpi .eq main_v5 main_v6
  let main_v8 : IVec S32x32 1 := andi main_v4 main_v7
  let main_c_2 : IVec S_ 32 := constantI S_ 32 0#32
  let main_v9 : IVec S32x32 32 := broadcastInDim S32x32 ![] bcast_S_S32x32 main_c_2
  let main_v10 : IVec S32x32 1 := cmpi .sge main_v1 main_v9
  let main_v11 : IVec S32x32 1 := andi main_v8 main_v10
  let main_c_3 : IVec S_ 32 := constantI S_ 32 2560#32
  let main_v12 : IVec S32x32 32 := broadcastInDim S32x32 ![] bcast_S_S32x32 main_c_3
  let main_v13 : IVec S32x32 1 := cmpi .sle main_v1 main_v12
  let main_v14 : IVec S32x32 1 := andi main_v11 main_v13
  let main_c_4 : IVec S_ 32 := constantI S_ 32 2560#32
  let main_v15 : IVec S32x32 32 := broadcastInDim S32x32 ![] bcast_S_S32x32 main_c_4
  let main_v16 : IVec S32x32 1 := cmpi .sle main_v0 main_v15
  let main_v17 : IVec S32x32 1 := andi main_v14 main_v16
  fn_part1 (F := F) main_arg2 main_arg3 main_v0 main_v2 main_v17
-- ==== Pre_finite.lean ====
abbrev S2x16384x8x64 : Shape := ⟨4, ![2, 16384, 8, 64]⟩
abbrev S2x16384x8x32 : Shape := ⟨4, ![2, 16384, 8, 32]⟩
abbrev S2x16384x32 : Shape := ⟨3, ![2, 16384, 32]⟩
abbrev S_ : Shape := ⟨0, ![]⟩

class Facts : Prop where
  bcast_S_S2x16384x8x64 : S_.BroadcastsInDim S2x16384x8x64 (![] : Fin 0 → Fin S2x16384x8x64.rank)
  reducesTo_S2x16384x8x64_S_d0_1_2_3 : S2x16384x8x64.ReducesTo [0, 1, 2, 3] S_
  h_S_ : 0 < S_.numel
  bcast_S_S2x16384x8x32 : S_.BroadcastsInDim S2x16384x8x32 (![] : Fin 0 → Fin S2x16384x8x32.rank)
  reducesTo_S2x16384x8x32_S_d0_1_2_3 : S2x16384x8x32.ReducesTo [0, 1, 2, 3] S_
  bcast_S_S2x16384x32 : S_.BroadcastsInDim S2x16384x32 (![] : Fin 0 → Fin S2x16384x32.rank)
  reducesTo_S2x16384x32_S_d0_1_2 : S2x16384x32.ReducesTo [0, 1, 2] S_

variable [Facts]

def fn_part1 {F : FTy → Type} [FloatOps F] (main_v13 : IVec S_ 1) (main_v16 : IVec S2x16384x32 1) : IVec S_ 1 :=
  let main_c_5 : IVec S_ 1 := constantI S_ 1 1#1
  let main_v17 : IVec S_ 1 := (fun x v => Host.reduce IntOp.andi x v reducesTo_S2x16384x32_S_d0_1_2 h_S_) main_v16 main_c_5
  let main_v18 : IVec S_ 1 := andi main_v13 main_v17
  main_v18

def fn {F : FTy → Type} [FloatOps F] (main_arg0 : FVec F S2x16384x8x64 .f32) (main_arg1 : FVec F S2x16384x8x32 .f32) (main_arg2 : FVec F S2x16384x8x64 .f32) (main_arg3 : FVec F S2x16384x32 .f32) (main_arg4 : FVec F S2x16384x8x64 .f32) : IVec S_ 1 :=
  let main_v0 : FVec F S2x16384x8x64 .f32 := Host.absf main_arg0
  let main_cst : FVec F S_ .f32 := constant S_ .f32 0x7F800000#32
  let main_v1 : FVec F S2x16384x8x64 .f32 := broadcastInDim S2x16384x8x64 ![] bcast_S_S2x16384x8x64 main_cst
  let main_v2 : IVec S2x16384x8x64 1 := cmpf .olt main_v0 main_v1
  let main_c : IVec S_ 1 := constantI S_ 1 1#1
  let main_v3 : IVec S_ 1 := (fun x v => Host.reduce IntOp.andi x v reducesTo_S2x16384x8x64_S_d0_1_2_3 h_S_) main_v2 main_c
  let main_v4 : FVec F S2x16384x8x32 .f32 := Host.absf main_arg1
  let main_cst_0 : FVec F S_ .f32 := constant S_ .f32 0x7F800000#32
  let main_v5 : FVec F S2x16384x8x32 .f32 := broadcastInDim S2x16384x8x32 ![] bcast_S_S2x16384x8x32 main_cst_0
  let main_v6 : IVec S2x16384x8x32 1 := cmpf .olt main_v4 main_v5
  let main_c_1 : IVec S_ 1 := constantI S_ 1 1#1
  let main_v7 : IVec S_ 1 := (fun x v => Host.reduce IntOp.andi x v reducesTo_S2x16384x8x32_S_d0_1_2_3 h_S_) main_v6 main_c_1
  let main_v8 : IVec S_ 1 := andi main_v3 main_v7
  let main_v9 : FVec F S2x16384x8x64 .f32 := Host.absf main_arg2
  let main_cst_2 : FVec F S_ .f32 := constant S_ .f32 0x7F800000#32
  let main_v10 : FVec F S2x16384x8x64 .f32 := broadcastInDim S2x16384x8x64 ![] bcast_S_S2x16384x8x64 main_cst_2
  let main_v11 : IVec S2x16384x8x64 1 := cmpf .olt main_v9 main_v10
  let main_c_3 : IVec S_ 1 := constantI S_ 1 1#1
  let main_v12 : IVec S_ 1 := (fun x v => Host.reduce IntOp.andi x v reducesTo_S2x16384x8x64_S_d0_1_2_3 h_S_) main_v11 main_c_3
  let main_v13 : IVec S_ 1 := andi main_v8 main_v12
  let main_v14 : FVec F S2x16384x32 .f32 := Host.absf main_arg3
  let main_cst_4 : FVec F S_ .f32 := constant S_ .f32 0x7F800000#32
  let main_v15 : FVec F S2x16384x32 .f32 := broadcastInDim S2x16384x32 ![] bcast_S_S2x16384x32 main_cst_4
  let main_v16 : IVec S2x16384x32 1 := cmpf .olt main_v14 main_v15
  fn_part1 (F := F) main_v13 main_v16
-- ==== Kernel.lean ====
abbrev S2x16384x8x64 : Shape := ⟨4, ![2, 16384, 8, 64]⟩
abbrev S2x16384x8x32 : Shape := ⟨4, ![2, 16384, 8, 32]⟩
abbrev S2x16384x32 : Shape := ⟨3, ![2, 16384, 32]⟩
abbrev S_ : Shape := ⟨0, ![]⟩
abbrev S2x16384x8x128 : Shape := ⟨4, ![2, 16384, 8, 128]⟩
abbrev S2x8x128x16384 : Shape := ⟨4, ![2, 8, 128, 16384]⟩
abbrev S2x16384x1x32 : Shape := ⟨4, ![2, 16384, 1, 32]⟩
abbrev S2x8x16384x128 : Shape := ⟨4, ![2, 8, 16384, 128]⟩
abbrev S2x16384x8x16 : Shape := ⟨4, ![2, 16384, 8, 16]⟩
abbrev S2x16384x8x80 : Shape := ⟨4, ![2, 16384, 8, 80]⟩
abbrev S2x8x80x16384 : Shape := ⟨4, ![2, 8, 80, 16384]⟩
abbrev S2x512x16384 : Shape := ⟨3, ![2, 512, 16384]⟩
abbrev S1x1x128x512 : Shape := ⟨4, ![1, 1, 128, 512]⟩
abbrev S1x1x16384x128 : Shape := ⟨4, ![1, 1, 16384, 128]⟩
abbrev S1x1x80x16384 : Shape := ⟨4, ![1, 1, 80, 16384]⟩
abbrev S1x64x512 : Shape := ⟨3, ![1, 64, 512]⟩
abbrev S1024x512 : Shape := ⟨2, ![1024, 512]⟩
abbrev S128x512 : Shape := ⟨2, ![128, 512]⟩
abbrev S1x512 : Shape := ⟨2, ![1, 512]⟩
abbrev S80x512 : Shape := ⟨2, ![80, 512]⟩
abbrev S1x1x512x128 : Shape := ⟨4, ![1, 1, 512, 128]⟩
abbrev S512x128 : Shape := ⟨2, ![512, 128]⟩
abbrev S512x512 : Shape := ⟨2, ![512, 512]⟩
abbrev S512 : Shape := ⟨1, ![512]⟩
abbrev S1x1x80x512 : Shape := ⟨4, ![1, 1, 80, 512]⟩
abbrev S64x512 : Shape := ⟨2, ![64, 512]⟩

abbrev nBuf : Space → Nat
  | .hbm => 27
  | .vmem => 11
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x8x32, .f32⟩
  | .hbm, ⟨2, _⟩ => ⟨S2x16384x8x64, .f32⟩
  | .hbm, ⟨3, _⟩ => ⟨S2x16384x32, .f32⟩
  | .hbm, ⟨4, _⟩ => ⟨S2x16384x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x16384x8x32, .f32⟩
  | .hbm, ⟨11, _⟩ => ⟨S2x16384x8x128, .f32⟩
  | .hbm, ⟨12, _⟩ => ⟨S2x16384x8x128, .f32⟩
  | .hbm, ⟨13, _⟩ => ⟨S2x16384x8x128, .f32⟩
  | .hbm, ⟨14, _⟩ => ⟨S2x16384x8x128, .bf16⟩
  | .hbm, ⟨15, _⟩ => ⟨S2x8x128x16384, .bf16⟩
  | .hbm, ⟨16, _⟩ => ⟨S2x16384x1x32, .f32⟩
  | .hbm, ⟨17, _⟩ => ⟨S2x16384x8x32, .f32⟩
  | .hbm, ⟨18, _⟩ => ⟨S2x16384x8x128, .f32⟩
  | .hbm, ⟨19, _⟩ => ⟨S2x16384x8x128, .bf16⟩
  | .hbm, ⟨20, _⟩ => ⟨S2x8x16384x128, .bf16⟩
  | .hbm, ⟨21, _⟩ => ⟨S_, .f32⟩
  | .hbm, ⟨22, _⟩ => ⟨S2x16384x8x16, .f32⟩
  | .hbm, ⟨23, _⟩ => ⟨S2x16384x8x80, .f32⟩
  | .hbm, ⟨24, _⟩ => ⟨S2x16384x8x80, .bf16⟩
  | .hbm, ⟨25, _⟩ => ⟨S2x8x80x16384, .bf16⟩
  | .hbm, ⟨26, _⟩ => ⟨S2x512x16384, .bf16⟩
  | .local _ .vmem, ⟨0, _⟩ => ⟨S1x1x128x512, .bf16⟩
  | .local _ .vmem, ⟨1, _⟩ => ⟨S1x1x128x512, .bf16⟩
  | .local _ .vmem, ⟨2, _⟩ => ⟨S1x1x16384x128, .bf16⟩
  | .local _ .vmem, ⟨3, _⟩ => ⟨S1x1x16384x128, .bf16⟩
  | .local _ .vmem, ⟨4, _⟩ => ⟨S1x1x80x16384, .bf16⟩
  | .local _ .vmem, ⟨5, _⟩ => ⟨S1x1x80x16384, .bf16⟩
  | .local _ .vmem, ⟨6, _⟩ => ⟨S1x64x512, .bf16⟩
  | .local _ .vmem, ⟨7, _⟩ => ⟨S1x64x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S2x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 32], ![false, false, false]⟩

def k0_mult1 : BitVec 32 :=
  let c0_i32 : BitVec 32 := 0#32
  c0_i32
def k0_mult2 : BitVec 32 :=
  let c512_i32 : BitVec 32 := 512#32
  c512_i32
def k0_mult3 : BitVec 32 :=
  let c1024_i32 : BitVec 32 := 1024#32
  c1024_i32
def k0_mult4 : BitVec 32 :=
  let c1536_i32 : BitVec 32 := 1536#32
  c1536_i32
@[reducible] def k0_t1_loop : Scf.Loop 32 :=
  let c0_i32_31 : BitVec 32 := 0#32
  let c4_i32 : BitVec 32 := 4#32
  let v48 : BitVec 32 := Scalar.addi c0_i32_31 c4_i32
  let c1_i32 : BitVec 32 := 1#32
  ⟨c0_i32_31, v48, c1_i32⟩
def k0_mult5 (k0_t1 : Fin k0_t1_loop.trips) : BitVec 32 :=
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let c2_i32 : BitVec 32 := 2#32
  let v213 : BitVec 32 := Scalar.addi v212 c2_i32
  let c1024_i32_118 : BitVec 32 := 1024#32
  let v219 : BitVec 32 := Scalar.muli v213 c1024_i32_118
  let c0_i32_119 : BitVec 32 := 0#32
  let v220 : BitVec 32 := Scalar.addi v219 c0_i32_119
  v220
def k0_off1 (k0_t1 : Fin k0_t1_loop.trips) (c2_i32 : BitVec 32) (c0_i32_119 : BitVec 32) : Fin 4 → Nat :=
  let c0_120 : Index := 0#32
  let c0_121 : Index := 0#32
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let v213 : BitVec 32 := Scalar.addi v212 c2_i32
  let c1024_i32_118 : BitVec 32 := 1024#32
  let v219 : BitVec 32 := Scalar.muli v213 c1024_i32_118
  let v220 : BitVec 32 := Scalar.addi v219 c0_i32_119
  let v221 : BitVec 32 := v220
  let v222 : Index := Scalar.indexCast v221
  let c0_122 : Index := 0#32
  ![0, 0, v222.toNat, 0]
def k0_mult6 (k0_t1 : Fin k0_t1_loop.trips) : BitVec 32 :=
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let c1024_i32_127 : BitVec 32 := 1024#32
  let v232 : BitVec 32 := Scalar.muli v212 c1024_i32_127
  let c0_i32_128 : BitVec 32 := 0#32
  let v233 : BitVec 32 := Scalar.addi v232 c0_i32_128
  v233
def k0_off2 (k0_t1 : Fin k0_t1_loop.trips) (c0_i32_128 : BitVec 32) : Fin 4 → Nat :=
  let c0_131 : Index := 0#32
  let c0_132 : Index := 0#32
  let c0_133 : Index := 0#32
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let c1024_i32_127 : BitVec 32 := 1024#32
  let v232 : BitVec 32 := Scalar.muli v212 c1024_i32_127
  let v233 : BitVec 32 := Scalar.addi v232 c0_i32_128
  let v234 : BitVec 32 := v233
  let v240 : Index := Scalar.indexCast v234
  ![0, 0, 0, v240.toNat]
def k0_mult7 (k0_t1 : Fin k0_t1_loop.trips) : BitVec 32 :=
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let c2_i32 : BitVec 32 := 2#32
  let v213 : BitVec 32 := Scalar.addi v212 c2_i32
  let c1024_i32_135 : BitVec 32 := 1024#32
  let v245 : BitVec 32 := Scalar.muli v213 c1024_i32_135
  let c512_i32_136 : BitVec 32 := 512#32
  let v246 : BitVec 32 := Scalar.addi v245 c512_i32_136
  v246
def k0_mult8 (k0_t1 : Fin k0_t1_loop.trips) : BitVec 32 :=
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let c1024_i32_144 : BitVec 32 := 1024#32
  let v258 : BitVec 32 := Scalar.muli v212 c1024_i32_144
  let c512_i32_145 : BitVec 32 := 512#32
  let v259 : BitVec 32 := Scalar.addi v258 c512_i32_145
  v259
def k0_mult9 (k0_t1 : Fin k0_t1_loop.trips) : BitVec 32 :=
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let c3_i32_152 : BitVec 32 := 3#32
  let v271 : BitVec 32 := Scalar.addi v212 c3_i32_152
  let c1024_i32_154 : BitVec 32 := 1024#32
  let v278 : BitVec 32 := Scalar.muli v271 c1024_i32_154
  let c0_i32_155 : BitVec 32 := 0#32
  let v279 : BitVec 32 := Scalar.addi v278 c0_i32_155
  v279
def k0_mult10 (k0_t1 : Fin k0_t1_loop.trips) : BitVec 32 :=
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let c1_i32_153 : BitVec 32 := 1#32
  let v272 : BitVec 32 := Scalar.addi v212 c1_i32_153
  let c1024_i32_163 : BitVec 32 := 1024#32
  let v291 : BitVec 32 := Scalar.muli v272 c1024_i32_163
  let c0_i32_164 : BitVec 32 := 0#32
  let v292 : BitVec 32 := Scalar.addi v291 c0_i32_164
  v292
def k0_off3 (k0_t1 : Fin k0_t1_loop.trips) (c1_i32_153 : BitVec 32) (c0_i32_164 : BitVec 32) : Fin 4 → Nat :=
  let c0_167 : Index := 0#32
  let c0_168 : Index := 0#32
  let c0_169 : Index := 0#32
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let v272 : BitVec 32 := Scalar.addi v212 c1_i32_153
  let c1024_i32_163 : BitVec 32 := 1024#32
  let v291 : BitVec 32 := Scalar.muli v272 c1024_i32_163
  let v292 : BitVec 32 := Scalar.addi v291 c0_i32_164
  let v293 : BitVec 32 := v292
  let v299 : Index := Scalar.indexCast v293
  ![0, 0, 0, v299.toNat]
def k0_mult11 (k0_t1 : Fin k0_t1_loop.trips) : BitVec 32 :=
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let c3_i32_152 : BitVec 32 := 3#32
  let v271 : BitVec 32 := Scalar.addi v212 c3_i32_152
  let c1024_i32_171 : BitVec 32 := 1024#32
  let v304 : BitVec 32 := Scalar.muli v271 c1024_i32_171
  let c512_i32_172 : BitVec 32 := 512#32
  let v305 : BitVec 32 := Scalar.addi v304 c512_i32_172
  v305
def k0_mult12 (k0_t1 : Fin k0_t1_loop.trips) : BitVec 32 :=
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let c1_i32_153 : BitVec 32 := 1#32
  let v272 : BitVec 32 := Scalar.addi v212 c1_i32_153
  let c1024_i32_180 : BitVec 32 := 1024#32
  let v317 : BitVec 32 := Scalar.muli v272 c1024_i32_180
  let c512_i32_181 : BitVec 32 := 512#32
  let v318 : BitVec 32 := Scalar.addi v317 c512_i32_181
  v318
def k0_mult13 (k0_t1 : Fin k0_t1_loop.trips) : BitVec 32 :=
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let c4_i32_188 : BitVec 32 := 4#32
  let v330 : BitVec 32 := Scalar.addi v212 c4_i32_188
  let c1024_i32_190 : BitVec 32 := 1024#32
  let v337 : BitVec 32 := Scalar.muli v330 c1024_i32_190
  let c0_i32_191 : BitVec 32 := 0#32
  let v338 : BitVec 32 := Scalar.addi v337 c0_i32_191
  v338
def k0_mult14 (k0_t1 : Fin k0_t1_loop.trips) : BitVec 32 :=
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let c2_i32_189 : BitVec 32 := 2#32
  let v331 : BitVec 32 := Scalar.addi v212 c2_i32_189
  let c1024_i32_199 : BitVec 32 := 1024#32
  let v350 : BitVec 32 := Scalar.muli v331 c1024_i32_199
  let c0_i32_200 : BitVec 32 := 0#32
  let v351 : BitVec 32 := Scalar.addi v350 c0_i32_200
  v351
def k0_mult15 (k0_t1 : Fin k0_t1_loop.trips) : BitVec 32 :=
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let c4_i32_188 : BitVec 32 := 4#32
  let v330 : BitVec 32 := Scalar.addi v212 c4_i32_188
  let c1024_i32_207 : BitVec 32 := 1024#32
  let v363 : BitVec 32 := Scalar.muli v330 c1024_i32_207
  let c512_i32_208 : BitVec 32 := 512#32
  let v364 : BitVec 32 := Scalar.addi v363 c512_i32_208
  v364
def k0_mult16 (k0_t1 : Fin k0_t1_loop.trips) : BitVec 32 :=
  let c3_i32 : BitVec 32 := 3#32
  let c1_i32_116 : BitVec 32 := 1#32
  let c0_i32_31 : BitVec 32 := 0#32
  let c1_i32 : BitVec 32 := 1#32
  let arg10 : BitVec 32 := Scf.iv c0_i32_31 c1_i32 k0_t1
  let v210 : BitVec 32 := Scalar.muli c1_i32_116 arg10
  let c0_i32_117 : BitVec 32 := 0#32
  let v211 : BitVec 32 := Scalar.addi v210 c0_i32_117
  let v212 : BitVec 32 := Scalar.muli c3_i32 v211
  let c2_i32_189 : BitVec 32 := 2#32
  let v331 : BitVec 32 := Scalar.addi v212 c2_i32_189
  let c1024_i32_216 : BitVec 32 := 1024#32
  let v376 : BitVec 32 := Scalar.muli v331 c1024_i32_216
  let c512_i32_217 : BitVec 32 := 512#32
  let v377 : BitVec 32 := Scalar.addi v376 c512_i32_217
  v377
def k0_mult17 : BitVec 32 :=
  let c14336_i32 : BitVec 32 := 14336#32
  c14336_i32
def k0_mult18 : BitVec 32 :=
  let c12288_i32 : BitVec 32 := 12288#32
  c12288_i32
def k0_mult19 : BitVec 32 :=
  let c14848_i32 : BitVec 32 := 14848#32
  c14848_i32
def k0_mult20 : BitVec 32 :=
  let c12800_i32 : BitVec 32 := 12800#32
  c12800_i32
def k0_mult21 : BitVec 32 :=
  let c15360_i32 : BitVec 32 := 15360#32
  c15360_i32
def k0_mult22 : BitVec 32 :=
  let c13312_i32 : BitVec 32 := 13312#32
  c13312_i32
def k0_mult23 : BitVec 32 :=
  let c15872_i32 : BitVec 32 := 15872#32
  c15872_i32
def k0_mult24 : BitVec 32 :=
  let c13824_i32 : BitVec 32 := 13824#32
  c13824_i32
def k0_mult25 : BitVec 32 :=
  let c14336_i32_85 : BitVec 32 := 14336#32
  c14336_i32_85
def k0_mult26 : BitVec 32 :=
  let c14848_i32_92 : BitVec 32 := 14848#32
  c14848_i32_92
def k0_mult27 : BitVec 32 :=
  let c15360_i32_99 : BitVec 32 := 15360#32
  c15360_i32_99
def k0_mult28 : BitVec 32 :=
  let c15872_i32_106 : BitVec 32 := 15872#32
  c15872_i32_106
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x80x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x16384x8x64 : Shape := ⟨4, ![2, 16384, 8, 64]⟩
abbrev S2x16384x8x32 : Shape := ⟨4, ![2, 16384, 8, 32]⟩
abbrev S2x16384x32 : Shape := ⟨3, ![2, 16384, 32]⟩
abbrev S2x8x16384x16384 : Shape := ⟨4, ![2, 8, 16384, 16384]⟩
abbrev S2x16384x16384x8 : Shape := ⟨4, ![2, 16384, 16384, 8]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S2x16384x512 : Shape := ⟨3, ![2, 16384, 512]⟩
abbrev S2x512x16384 : Shape := ⟨3, ![2, 512, 16384]⟩

abbrev nBuf : Space → Nat
  | .hbm => 31
  | .vmem => 0
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x8x32, .f32⟩
  | .hbm, ⟨2, _⟩ => ⟨S2x16384x8x64, .f32⟩
  | .hbm, ⟨3, _⟩ => ⟨S2x16384x32, .f32⟩
  | .hbm, ⟨4, _⟩ => ⟨S2x16384x8x64, .f32⟩
  | .hbm, ⟨5, _⟩ => ⟨S2x8x16384x16384, .f32⟩
  | .hbm, ⟨6, _⟩ => ⟨S2x16384x16384x8, .f32⟩
  | .hbm, ⟨7, _⟩ => ⟨S2x8x16384x16384, .f32⟩
  | .hbm, ⟨8, _⟩ => ⟨S2x8x16384x16384, .f32⟩
  | .hbm, ⟨9, _⟩ => ⟨S_, .f32⟩
  | .hbm, ⟨10, _⟩ => ⟨S2x8x16384x16384, .f32⟩
  | .hbm, ⟨11, _⟩ => ⟨S2x8x16384x16384, .f32⟩
  | .hbm, ⟨12, _⟩ => ⟨S_, .f32⟩
  | .hbm, ⟨13, _⟩ => ⟨S2x8x16384, .f32⟩
  | .hbm, ⟨14, _⟩ => ⟨S_, .f32⟩
  | .hbm, ⟨15, _⟩ => ⟨S2x8x16384, .f32⟩
  | .hbm, ⟨16, _⟩ => ⟨S2x8x16384, .f32⟩
  | .hbm, ⟨17, _⟩ => ⟨S2x8x16384x1, .f32⟩
  | .hbm, ⟨18, _⟩ => ⟨S2x8x16384x16384, .f32⟩
  | .hbm, ⟨19, _⟩ => ⟨S2x8x16384x16384, .f32⟩
  | .hbm, ⟨20, _⟩ => ⟨S2x8x16384x16384, .f32⟩
  | .hbm, ⟨21, _⟩ => ⟨S_, .f32⟩
  | .hbm, ⟨22, _⟩ => ⟨S2x8x16384, .f32⟩
  | .hbm, ⟨23, _⟩ => ⟨S2x8x16384x1, .f32⟩
  | .hbm, ⟨24, _⟩ => ⟨S2x8x16384x16384, .f32⟩
  | .hbm, ⟨25, _⟩ => ⟨S2x8x16384x16384, .f32⟩
  | .hbm, ⟨26, _⟩ => ⟨S2x8x64x16384, .f32⟩
  | .hbm, ⟨27, _⟩ => ⟨S2x16384x8x64, .f32⟩
  | .hbm, ⟨28, _⟩ => ⟨S2x16384x512, .f32⟩
  | .hbm, ⟨29, _⟩ => ⟨S2x512x16384, .f32⟩
  | .hbm, ⟨30, _⟩ => ⟨S2x512x16384, .bf16⟩
  | _, _ => ⟨S2x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Experts.lean ====
abbrev S32768x1024 : Shape := ⟨2, ![32768, 1024]⟩
abbrev S32x2x1024 : Shape := ⟨3, ![32, 2, 1024]⟩
abbrev S1024 : Shape := ⟨1, ![1024]⟩
abbrev S32x1024x256 : Shape := ⟨3, ![32, 1024, 256]⟩
abbrev S32x256x1024 : Shape := ⟨3, ![32, 256, 1024]⟩
abbrev S_ : Shape := ⟨0, ![]⟩
abbrev S32x4x1024 : Shape := ⟨3, ![32, 4, 1024]⟩
abbrev S32x8x1024 : Shape := ⟨3, ![32, 8, 1024]⟩
abbrev S1x1024 : Shape := ⟨2, ![1, 1024]⟩
abbrev S1024x1024 : Shape := ⟨2, ![1024, 1024]⟩
abbrev S1x8x1024 : Shape := ⟨3, ![1, 8, 1024]⟩
abbrev S2x1024x256 : Shape := ⟨3, ![2, 1024, 256]⟩
abbrev S2x256x1024 : Shape := ⟨3, ![2, 256, 1024]⟩
abbrev S2688x1024 : Shape := ⟨2, ![2688, 1024]⟩
abbrev S2688x1 : Shape := ⟨2, ![2688, 1]⟩
abbrev S8x1024 : Shape := ⟨2, ![8, 1024]⟩
abbrev S448x1024 : Shape := ⟨2, ![448, 1024]⟩
abbrev S448 : Shape := ⟨1, ![448]⟩
abbrev S448x1 : Shape := ⟨2, ![448, 1]⟩
abbrev S1 : Shape := ⟨1, ![1]⟩
abbrev S128x1024 : Shape := ⟨2, ![128, 1024]⟩
abbrev S1x1024x256 : Shape := ⟨3, ![1, 1024, 256]⟩
abbrev S1024x256 : Shape := ⟨2, ![1024, 256]⟩
abbrev S128x256 : Shape := ⟨2, ![128, 256]⟩
abbrev S1x256x1024 : Shape := ⟨3, ![1, 256, 1024]⟩
abbrev S256x1024 : Shape := ⟨2, ![256, 1024]⟩
abbrev S128x1 : Shape := ⟨2, ![128, 1]⟩
abbrev S1024x1 : Shape := ⟨2, ![1024, 1]⟩

abbrev nBuf : Space → Nat
  | .hbm => 19
  | .vmem => 19
  | .smem => 2
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32x2x1024, .i32⟩
  | .hbm, ⟨3, _⟩ => ⟨S32x2x1024, .i32⟩
  | .hbm, ⟨4, _⟩ => ⟨S32x2x1024, .f32⟩
  | .hbm, ⟨5, _⟩ => ⟨S32x1024x256, .f32⟩
  | .hbm, ⟨6, _⟩ => ⟨S32x1024x256, .f32⟩
  | .hbm, ⟨7, _⟩ => ⟨S32x256x1024, .f32⟩
  | .hbm, ⟨8, _⟩ => ⟨S1024, .f32⟩
  | .hbm, ⟨9, _⟩ => ⟨S32x2x1024, .f32⟩
  | .hbm, ⟨10, _⟩ => ⟨S_, .f32⟩
  | .hbm, ⟨11, _⟩ => ⟨S32x4x1024, .f32⟩
  | .hbm, ⟨12, _⟩ => ⟨S32x8x1024, .f32⟩
  | .hbm, ⟨13, _⟩ => ⟨S32768x1024, .bf16⟩
  | .hbm, ⟨14, _⟩ => ⟨S32x1024x256, .bf16⟩
  | .hbm, ⟨15, _⟩ => ⟨S32x1024x256, .bf16⟩
  | .hbm, ⟨16, _⟩ => ⟨S32x256x1024, .bf16⟩
  | .hbm, ⟨17, _⟩ => ⟨S1x1024, .f32⟩
  | .hbm, ⟨18, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x8x1024, .f32⟩
  | .local _ .vmem, ⟨3, _⟩ => ⟨S1x8x1024, .f32⟩
  | .local _ .vmem, ⟨4, _⟩ => ⟨S2x1024x256, .bf16⟩
  | .local _ .vmem, ⟨5, _⟩ => ⟨S2x1024x256, .bf16⟩
  | .local _ .vmem, ⟨6, _⟩ => ⟨S2x1024x256, .bf16⟩
  | .local _ .vmem, ⟨7, _⟩ => ⟨S2x1024x256, .bf16⟩
  | .local _ .vmem, ⟨8, _⟩ => ⟨S2x256x1024, .bf16⟩
  | .local _ .vmem, ⟨9, _⟩ => ⟨S2x256x1024, .bf16⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S2688x1024, .bf16⟩
  | .local _ .vmem, ⟨16, _⟩ => ⟨S2688x1024, .bf16⟩
  | .local _ .vmem, ⟨17, _⟩ => ⟨S2688x1024, .bf16⟩
  | .local _ .vmem, ⟨18, _⟩ => ⟨S2688x1, .f32⟩
  | .local _ .smem, ⟨0, _⟩ => ⟨S1024, .i32⟩
  | .local _ .smem, ⟨1, _⟩ => ⟨S1024, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![32, 16], ![false, false]⟩

abbrev pre0 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v3 : BitVec 32 := Scalar.muli arg0 c32_i32
  let c2_i32 : BitVec 32 := 2#32
  let arg1 : BitVec 32 := BitVec.ofNat 32 (i 1).val
  let v4 : BitVec 32 := Scalar.muli c2_i32 arg1
  let v5 : BitVec 32 := Scalar.addi v3 v4
  let v6 : Index := Scalar.indexCast v5
  ![v6.toNat]
def k0_off2 (i : grid0.Coords) : Fin 1 → Nat :=
  let arg0 : BitVec 32 := BitVec.ofNat 32 (i 0).val
  let c32_i32 : BitVec 32 := 32#32
  let v3 : BitVec 32 := Scalar.muli arg0 c32_i32
  let c2_i32 : BitVec 32 := 2#32
  let arg1 : BitVec 32 := BitVec.ofNat 32 (i 1).val
  let v4 : BitVec 32 := Scalar.muli c2_i32 arg1
  let v5 : BitVec 32 := Scalar.addi v3 v4
  let c1_i32 : BitVec 32 := 1#32
  let v8 : BitVec 32 := Scalar.addi v5 c1_i32
  let v9 : Index := Scalar.indexCast v8
  ![v9.toNat]
def k0_mult1 (v7 : BitVec 32) : BitVec 32 :=
  let c0_i32_24 : BitVec 32 := 0#32
  let v63 : BitVec 32 := Scalar.addi v7 c0_i32_24
  v63
def k0_cond2 (v12 : BitVec 32) : BitVec 1 :=
  let c128_i32 : BitVec 32 := 128#32
  let v13 : BitVec 32 := Scalar.addi v12 c128_i32
  let c1_i32_1 : BitVec 32 := 1#32
  let v14 : BitVec 32 := Scalar.subi v13 c1_i32_1
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32_2 : BitVec 32 := 128#32
  let c0_i32_5 : BitVec 32 := 0#32
  let v21 : BitVec 1 := Scalar.cmpi .sgt c128_i32_2 c0_i32_5
  let v22 : BitVec 32 := Scalar.extui v21
  let c0_i32_6 : BitVec 32 := 0#32
  let v23 : BitVec 1 := Scalar.cmpi .slt c128_i32_2 c0_i32_6
  let v24 : BitVec 32 := Scalar.extui v23
  let v25 : BitVec 32 := Scalar.subi v22 v24
  let v26 : BitVec 1 := Scalar.cmpi .ne v20 v25
  let v27 : BitVec 32 := Scalar.remsi v14 c128_i32_2
  let c0_i32_7 : BitVec 32 := 0#32
  let v28 : BitVec 1 := Scalar.cmpi .ne v27 c0_i32_7
  let v29 : BitVec 1 := Scalar.andi v26 v28
  let v15 : BitVec 32 := Scalar.divsi v14 c128_i32_2
  let c1_i32_8 : BitVec 32 := 1#32
  let v30 : BitVec 32 := Scalar.subi v15 c1_i32_8
  let v31 : BitVec 32 := Scalar.select v29 v30 v15
  let c1_i32_19 : BitVec 32 := 1#32
  let v54 : BitVec 1 := Scalar.cmpi .sle v31 c1_i32_19
  let v55 : BitVec 32 := Scalar.extui v54
  let c0_i32_20 : BitVec 32 := 0#32
  let v56 : BitVec 1 := Scalar.cmpi .ne v55 c0_i32_20
  v56

def k0_off3 (v7 : BitVec 32) : Fin 2 → Nat :=
  let c0_i32_24 : BitVec 32 := 0#32
  let v63 : BitVec 32 := Scalar.addi v7 c0_i32_24
  let v64 : BitVec 32 := v63
  let v65 : Index := Scalar.indexCast v64
  let c0 : Index := 0#32
  ![v65.toNat, 0]
def k0_off4 (v7 : BitVec 32) : Fin 2 → Nat :=
  let c0_i32_24 : BitVec 32 := 0#32
  let v63 : BitVec 32 := Scalar.addi v7 c0_i32_24
  let v64 : BitVec 32 := v63
  let v80 : Index := Scalar.indexCast v64
  let c0_36 : Index := 0#32
  ![v80.toNat, 0]
def k0_mult2 (v10 : BitVec 32) : BitVec 32 :=
  let c0_i32_38 : BitVec 32 := 0#32
  let v89 : BitVec 32 := Scalar.addi v10 c0_i32_38
  v89
def k0_off5 (v10 : BitVec 32) : Fin 2 → Nat :=
  let c0_i32_38 : BitVec 32 := 0#32
  let v89 : BitVec 32 := Scalar.addi v10 c0_i32_38
  let v90 : BitVec 32 := v89
  let v91 : Index := Scalar.indexCast v90
  let c0_39 : Index := 0#32
  ![v91.toNat, 0]
def k0_off6 (v10 : BitVec 32) : Fin 2 → Nat :=
  let c0_i32_38 : BitVec 32 := 0#32
  let v89 : BitVec 32 := Scalar.addi v10 c0_i32_38
  let v90 : BitVec 32 := v89
  let v106 : Index := Scalar.indexCast v90
  let c0_51 : Index := 0#32
  ![v106.toNat, 0]
@[reducible] def k0_t1_loop (v34 : BitVec 32) : Scf.Loop 32 :=
  let c1_i32_54 : BitVec 32 := 1#32
  let c128_i32_10 : BitVec 32 := 128#32
  let v35 : BitVec 32 := Scalar.addi v34 c128_i32_10
  let c1_i32_11 : BitVec 32 := 1#32
  let v36 : BitVec 32 := Scalar.subi v35 c1_i32_11
  let c0_i32_13 : BitVec 32 := 0#32
  let v38 : BitVec 1 := Scalar.cmpi .sgt v36 c0_i32_13
  let v39 : BitVec 32 := Scalar.extui v38
  let c0_i32_14 : BitVec 32 := 0#32
  let v40 : BitVec 1 := Scalar.cmpi .slt v36 c0_i32_14
  let v41 : BitVec 32 := Scalar.extui v40
  let v42 : BitVec 32 := Scalar.subi v39 v41
  let c128_i32_12 : BitVec 32 := 128#32
  let c0_i32_15 : BitVec 32 := 0#32
  let v43 : BitVec 1 := Scalar.cmpi .sgt c128_i32_12 c0_i32_15
  let v44 : BitVec 32 := Scalar.extui v43
  let c0_i32_16 : BitVec 32 := 0#32
  let v45 : BitVec 1 := Scalar.cmpi .slt c128_i32_12 c0_i32_16
  let v46 : BitVec 32 := Scalar.extui v45
  let v47 : BitVec 32 := Scalar.subi v44 v46
  let v48 : BitVec 1 := Scalar.cmpi .ne v42 v47
  let v49 : BitVec 32 := Scalar.remsi v36 c128_i32_12
  let c0_i32_17 : BitVec 32 := 0#32
  let v50 : BitVec 1 := Scalar.cmpi .ne v49 c0_i32_17
  let v51 : BitVec 1 := Scalar.andi v48 v50
  let v37 : BitVec 32 := Scalar.divsi v36 c128_i32_12
  let c1_i32_18 : BitVec 32 := 1#32
  let v52 : BitVec 32 := Scalar.subi v37 c1_i32_18
  let v53 : BitVec 32 := Scalar.select v51 v52 v37
  let v115 : BitVec 32 := Scalar.subi v53 c1_i32_54
  let c1_i32_55 : BitVec 32 := 1#32
  let v117 : BitVec 32 := Scalar.divsi v115 c1_i32_55
  let v118 : BitVec 32 := Scalar.muli v117 c1_i32_55
  let v119 : BitVec 32 := Scalar.addi c1_i32_54 v118
  let c1_i32_56 : BitVec 32 := 1#32
  ⟨c1_i32_54, v119, c1_i32_56⟩

def k0_mult3 (v10 : BitVec 32) (v34 : BitVec 32) (k0_t1 : Fin (k0_t1_loop v34).trips) : BitVec 32 :=
  let c1_i32_54 : BitVec 32 := 1#32
  let c1_i32_56 : BitVec 32 := 1#32
  let arg16 : BitVec 32 := Scf.iv c1_i32_54 c1_i32_56 k0_t1
  let c128_i32_58 : BitVec 32 := 128#32
  let v120 : BitVec 32 := Scalar.muli arg16 c128_i32_58
  let v121 : BitVec 32 := Scalar.addi v10 v120
  v121
def k0_off7 (v10 : BitVec 32) (v34 : BitVec 32) (k0_t1 : Fin (k0_t1_loop v34).trips) : Fin 2 → Nat :=
  let c1_i32_54 : BitVec 32 := 1#32
  let c1_i32_56 : BitVec 32 := 1#32
  let arg16 : BitVec 32 := Scf.iv c1_i32_54 c1_i32_56 k0_t1
  let c128_i32_58 : BitVec 32 := 128#32
  let v120 : BitVec 32 := Scalar.muli arg16 c128_i32_58
  let v121 : BitVec 32 := Scalar.addi v10 v120
  let v122 : BitVec 32 := v121
  let v123 : Index := Scalar.indexCast v122
  let c0_59 : Index := 0#32
  ![v123.toNat, 0]
def k0_off8 (v10 : BitVec 32) (v34 : BitVec 32) (k0_t1 : Fin (k0_t1_loop v34).trips) : Fin 2 → Nat :=
  let c1_i32_54 : BitVec 32 := 1#32
  let c1_i32_56 : BitVec 32 := 1#32
  let arg16 : BitVec 32 := Scf.iv c1_i32_54 c1_i32_56 k0_t1
  let c128_i32_58 : BitVec 32 := 128#32
  let v120 : BitVec 32 := Scalar.muli arg16 c128_i32_58
  let v121 : BitVec 32 := Scalar.addi v10 v120
  let v122 : BitVec 32 := v121
  let v138 : Index := Scalar.indexCast v122
  let c0_72 : Index := 0#32
  ![v138.toNat, 0]
@[reducible] def k0_t2_loop (v34 : BitVec 32) : Scf.Loop 32 :=
  let c1_i32_54 : BitVec 32 := 1#32
  let c128_i32_10 : BitVec 32 := 128#32
  let v35 : BitVec 32 := Scalar.addi v34 c128_i32_10
  let c1_i32_11 : BitVec 32 := 1#32
  let v36 : BitVec 32 := Scalar.subi v35 c1_i32_11
  let c0_i32_13 : BitVec 32 := 0#32
  let v38 : BitVec 1 := Scalar.cmpi .sgt v36 c0_i32_13
  let v39 : BitVec 32 := Scalar.extui v38
  let c0_i32_14 : BitVec 32 := 0#32
  let v40 : BitVec 1 := Scalar.cmpi .slt v36 c0_i32_14
  let v41 : BitVec 32 := Scalar.extui v40
  let v42 : BitVec 32 := Scalar.subi v39 v41
  let c128_i32_12 : BitVec 32 := 128#32
  let c0_i32_15 : BitVec 32 := 0#32
  let v43 : BitVec 1 := Scalar.cmpi .sgt c128_i32_12 c0_i32_15
  let v44 : BitVec 32 := Scalar.extui v43
  let c0_i32_16 : BitVec 32 := 0#32
  let v45 : BitVec 1 := Scalar.cmpi .slt c128_i32_12 c0_i32_16
  let v46 : BitVec 32 := Scalar.extui v45
  let v47 : BitVec 32 := Scalar.subi v44 v46
  let v48 : BitVec 1 := Scalar.cmpi .ne v42 v47
  let v49 : BitVec 32 := Scalar.remsi v36 c128_i32_12
  let c0_i32_17 : BitVec 32 := 0#32
  let v50 : BitVec 1 := Scalar.cmpi .ne v49 c0_i32_17
  let v51 : BitVec 1 := Scalar.andi v48 v50
  let v37 : BitVec 32 := Scalar.divsi v36 c128_i32_12
  let c1_i32_18 : BitVec 32 := 1#32
  let v52 : BitVec 32 := Scalar.subi v37 c1_i32_18
  let v53 : BitVec 32 := Scalar.select v51 v52 v37
  let v115 : BitVec 32 := Scalar.subi v53 c1_i32_54
  let c1_i32_55 : BitVec 32 := 1#32
  let v117 : BitVec 32 := Scalar.divsi v115 c1_i32_55
  let v118 : BitVec 32 := Scalar.muli v117 c1_i32_55
  let v119 : BitVec 32 := Scalar.addi c1_i32_54 v118
  let v116 : BitVec 32 := Scalar.addi c1_i32_54 v115
  let c1_i32_57 : BitVec 32 := 1#32
  ⟨v119, v116, c1_i32_57⟩
def k0_mult4 (v10 : BitVec 32) (v34 : BitVec 32) (k0_t2 : Fin (k0_t2_loop v34).trips) : BitVec 32 :=
  let c1_i32_54 : BitVec 32 := 1#32
  let c128_i32_10 : BitVec 32 := 128#32
  let v35 : BitVec 32 := Scalar.addi v34 c128_i32_10
  let c1_i32_11 : BitVec 32 := 1#32
  let v36 : BitVec 32 := Scalar.subi v35 c1_i32_11
  let c0_i32_13 : BitVec 32 := 0#32
  let v38 : BitVec 1 := Scalar.cmpi .sgt v36 c0_i32_13
  let v39 : BitVec 32 := Scalar.extui v38
  let c0_i32_14 : BitVec 32 := 0#32
  let v40 : BitVec 1 := Scalar.cmpi .slt v36 c0_i32_14
  let v41 : BitVec 32 := Scalar.extui v40
  let v42 : BitVec 32 := Scalar.subi v39 v41
  let c128_i32_12 : BitVec 32 := 128#32
  let c0_i32_15 : BitVec 32 := 0#32
  let v43 : BitVec 1 := Scalar.cmpi .sgt c128_i32_12 c0_i32_15
  let v44 : BitVec 32 := Scalar.extui v43
  let c0_i32_16 : BitVec 32 := 0#32
  let v45 : BitVec 1 := Scalar.cmpi .slt c128_i32_12 c0_i32_16
  let v46 : BitVec 32 := Scalar.extui v45
  let v47 : BitVec 32 := Scalar.subi v44 v46
  let v48 : BitVec 1 := Scalar.cmpi .ne v42 v47
  let v49 : BitVec 32 := Scalar.remsi v36 c128_i32_12
  let c0_i32_17 : BitVec 32 := 0#32
  let v50 : BitVec 1 := Scalar.cmpi .ne v49 c0_i32_17
  let v51 : BitVec 1 := Scalar.andi v48 v50
  let v37 : BitVec 32 := Scalar.divsi v36 c128_i32_12
  let c1_i32_18 : BitVec 32 := 1#32
  let v52 : BitVec 32 := Scalar.subi v37 c1_i32_18
  let v53 : BitVec 32 := Scalar.select v51 v52 v37
  let v115 : BitVec 32 := Scalar.subi v53 c1_i32_54
  let c1_i32_55 : BitVec 32 := 1#32
  let v117 : BitVec 32 := Scalar.divsi v115 c1_i32_55
  let v118 : BitVec 32 := Scalar.muli v117 c1_i32_55
  let v119 : BitVec 32 := Scalar.addi c1_i32_54 v118
  let c1_i32_57 : BitVec 32 := 1#32
  let arg16 : BitVec 32 := Scf.iv v119 c1_i32_57 k0_t2
  let c128_i32_58 : BitVec 32 := 128#32
  let v120 : BitVec 32 := Scalar.muli arg16 c128_i32_58
  let v121 : BitVec 32 := Scalar.addi v10 v120
  v121
def k0_off9 (v10 : BitVec 32) (v34 : BitVec 32) (k0_t2 : Fin (k0_t2_loop v34).trips) : Fin 2 → Nat :=
  let c1_i32_54 : BitVec 32 := 1#32
  let c128_i32_10 : BitVec 32 := 128#32
  let v35 : BitVec 32 := Scalar.addi v34 c128_i32_10
  let c1_i32_11 : BitVec 32 := 1#32
  let v36 : BitVec 32 := Scalar.subi v35 c1_i32_11
  let c0_i32_13 : BitVec 32 := 0#32
  let v38 : BitVec 1 := Scalar.cmpi .sgt v36 c0_i32_13
  let v39 : BitVec 32 := Scalar.extui v38
  let c0_i32_14 : BitVec 32 := 0#32
  let v40 : BitVec 1 := Scalar.cmpi .slt v36 c0_i32_14
  let v41 : BitVec 32 := Scalar.extui v40
  let v42 : BitVec 32 := Scalar.subi v39 v41
  let c128_i32_12 : BitVec 32 := 128#32
  let c0_i32_15 : BitVec 32 := 0#32
  let v43 : BitVec 1 := Scalar.cmpi .sgt c128_i32_12 c0_i32_15
  let v44 : BitVec 32 := Scalar.extui v43
  let c0_i32_16 : BitVec 32 := 0#32
  let v45 : BitVec 1 := Scalar.cmpi .slt c128_i32_12 c0_i32_16
  let v46 : BitVec 32 := Scalar.extui v45
  let v47 : BitVec 32 := Scalar.subi v44 v46
  let v48 : BitVec 1 := Scalar.cmpi .ne v42 v47
  let v49 : BitVec 32 := Scalar.remsi v36 c128_i32_12
  let c0_i32_17 : BitVec 32 := 0#32
  let v50 : BitVec 1 := Scalar.cmpi .ne v49 c0_i32_17
  let v51 : BitVec 1 := Scalar.andi v48 v50
  let v37 : BitVec 32 := Scalar.divsi v36 c128_i32_12
  let c1_i32_18 : BitVec 32 := 1#32
  let v52 : BitVec 32 := Scalar.subi v37 c1_i32_18
  let v53 : BitVec 32 := Scalar.select v51 v52 v37
  let v115 : BitVec 32 := Scalar.subi v53 c1_i32_54
  let c1_i32_55 : BitVec 32 := 1#32
  let v117 : BitVec 32 := Scalar.divsi v115 c1_i32_55
  let v118 : BitVec 32 := Scalar.muli v117 c1_i32_55
  let v119 : BitVec 32 := Scalar.addi c1_i32_54 v118
  let c1_i32_57 : BitVec 32 := 1#32
  let arg16 : BitVec 32 := Scf.iv v119 c1_i32_57 k0_t2
  let c128_i32_58 : BitVec 32 := 128#32
  let v120 : BitVec 32 := Scalar.muli arg16 c128_i32_58
  let v121 : BitVec 32 := Scalar.addi v10 v120
  let v122 : BitVec 32 := v121
  let v123 : Index := Scalar.indexCast v122
  let c0_59 : Index := 0#32
  ![v123.toNat, 0]
def k0_off10 (v10 : BitVec 32) (v34 : BitVec 32) (k0_t2 : Fin (k0_t2_loop v34).trips) : Fin 2 → Nat :=
  let c1_i32_54 : BitVec 32 := 1#32
  let c128_i32_10 : BitVec 32 := 128#32
  let v35 : BitVec 32 := Scalar.addi v34 c128_i32_10
  let c1_i32_11 : BitVec 32 := 1#32
  let v36 : BitVec 32 := Scalar.subi v35 c1_i32_11
  let c0_i32_13 : BitVec 32 := 0#32
  let v38 : BitVec 1 := Scalar.cmpi .sgt v36 c0_i32_13
  let v39 : BitVec 32 := Scalar.extui v38
  let c0_i32_14 : BitVec 32 := 0#32
  let v40 : BitVec 1 := Scalar.cmpi .slt v36 c0_i32_14
  let v41 : BitVec 32 := Scalar.extui v40
  let v42 : BitVec 32 := Scalar.subi v39 v41
  let c128_i32_12 : BitVec 32 := 128#32
  let c0_i32_15 : BitVec 32 := 0#32
  let v43 : BitVec 1 := Scalar.cmpi .sgt c128_i32_12 c0_i32_15
  let v44 : BitVec 32 := Scalar.extui v43
  let c0_i32_16 : BitVec 32 := 0#32
  let v45 : BitVec 1 := Scalar.cmpi .slt c128_i32_12 c0_i32_16
  let v46 : BitVec 32 := Scalar.extui v45
  let v47 : BitVec 32 := Scalar.subi v44 v46
  let v48 : BitVec 1 := Scalar.cmpi .ne v42 v47
  let v49 : BitVec 32 := Scalar.remsi v36 c128_i32_12
  let c0_i32_17 : BitVec 32 := 0#32
  let v50 : BitVec 1 := Scalar.cmpi .ne v49 c0_i32_17
  let v51 : BitVec 1 := Scalar.andi v48 v50
  let v37 : BitVec 32 := Scalar.divsi v36 c128_i32_12
  let c1_i32_18 : BitVec 32 := 1#32
  let v52 : BitVec 32 := Scalar.subi v37 c1_i32_18
  let v53 : BitVec 32 := Scalar.select v51 v52 v37
  let v115 : BitVec 32 := Scalar.subi v53 c1_i32_54
  let c1_i32_55 : BitVec 32 := 1#32
  let v117 : BitVec 32 := Scalar.divsi v115 c1_i32_55
  let v118 : BitVec 32 := Scalar.muli v117 c1_i32_55
  let v119 : BitVec 32 := Scalar.addi c1_i32_54 v118
  let c1_i32_57 : BitVec 32 := 1#32
  let arg16 : BitVec 32 := Scf.iv v119 c1_i32_57 k0_t2
  let c128_i32_58 : BitVec 32 := 128#32
  let v120 : BitVec 32 := Scalar.muli arg16 c128_i32_58
  let v121 : BitVec 32 := Scalar.addi v10 v120
  let v122 : BitVec 32 := v121
  let v138 : Index := Scalar.indexCast v122
  let c0_72 : Index := 0#32
  ![v138.toNat, 0]
@[reducible] def k0_t3_loop (v12 : BitVec 32) : Scf.Loop 32 :=
  let c0_i32_25 : BitVec 32 := 0#32
  let c128_i32 : BitVec 32 := 128#32
  let v13 : BitVec 32 := Scalar.addi v12 c128_i32
  let c1_i32_1 : BitVec 32 := 1#32
  let v14 : BitVec 32 := Scalar.subi v13 c1_i32_1
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32_2 : BitVec 32 := 128#32
  let c0_i32_5 : BitVec 32 := 0#32
  let v21 : BitVec 1 := Scalar.cmpi .sgt c128_i32_2 c0_i32_5
  let v22 : BitVec 32 := Scalar.extui v21
  let c0_i32_6 : BitVec 32 := 0#32
  let v23 : BitVec 1 := Scalar.cmpi .slt c128_i32_2 c0_i32_6
  let v24 : BitVec 32 := Scalar.extui v23
  let v25 : BitVec 32 := Scalar.subi v22 v24
  let v26 : BitVec 1 := Scalar.cmpi .ne v20 v25
  let v27 : BitVec 32 := Scalar.remsi v14 c128_i32_2
  let c0_i32_7 : BitVec 32 := 0#32
  let v28 : BitVec 1 := Scalar.cmpi .ne v27 c0_i32_7
  let v29 : BitVec 1 := Scalar.andi v26 v28
  let v15 : BitVec 32 := Scalar.divsi v14 c128_i32_2
  let c1_i32_8 : BitVec 32 := 1#32
  let v30 : BitVec 32 := Scalar.subi v15 c1_i32_8
  let v31 : BitVec 32 := Scalar.select v29 v30 v15
  let v63 : BitVec 32 := Scalar.subi v31 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_27 : BitVec 32 := 1#32
  ⟨c0_i32_25, v67, c1_i32_27⟩
def k0_cond3 (v12 : BitVec 32) : BitVec 1 :=
  let c128_i32 : BitVec 32 := 128#32
  let v13 : BitVec 32 := Scalar.addi v12 c128_i32
  let c1_i32_1 : BitVec 32 := 1#32
  let v14 : BitVec 32 := Scalar.subi v13 c1_i32_1
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32_2 : BitVec 32 := 128#32
  let c0_i32_5 : BitVec 32 := 0#32
  let v21 : BitVec 1 := Scalar.cmpi .sgt c128_i32_2 c0_i32_5
  let v22 : BitVec 32 := Scalar.extui v21
  let c0_i32_6 : BitVec 32 := 0#32
  let v23 : BitVec 1 := Scalar.cmpi .slt c128_i32_2 c0_i32_6
  let v24 : BitVec 32 := Scalar.extui v23
  let v25 : BitVec 32 := Scalar.subi v22 v24
  let v26 : BitVec 1 := Scalar.cmpi .ne v20 v25
  let v27 : BitVec 32 := Scalar.remsi v14 c128_i32_2
  let c0_i32_7 : BitVec 32 := 0#32
  let v28 : BitVec 1 := Scalar.cmpi .ne v27 c0_i32_7
  let v29 : BitVec 1 := Scalar.andi v26 v28
  let v15 : BitVec 32 := Scalar.divsi v14 c128_i32_2
  let c1_i32_8 : BitVec 32 := 1#32
  let v30 : BitVec 32 := Scalar.subi v15 c1_i32_8
  let v31 : BitVec 32 := Scalar.select v29 v30 v15
  let c1_i32_21 : BitVec 32 := 1#32
  let v57 : BitVec 1 := Scalar.cmpi .sgt v31 c1_i32_21
  let v58 : BitVec 32 := Scalar.extui v57
  let c0_i32_22 : BitVec 32 := 0#32
  let v59 : BitVec 1 := Scalar.cmpi .ne v58 c0_i32_22
  v59

def k0_mult5 (v7 : BitVec 32) (v12 : BitVec 32) (k0_t3 : Fin (k0_t3_loop v12).trips) : BitVec 32 :=
  let c0_i32_25 : BitVec 32 := 0#32
  let c1_i32_27 : BitVec 32 := 1#32
  let arg16 : BitVec 32 := Scf.iv c0_i32_25 c1_i32_27 k0_t3
  let c128_i32_34 : BitVec 32 := 128#32
  let v73 : BitVec 32 := Scalar.muli arg16 c128_i32_34
  let v74 : BitVec 32 := Scalar.addi v7 v73
  v74
def k0_off11 (v7 : BitVec 32) (v12 : BitVec 32) (k0_t3 : Fin (k0_t3_loop v12).trips) : Fin 2 → Nat :=
  let c0_i32_25 : BitVec 32 := 0#32
  let c1_i32_27 : BitVec 32 := 1#32
  let arg16 : BitVec 32 := Scf.iv c0_i32_25 c1_i32_27 k0_t3
  let c128_i32_34 : BitVec 32 := 128#32
  let v73 : BitVec 32 := Scalar.muli arg16 c128_i32_34
  let v74 : BitVec 32 := Scalar.addi v7 v73
  let v75 : BitVec 32 := v74
  let v76 : Index := Scalar.indexCast v75
  let c0 : Index := 0#32
  ![v76.toNat, 0]
def k0_off12 (v7 : BitVec 32) (v12 : BitVec 32) (k0_t3 : Fin (k0_t3_loop v12).trips) : Fin 2 → Nat :=
  let c0_i32_25 : BitVec 32 := 0#32
  let c1_i32_27 : BitVec 32 := 1#32
  let arg16 : BitVec 32 := Scf.iv c0_i32_25 c1_i32_27 k0_t3
  let c128_i32_34 : BitVec 32 := 128#32
  let v73 : BitVec 32 := Scalar.muli arg16 c128_i32_34
  let v74 : BitVec 32 := Scalar.addi v7 v73
  let v75 : BitVec 32 := v74
  let v91 : Index := Scalar.indexCast v75
  let c0_46 : Index := 0#32
  ![v91.toNat, 0]
@[reducible] def k0_t4_loop (v12 : BitVec 32) : Scf.Loop 32 :=
  let c0_i32_25 : BitVec 32 := 0#32
  let c128_i32 : BitVec 32 := 128#32
  let v13 : BitVec 32 := Scalar.addi v12 c128_i32
  let c1_i32_1 : BitVec 32 := 1#32
  let v14 : BitVec 32 := Scalar.subi v13 c1_i32_1
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32_2 : BitVec 32 := 128#32
  let c0_i32_5 : BitVec 32 := 0#32
  let v21 : BitVec 1 := Scalar.cmpi .sgt c128_i32_2 c0_i32_5
  let v22 : BitVec 32 := Scalar.extui v21
  let c0_i32_6 : BitVec 32 := 0#32
  let v23 : BitVec 1 := Scalar.cmpi .slt c128_i32_2 c0_i32_6
  let v24 : BitVec 32 := Scalar.extui v23
  let v25 : BitVec 32 := Scalar.subi v22 v24
  let v26 : BitVec 1 := Scalar.cmpi .ne v20 v25
  let v27 : BitVec 32 := Scalar.remsi v14 c128_i32_2
  let c0_i32_7 : BitVec 32 := 0#32
  let v28 : BitVec 1 := Scalar.cmpi .ne v27 c0_i32_7
  let v29 : BitVec 1 := Scalar.andi v26 v28
  let v15 : BitVec 32 := Scalar.divsi v14 c128_i32_2
  let c1_i32_8 : BitVec 32 := 1#32
  let v30 : BitVec 32 := Scalar.subi v15 c1_i32_8
  let v31 : BitVec 32 := Scalar.select v29 v30 v15
  let v63 : BitVec 32 := Scalar.subi v31 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let v64 : BitVec 32 := Scalar.addi c0_i32_25 v63
  let c1_i32_28 : BitVec 32 := 1#32
  ⟨v67, v64, c1_i32_28⟩
def k0_mult6 (v7 : BitVec 32) (v12 : BitVec 32) (k0_t4 : Fin (k0_t4_loop v12).trips) : BitVec 32 :=
  let c0_i32_25 : BitVec 32 := 0#32
  let c128_i32 : BitVec 32 := 128#32
  let v13 : BitVec 32 := Scalar.addi v12 c128_i32
  let c1_i32_1 : BitVec 32 := 1#32
  let v14 : BitVec 32 := Scalar.subi v13 c1_i32_1
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32_2 : BitVec 32 := 128#32
  let c0_i32_5 : BitVec 32 := 0#32
  let v21 : BitVec 1 := Scalar.cmpi .sgt c128_i32_2 c0_i32_5
  let v22 : BitVec 32 := Scalar.extui v21
  let c0_i32_6 : BitVec 32 := 0#32
  let v23 : BitVec 1 := Scalar.cmpi .slt c128_i32_2 c0_i32_6
  let v24 : BitVec 32 := Scalar.extui v23
  let v25 : BitVec 32 := Scalar.subi v22 v24
  let v26 : BitVec 1 := Scalar.cmpi .ne v20 v25
  let v27 : BitVec 32 := Scalar.remsi v14 c128_i32_2
  let c0_i32_7 : BitVec 32 := 0#32
  let v28 : BitVec 1 := Scalar.cmpi .ne v27 c0_i32_7
  let v29 : BitVec 1 := Scalar.andi v26 v28
  let v15 : BitVec 32 := Scalar.divsi v14 c128_i32_2
  let c1_i32_8 : BitVec 32 := 1#32
  let v30 : BitVec 32 := Scalar.subi v15 c1_i32_8
  let v31 : BitVec 32 := Scalar.select v29 v30 v15
  let v63 : BitVec 32 := Scalar.subi v31 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg16 : BitVec 32 := Scf.iv v67 c1_i32_28 k0_t4
  let c128_i32_34 : BitVec 32 := 128#32
  let v73 : BitVec 32 := Scalar.muli arg16 c128_i32_34
  let v74 : BitVec 32 := Scalar.addi v7 v73
  v74
def k0_off13 (v7 : BitVec 32) (v12 : BitVec 32) (k0_t4 : Fin (k0_t4_loop v12).trips) : Fin 2 → Nat :=
  let c0_i32_25 : BitVec 32 := 0#32
  let c128_i32 : BitVec 32 := 128#32
  let v13 : BitVec 32 := Scalar.addi v12 c128_i32
  let c1_i32_1 : BitVec 32 := 1#32
  let v14 : BitVec 32 := Scalar.subi v13 c1_i32_1
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32_2 : BitVec 32 := 128#32
  let c0_i32_5 : BitVec 32 := 0#32
  let v21 : BitVec 1 := Scalar.cmpi .sgt c128_i32_2 c0_i32_5
  let v22 : BitVec 32 := Scalar.extui v21
  let c0_i32_6 : BitVec 32 := 0#32
  let v23 : BitVec 1 := Scalar.cmpi .slt c128_i32_2 c0_i32_6
  let v24 : BitVec 32 := Scalar.extui v23
  let v25 : BitVec 32 := Scalar.subi v22 v24
  let v26 : BitVec 1 := Scalar.cmpi .ne v20 v25
  let v27 : BitVec 32 := Scalar.remsi v14 c128_i32_2
  let c0_i32_7 : BitVec 32 := 0#32
  let v28 : BitVec 1 := Scalar.cmpi .ne v27 c0_i32_7
  let v29 : BitVec 1 := Scalar.andi v26 v28
  let v15 : BitVec 32 := Scalar.divsi v14 c128_i32_2
  let c1_i32_8 : BitVec 32 := 1#32
  let v30 : BitVec 32 := Scalar.subi v15 c1_i32_8
  let v31 : BitVec 32 := Scalar.select v29 v30 v15
  let v63 : BitVec 32 := Scalar.subi v31 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg16 : BitVec 32 := Scf.iv v67 c1_i32_28 k0_t4
  let c128_i32_34 : BitVec 32 := 128#32
  let v73 : BitVec 32 := Scalar.muli arg16 c128_i32_34
  let v74 : BitVec 32 := Scalar.addi v7 v73
  let v75 : BitVec 32 := v74
  let v76 : Index := Scalar.indexCast v75
  let c0 : Index := 0#32
  ![v76.toNat, 0]
def k0_off14 (v7 : BitVec 32) (v12 : BitVec 32) (k0_t4 : Fin (k0_t4_loop v12).trips) : Fin 2 → Nat :=
  let c0_i32_25 : BitVec 32 := 0#32
  let c128_i32 : BitVec 32 := 128#32
  let v13 : BitVec 32 := Scalar.addi v12 c128_i32
  let c1_i32_1 : BitVec 32 := 1#32
  let v14 : BitVec 32 := Scalar.subi v13 c1_i32_1
  let c0_i32_3 : BitVec 32 := 0#32
  let v16 : BitVec 1 := Scalar.cmpi .sgt v14 c0_i32_3
  let v17 : BitVec 32 := Scalar.extui v16
  let c0_i32_4 : BitVec 32 := 0#32
  let v18 : BitVec 1 := Scalar.cmpi .slt v14 c0_i32_4
  let v19 : BitVec 32 := Scalar.extui v18
  let v20 : BitVec 32 := Scalar.subi v17 v19
  let c128_i32_2 : BitVec 32 := 128#32
  let c0_i32_5 : BitVec 32 := 0#32
  let v21 : BitVec 1 := Scalar.cmpi .sgt c128_i32_2 c0_i32_5
  let v22 : BitVec 32 := Scalar.extui v21
  let c0_i32_6 : BitVec 32 := 0#32
  let v23 : BitVec 1 := Scalar.cmpi .slt c128_i32_2 c0_i32_6
  let v24 : BitVec 32 := Scalar.extui v23
  let v25 : BitVec 32 := Scalar.subi v22 v24
  let v26 : BitVec 1 := Scalar.cmpi .ne v20 v25
  let v27 : BitVec 32 := Scalar.remsi v14 c128_i32_2
  let c0_i32_7 : BitVec 32 := 0#32
  let v28 : BitVec 1 := Scalar.cmpi .ne v27 c0_i32_7
  let v29 : BitVec 1 := Scalar.andi v26 v28
  let v15 : BitVec 32 := Scalar.divsi v14 c128_i32_2
  let c1_i32_8 : BitVec 32 := 1#32
  let v30 : BitVec 32 := Scalar.subi v15 c1_i32_8
  let v31 : BitVec 32 := Scalar.select v29 v30 v15
  let v63 : BitVec 32 := Scalar.subi v31 c0_i32_25
  let c1_i32_26 : BitVec 32 := 1#32
  let v65 : BitVec 32 := Scalar.divsi v63 c1_i32_26
  let v66 : BitVec 32 := Scalar.muli v65 c1_i32_26
  let v67 : BitVec 32 := Scalar.addi c0_i32_25 v66
  let c1_i32_28 : BitVec 32 := 1#32
  let arg16 : BitVec 32 := Scf.iv v67 c1_i32_28 k0_t4
  let c128_i32_34 : BitVec 32 := 128#32
  let v73 : BitVec 32 := Scalar.muli arg16 c128_i32_34
  let v74 : BitVec 32 := Scalar.addi v7 v73
  let v75 : BitVec 32 := v74
  let v91 : Index := Scalar.indexCast v75
  let c0_46 : Index := 0#32
  ![v91.toNat, 0]

def k0_chk1 (v7 : BitVec 32) (v10 : BitVec 32) (v12 : BitVec 32) : Prop :=
  (∀ (k0_h2 : k0_cond2 v12 = 1#1), 16 ∣ (k0_mult1 v7).toNat) ∧
  (∀ (k0_h2 : k0_cond2 v12 = 1#1), ∀ a, (k0_off3 v7) a + S128x1024.size a ≤ S2688x1024.size a) ∧
  (∀ (k0_h2 : k0_cond2 v12 = 1#1), ∀ a, (k0_off4 v7) a + S128x1.size a ≤ S2688x1.size a) ∧
  (∀ (k0_h2 : k0_cond2 v12 = 1#1), ∀ (hinb : ∀ a, (k0_off3 v7) a + S128x1024.size a ≤ S2688x1024.size a), (Rect.unit (s := S2688x1024) (k0_off3 v7) S128x1024.size hinb).PackedRows (EltTy.packing .bf16)) ∧
  (∀ (k0_h2 : k0_cond2 v12 = 1#1), 16 ∣ (k0_mult2 v10).toNat) ∧
  (∀ (k0_h2 : k0_cond2 v12 = 1#1), ∀ a, (k0_off5 v10) a + S128x1024.size a ≤ S2688x1024.size a) ∧
  (∀ (k0_h2 : k0_cond2 v12 = 1#1), ∀ a, (k0_off6 v10) a + S128x1.size a ≤ S2688x1.size a) ∧
  (∀ (k0_h2 : k0_cond2 v12 = 1#1), ∀ (hinb : ∀ a, (k0_off5 v10) a + S128x1024.size a ≤ S2688x1024.size a), (Rect.unit (s := S2688x1024) (k0_off5 v10) S128x1024.size hinb).PackedRows (EltTy.packing .bf16)) ∧
  (∀ (k0_h3 : k0_cond3 v12 = 1#1), (k0_t3_loop v12).OK) ∧
  (∀ k0_t3 : Fin (k0_t3_loop v12).trips, ∀ (k0_h3 : k0_cond3 v12 = 1#1), 16 ∣ (k0_mult5 v7 v12 k0_t3).toNat) ∧
  (∀ k0_t3 : Fin (k0_t3_loop v12).trips, ∀ (k0_h3 : k0_cond3 v12 = 1#1), ∀ a, (k0_off11 v7 v12 k0_t3) a + S128x1024.size a ≤ S2688x1024.size a) ∧
  (∀ k0_t3 : Fin (k0_t3_loop v12).trips, ∀ (k0_h3 : k0_cond3 v12 = 1#1), ∀ a, (k0_off12 v7 v12 k0_t3) a + S128x1.size a ≤ S2688x1.size a) ∧
  (∀ k0_t3 : Fin (k0_t3_loop v12).trips, ∀ (k0_h3 : k0_cond3 v12 = 1#1), ∀ (hinb : ∀ a, (k0_off11 v7 v12 k0_t3) a + S128x1024.size a ≤ S2688x1024.size a), (Rect.unit (s := S2688x1024) (k0_off11 v7 v12 k0_t3) S128x1024.size hinb).PackedRows (EltTy.packing .bf16)) ∧
  (∀ (k0_h3 : k0_cond3 v12 = 1#1), (k0_t4_loop v12).OK) ∧
  (∀ k0_t4 : Fin (k0_t4_loop v12).trips, ∀ (k0_h3 : k0_cond3 v12 = 1#1), 16 ∣ (k0_mult6 v7 v12 k0_t4).toNat) ∧
  (∀ k0_t4 : Fin (k0_t4_loop v12).trips, ∀ (k0_h3 : k0_cond3 v12 = 1#1), ∀ a, (k0_off13 v7 v12 k0_t4) a + S128x1024.size a ≤ S2688x1024.size a) ∧
  (∀ k0_t4 : Fin (k0_t4_loop v12).trips, ∀ (k0_h3 : k0_cond3 v12 = 1#1), ∀ a, (k0_off14 v7 v12 k0_t4) a + S128x1.size a ≤ S2688x1.size a) ∧
  (∀ k0_t4 : Fin (k0_t4_loop v12).trips, ∀ (k0_h3 : k0_cond3 v12 = 1#1), ∀ (hinb : ∀ a, (k0_off13 v7 v12 k0_t4) a + S128x1024.size a ≤ S2688x1024.size a), (Rect.unit (s := S2688x1024) (k0_off13 v7 v12 k0_t4) S128x1024.size hinb).PackedRows (EltTy.packing .bf16))
theorem k0_mult1_dvd : ∀ (v7 : BitVec 32) (v10 : BitVec 32) (v12 : BitVec 32) (k0_hw1 : k0_chk1 v7 v10 v12), ∀ (k0_h2 : k0_cond2 v12 = 1#1), 16 ∣ (k0_mult1 v7).toNat := fun v7 v10 v12 k0_hw1 k0_h2 => k0_hw1.1 k0_h2
theorem k0_off3_inb : ∀ (v7 : BitVec 32) (v10 : BitVec 32) (v12 : BitVec 32) (k0_hw1 : k0_chk1 v7 v10 v12), ∀ (k0_h2 : k0_cond2 v12 = 1#1), ∀ a, (k0_off3 v7) a + S128x1024.size a ≤ S2688x1024.size a := fun v7 v10 v12 k0_hw1 k0_h2 => k0_hw1.2.1 k0_h2
theorem k0_off4_inb : ∀ (v7 : BitVec 32) (v10 : BitVec 32) (v12 : BitVec 32) (k0_hw1 : k0_chk1 v7 v10 v12), ∀ (k0_h2 : k0_cond2 v12 = 1#1), ∀ a, (k0_off4 v7) a + S128x1.size a ≤ S2688x1.size a := fun v7 v10 v12 k0_hw1 k0_h2 => k0_hw1.2.2.1 k0_h2
theorem k0_off3_packedbf16 : ∀ (v7 : BitVec 32) (v10 : BitVec 32) (v12 : BitVec 32) (k0_hw1 : k0_chk1 v7 v10 v12), ∀ (k0_h2 : k0_cond2 v12 = 1#1), (Rect.unit (s := S2688x1024) (k0_off3 v7) S128x1024.size (k0_off3_inb v7 v10 v12 k0_hw1 k0_h2)).PackedRows (EltTy.packing .bf16) := fun v7 v10 v12 k0_hw1 k0_h2 => k0_hw1.2.2.2.1 k0_h2 (k0_off3_inb v7 v10 v12 k0_hw1 k0_h2)
theorem k0_mult2_dvd : ∀ (v7 : BitVec 32) (v10 : BitVec 32) (v12 : BitVec 32) (k0_hw1 : k0_chk1 v7 v10 v12), ∀ (k0_h2 : k0_cond2 v12 = 1#1), 16 ∣ (k0_mult2 v10).toNat := fun v7 v10 v12 k0_hw1 k0_h2 => k0_hw1.2.2.2.2.1 k0_h2
theorem k0_off5_inb : ∀ (v7 : BitVec 32) (v10 : BitVec 32) (v12 : BitVec 32) (k0_hw1 : k0_chk1 v7 v10 v12), ∀ (k0_h2 : k0_cond2 v12 = 1#1), ∀ a, (k0_off5 v10) a + S128x1024.size a ≤ S2688x1024.size a := fun v7 v10 v12 k0_hw1 k0_h2 => k0_hw1.2.2.2.2.2.1 k0_h2
theorem k0_off6_inb : ∀ (v7 : BitVec 32) (v10 : BitVec 32) (v12 : BitVec 32) (k0_hw1 : k0_chk1 v7 v10 v12), ∀ (k0_h2 : k0_cond2 v12 = 1#1), ∀ a, (k0_off6 v10) a + S128x1.size a ≤ S2688x1.size a := fun v7 v10 v12 k0_hw1 k0_h2 => k0_hw1.2.2.2.2.2.2.1 k0_h2
theorem k0_off5_packedbf16 : ∀ (v7 : BitVec 32) (v10 : BitVec 32) (v12 : BitVec 32) (k0_hw1 : k0_chk1 v7 v10 v12), ∀ (k0_h2 : k0_cond2 v12 = 1#1), (Rect.unit (s := S2688x1024) (k0_off5 v10) S128x1024.size (k0_off5_inb v7 v10 v12 k0_hw1 k0_h2)).PackedRows (EltTy.packing .bf16) := fun v7 v10 v12 k0_hw1 k0_h2 => k0_hw1.2.2.2.2.2.2.2.1 k0_h2 (k0_off5_inb v7 v10 v12 k0_hw1 k0_h2)
theorem k0_t3_ok : ∀ (v7 : BitVec 32) (v10 : BitVec 32) (v12 : BitVec 32) (k0_hw1 : k0_chk1 v7 v10 v12), ∀ (k0_h3 : k0_cond3 v12 = 1#1), (k0_t3_loop v12).OK := fun v7 v10 v12 k0_hw1 k0_h3 => k0_hw1.2.2.2.2.2.2.2.2.1 k0_h3
theorem k0_mult5_dvd : ∀ (v7 : BitVec 32) (v10 : BitVec 32) (v12 : BitVec 32) (k0_hw1 : k0_chk1 v7 v10 v12) (k0_t3 : Fin (k0_t3_loop v12).trips), ∀ (k0_h3 : k0_cond3 v12 = 1#1), 16 ∣ (k0_mult5 v7 v12 k0_t3).toNat := fun v7 v10 v12 k0_hw1 k0_t3 k0_h3 => k0_hw1.2.2.2.2.2.2.2.2.2.1 k0_t3 k0_h3
theorem k0_off11_inb : ∀ (v7 : BitVec 32) (v10 : BitVec 32) (v12 : BitVec 32) (k0_hw1 : k0_chk1 v7 v10 v12) (k0_t3 : Fin (k0_t3_loop v12).trips), ∀ (k0_h3 : k0_cond3 v12 = 1#1), ∀ a, (k0_off11 v7 v12 k0_t3) a + S128x1024.size a ≤ S2688x1024.size a := fun v7 v10 v12 k0_hw1 k0_t3 k0_h3 => k0_hw1.2.2.2.2.2.2.2.2.2.2.1 k0_t3 k0_h3
theorem k0_off12_inb : ∀ (v7 : BitVec 32) (v10 : BitVec 32) (v12 : BitVec 32) (k0_hw1 : k0_chk1 v7 v10 v12) (k0_t3 : Fin (k0_t3_loop v12).trips), ∀ (k0_h3 : k0_cond3 v12 = 1#1), ∀ a, (k0_off12 v7 v12 k0_t3) a + S128x1.size a ≤ S2688x1.size a := fun v7 v10 v12 k0_hw1 k0_t3 k0_h3 => k0_hw1.2.2.2.2.2.2.2.2.2.2.2.1 k0_t3 k0_h3
theorem k0_off11_packedbf16 : ∀ (v7 : BitVec 32) (v10 : BitVec 32) (v12 : BitVec 32) (k0_hw1 : k0_chk1 v7 v10 v12) (k0_t3 : Fin (k0_t3_loop v12).trips), ∀ (k0_h3 : k0_cond3 v12 = 1#1), (Rect.unit (s := S2688x1024) (k0_off11 v7 v12 k0_t3) S128x1024.size (k0_off11_inb v7 v10 v12 k0_hw1 k0_t3 k0_h3)).PackedRows (EltTy.packing .bf16) := fun v7 v10 v12 k0_hw1 k0_t3 k0_h3 => k0_hw1.2.2.2.2.2.2.2.2.2.2.2.2.1 k0_t3 k0_h3 (k0_off11_inb v7 v10 v12 k0_hw1 k0_t3 k0_h3)
theorem k0_t4_ok : ∀ (v7 : BitVec 32) (v10 : BitVec 32) (v12 : BitVec 32) (k0_hw1 : k0_chk1 v7 v10 v12), ∀ (k0_h3 : k0_cond3 v12 = 1#1), (k0_t4_loop v12).OK := fun v7 v10 v12 k0_hw1 k0_h3 => k0_hw1.2.2.2.2.2.2.2.2.2.2.2.2.2.1 k0_h3
theorem k0_mult6_dvd : ∀ (v7 : BitVec 32) (v10 : BitVec 32) (v12 : BitVec 32) (k0_hw1 : k0_chk1 v7 v10 v12) (k0_t4 : Fin (k0_t4_loop v12).trips), ∀ (k0_h3 : k0_cond3 v12 = 1#1), 16 ∣ (k0_mult6 v7 v12 k0_t4).toNat := fun v7 v10 v12 k0_hw1 k0_t4 k0_h3 => k0_hw1.2.2.2.2.2.2.2.2.2.2.2.2.2.2.1 k0_t4 k0_h3
theorem k0_off13_inb : ∀ (v7 : BitVec 32) (v10 : BitVec 32) (v12 : BitVec 32) (k0_hw1 : k0_chk1 v7 v10 v12) (k0_t4 : Fin (k0_t4_loop v12).trips), ∀ (k0_h3 : k0_cond3 v12 = 1#1), ∀ a, (k0_off13 v7 v12 k0_t4) a + S128x1024.size a ≤ S2688x1024.size a := fun v7 v10 v12 k0_hw1 k0_t4 k0_h3 => k0_hw1.2.2.2.2.2.2.2.2.2.2.2.2.2.2.2.1 k0_t4 k0_h3
theorem k0_off14_inb : ∀ (v7 : BitVec 32) (v10 : BitVec 32) (v12 : BitVec 32) (k0_hw1 : k0_chk1 v7 v10 v12) (k0_t4 : Fin (k0_t4_loop v12).trips), ∀ (k0_h3 : k0_cond3 v12 = 1#1), ∀ a, (k0_off14 v7 v12 k0_t4) a + S128x1.size a ≤ S2688x1.size a := fun v7 v10 v12 k0_hw1 k0_t4 k0_h3 => k0_hw1.2.2.2.2.2.2.2.2.2.2.2.2.2.2.2.2.1 k0_t4 k0_h3
theorem k0_off13_packedbf16 : ∀ (v7 : BitVec 32) (v10 : BitVec 32) (v12 : BitVec 32) (k0_hw1 : k0_chk1 v7 v10 v12) (k0_t4 : Fin (k0_t4_loop v12).trips), ∀ (k0_h3 : k0_cond3 v12 = 1#1), (Rect.unit (s := S2688x1024) (k0_off13 v7 v12 k0_t4) S128x1024.size (k0_off13_inb v7 v10 v12 k0_hw1 k0_t4 k0_h3)).PackedRows (EltTy.packing .bf16) := fun v7 v10 v12 k0_hw1 k0_t4 k0_h3 => k0_hw1.2.2.2.2.2.2.2.2.2.2.2.2.2.2.2.2.2 k0_t4 k0_h3 (k0_off13_inb v7 v10 v12 k0_hw1 k0_t4 k0_h3)

@[reducible] def k0_t5_loop (v34 : BitVec 32) : Scf.Loop 32 :=
  let c0_i32_30 : BitVec 32 := 0#32
  let c128_i32_10 : BitVec 32 := 128#32
  let v35 : BitVec 32 := Scalar.addi v34 c128_i32_10
  let c1_i32_11 : BitVec 32 := 1#32
  let v36 : BitVec 32 := Scalar.subi v35 c1_i32_11
  let c0_i32_13 : BitVec 32 := 0#32
  let v38 : BitVec 1 := Scalar.cmpi .sgt v36 c0_i32_13
  let v39 : BitVec 32 := Scalar.extui v38
  let c0_i32_14 : BitVec 32 := 0#32
  let v40 : BitVec 1 := Scalar.cmpi .slt v36 c0_i32_14
  let v41 : BitVec 32 := Scalar.extui v40
  let v42 : BitVec 32 := Scalar.subi v39 v41
  let c128_i32_12 : BitVec 32 := 128#32
  let c0_i32_15 : BitVec 32 := 0#32
  let v43 : BitVec 1 := Scalar.cmpi .sgt c128_i32_12 c0_i32_15
  let v44 : BitVec 32 := Scalar.extui v43
  let c0_i32_16 : BitVec 32 := 0#32
  let v45 : BitVec 1 := Scalar.cmpi .slt c128_i32_12 c0_i32_16
  let v46 : BitVec 32 := Scalar.extui v45
  let v47 : BitVec 32 := Scalar.subi v44 v46
  let v48 : BitVec 1 := Scalar.cmpi .ne v42 v47
  let v49 : BitVec 32 := Scalar.remsi v36 c128_i32_12
  let c0_i32_17 : BitVec 32 := 0#32
  let v50 : BitVec 1 := Scalar.cmpi .ne v49 c0_i32_17
  let v51 : BitVec 1 := Scalar.andi v48 v50
  let v37 : BitVec 32 := Scalar.divsi v36 c128_i32_12
  let c1_i32_18 : BitVec 32 := 1#32
  let v52 : BitVec 32 := Scalar.subi v37 c1_i32_18
  let v53 : BitVec 32 := Scalar.select v51 v52 v37
  let v68 : BitVec 32 := Scalar.subi v53 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_32 : BitVec 32 := 1#32
  ⟨c0_i32_30, v72, c1_i32_32⟩
def k0_mult7 (v10 : BitVec 32) (v34 : BitVec 32) (k0_t5 : Fin (k0_t5_loop v34).trips) : BitVec 32 :=
  let c0_i32_30 : BitVec 32 := 0#32
  let c1_i32_32 : BitVec 32 := 1#32
  let arg16 : BitVec 32 := Scf.iv c0_i32_30 c1_i32_32 k0_t5
  let c128_i32_34 : BitVec 32 := 128#32
  let v73 : BitVec 32 := Scalar.muli arg16 c128_i32_34
  let v74 : BitVec 32 := Scalar.addi v10 v73
  v74
def k0_off15 (v10 : BitVec 32) (v34 : BitVec 32) (k0_t5 : Fin (k0_t5_loop v34).trips) : Fin 2 → Nat :=
  let c0_i32_30 : BitVec 32 := 0#32
  let c1_i32_32 : BitVec 32 := 1#32
  let arg16 : BitVec 32 := Scf.iv c0_i32_30 c1_i32_32 k0_t5
  let c128_i32_34 : BitVec 32 := 128#32
  let v73 : BitVec 32 := Scalar.muli arg16 c128_i32_34
  let v74 : BitVec 32 := Scalar.addi v10 v73
  let v75 : BitVec 32 := v74
  let v76 : Index := Scalar.indexCast v75
  let c0 : Index := 0#32
  ![v76.toNat, 0]
def k0_off16 (v10 : BitVec 32) (v34 : BitVec 32) (k0_t5 : Fin (k0_t5_loop v34).trips) : Fin 2 → Nat :=
  let c0_i32_30 : BitVec 32 := 0#32
  let c1_i32_32 : BitVec 32 := 1#32
  let arg16 : BitVec 32 := Scf.iv c0_i32_30 c1_i32_32 k0_t5
  let c128_i32_34 : BitVec 32 := 128#32
  let v73 : BitVec 32 := Scalar.muli arg16 c128_i32_34
  let v74 : BitVec 32 := Scalar.addi v10 v73
  let v75 : BitVec 32 := v74
  let v91 : Index := Scalar.indexCast v75
  let c0_45 : Index := 0#32
  ![v91.toNat, 0]
@[reducible] def k0_t6_loop (v34 : BitVec 32) : Scf.Loop 32 :=
  let c0_i32_30 : BitVec 32 := 0#32
  let c128_i32_10 : BitVec 32 := 128#32
  let v35 : BitVec 32 := Scalar.addi v34 c128_i32_10
  let c1_i32_11 : BitVec 32 := 1#32
  let v36 : BitVec 32 := Scalar.subi v35 c1_i32_11
  let c0_i32_13 : BitVec 32 := 0#32
  let v38 : BitVec 1 := Scalar.cmpi .sgt v36 c0_i32_13
  let v39 : BitVec 32 := Scalar.extui v38
  let c0_i32_14 : BitVec 32 := 0#32
  let v40 : BitVec 1 := Scalar.cmpi .slt v36 c0_i32_14
  let v41 : BitVec 32 := Scalar.extui v40
  let v42 : BitVec 32 := Scalar.subi v39 v41
  let c128_i32_12 : BitVec 32 := 128#32
  let c0_i32_15 : BitVec 32 := 0#32
  let v43 : BitVec 1 := Scalar.cmpi .sgt c128_i32_12 c0_i32_15
  let v44 : BitVec 32 := Scalar.extui v43
  let c0_i32_16 : BitVec 32 := 0#32
  let v45 : BitVec 1 := Scalar.cmpi .slt c128_i32_12 c0_i32_16
  let v46 : BitVec 32 := Scalar.extui v45
  let v47 : BitVec 32 := Scalar.subi v44 v46
  let v48 : BitVec 1 := Scalar.cmpi .ne v42 v47
  let v49 : BitVec 32 := Scalar.remsi v36 c128_i32_12
  let c0_i32_17 : BitVec 32 := 0#32
  let v50 : BitVec 1 := Scalar.cmpi .ne v49 c0_i32_17
  let v51 : BitVec 1 := Scalar.andi v48 v50
  let v37 : BitVec 32 := Scalar.divsi v36 c128_i32_12
  let c1_i32_18 : BitVec 32 := 1#32
  let v52 : BitVec 32 := Scalar.subi v37 c1_i32_18
  let v53 : BitVec 32 := Scalar.select v51 v52 v37
  let v68 : BitVec 32 := Scalar.subi v53 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let v69 : BitVec 32 := Scalar.addi c0_i32_30 v68
  let c1_i32_33 : BitVec 32 := 1#32
  ⟨v72, v69, c1_i32_33⟩
def k0_mult8 (v10 : BitVec 32) (v34 : BitVec 32) (k0_t6 : Fin (k0_t6_loop v34).trips) : BitVec 32 :=
  let c0_i32_30 : BitVec 32 := 0#32
  let c128_i32_10 : BitVec 32 := 128#32
  let v35 : BitVec 32 := Scalar.addi v34 c128_i32_10
  let c1_i32_11 : BitVec 32 := 1#32
  let v36 : BitVec 32 := Scalar.subi v35 c1_i32_11
  let c0_i32_13 : BitVec 32 := 0#32
  let v38 : BitVec 1 := Scalar.cmpi .sgt v36 c0_i32_13
  let v39 : BitVec 32 := Scalar.extui v38
  let c0_i32_14 : BitVec 32 := 0#32
  let v40 : BitVec 1 := Scalar.cmpi .slt v36 c0_i32_14
  let v41 : BitVec 32 := Scalar.extui v40
  let v42 : BitVec 32 := Scalar.subi v39 v41
  let c128_i32_12 : BitVec 32 := 128#32
  let c0_i32_15 : BitVec 32 := 0#32
  let v43 : BitVec 1 := Scalar.cmpi .sgt c128_i32_12 c0_i32_15
  let v44 : BitVec 32 := Scalar.extui v43
  let c0_i32_16 : BitVec 32 := 0#32
  let v45 : BitVec 1 := Scalar.cmpi .slt c128_i32_12 c0_i32_16
  let v46 : BitVec 32 := Scalar.extui v45
  let v47 : BitVec 32 := Scalar.subi v44 v46
  let v48 : BitVec 1 := Scalar.cmpi .ne v42 v47
  let v49 : BitVec 32 := Scalar.remsi v36 c128_i32_12
  let c0_i32_17 : BitVec 32 := 0#32
  let v50 : BitVec 1 := Scalar.cmpi .ne v49 c0_i32_17
  let v51 : BitVec 1 := Scalar.andi v48 v50
  let v37 : BitVec 32 := Scalar.divsi v36 c128_i32_12
  let c1_i32_18 : BitVec 32 := 1#32
  let v52 : BitVec 32 := Scalar.subi v37 c1_i32_18
  let v53 : BitVec 32 := Scalar.select v51 v52 v37
  let v68 : BitVec 32 := Scalar.subi v53 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg16 : BitVec 32 := Scf.iv v72 c1_i32_33 k0_t6
  let c128_i32_34 : BitVec 32 := 128#32
  let v73 : BitVec 32 := Scalar.muli arg16 c128_i32_34
  let v74 : BitVec 32 := Scalar.addi v10 v73
  v74
def k0_off17 (v10 : BitVec 32) (v34 : BitVec 32) (k0_t6 : Fin (k0_t6_loop v34).trips) : Fin 2 → Nat :=
  let c0_i32_30 : BitVec 32 := 0#32
  let c128_i32_10 : BitVec 32 := 128#32
  let v35 : BitVec 32 := Scalar.addi v34 c128_i32_10
  let c1_i32_11 : BitVec 32 := 1#32
  let v36 : BitVec 32 := Scalar.subi v35 c1_i32_11
  let c0_i32_13 : BitVec 32 := 0#32
  let v38 : BitVec 1 := Scalar.cmpi .sgt v36 c0_i32_13
  let v39 : BitVec 32 := Scalar.extui v38
  let c0_i32_14 : BitVec 32 := 0#32
  let v40 : BitVec 1 := Scalar.cmpi .slt v36 c0_i32_14
  let v41 : BitVec 32 := Scalar.extui v40
  let v42 : BitVec 32 := Scalar.subi v39 v41
  let c128_i32_12 : BitVec 32 := 128#32
  let c0_i32_15 : BitVec 32 := 0#32
  let v43 : BitVec 1 := Scalar.cmpi .sgt c128_i32_12 c0_i32_15
  let v44 : BitVec 32 := Scalar.extui v43
  let c0_i32_16 : BitVec 32 := 0#32
  let v45 : BitVec 1 := Scalar.cmpi .slt c128_i32_12 c0_i32_16
  let v46 : BitVec 32 := Scalar.extui v45
  let v47 : BitVec 32 := Scalar.subi v44 v46
  let v48 : BitVec 1 := Scalar.cmpi .ne v42 v47
  let v49 : BitVec 32 := Scalar.remsi v36 c128_i32_12
  let c0_i32_17 : BitVec 32 := 0#32
  let v50 : BitVec 1 := Scalar.cmpi .ne v49 c0_i32_17
  let v51 : BitVec 1 := Scalar.andi v48 v50
  let v37 : BitVec 32 := Scalar.divsi v36 c128_i32_12
  let c1_i32_18 : BitVec 32 := 1#32
  let v52 : BitVec 32 := Scalar.subi v37 c1_i32_18
  let v53 : BitVec 32 := Scalar.select v51 v52 v37
  let v68 : BitVec 32 := Scalar.subi v53 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg16 : BitVec 32 := Scf.iv v72 c1_i32_33 k0_t6
  let c128_i32_34 : BitVec 32 := 128#32
  let v73 : BitVec 32 := Scalar.muli arg16 c128_i32_34
  let v74 : BitVec 32 := Scalar.addi v10 v73
  let v75 : BitVec 32 := v74
  let v76 : Index := Scalar.indexCast v75
  let c0 : Index := 0#32
  ![v76.toNat, 0]
def k0_off18 (v10 : BitVec 32) (v34 : BitVec 32) (k0_t6 : Fin (k0_t6_loop v34).trips) : Fin 2 → Nat :=
  let c0_i32_30 : BitVec 32 := 0#32
  let c128_i32_10 : BitVec 32 := 128#32
  let v35 : BitVec 32 := Scalar.addi v34 c128_i32_10
  let c1_i32_11 : BitVec 32 := 1#32
  let v36 : BitVec 32 := Scalar.subi v35 c1_i32_11
  let c0_i32_13 : BitVec 32 := 0#32
  let v38 : BitVec 1 := Scalar.cmpi .sgt v36 c0_i32_13
  let v39 : BitVec 32 := Scalar.extui v38
  let c0_i32_14 : BitVec 32 := 0#32
  let v40 : BitVec 1 := Scalar.cmpi .slt v36 c0_i32_14
  let v41 : BitVec 32 := Scalar.extui v40
  let v42 : BitVec 32 := Scalar.subi v39 v41
  let c128_i32_12 : BitVec 32 := 128#32
  let c0_i32_15 : BitVec 32 := 0#32
  let v43 : BitVec 1 := Scalar.cmpi .sgt c128_i32_12 c0_i32_15
  let v44 : BitVec 32 := Scalar.extui v43
  let c0_i32_16 : BitVec 32 := 0#32
  let v45 : BitVec 1 := Scalar.cmpi .slt c128_i32_12 c0_i32_16
  let v46 : BitVec 32 := Scalar.extui v45
  let v47 : BitVec 32 := Scalar.subi v44 v46
  let v48 : BitVec 1 := Scalar.cmpi .ne v42 v47
  let v49 : BitVec 32 := Scalar.remsi v36 c128_i32_12
  let c0_i32_17 : BitVec 32 := 0#32
  let v50 : BitVec 1 := Scalar.cmpi .ne v49 c0_i32_17
  let v51 : BitVec 1 := Scalar.andi v48 v50
  let v37 : BitVec 32 := Scalar.divsi v36 c128_i32_12
  let c1_i32_18 : BitVec 32 := 1#32
  let v52 : BitVec 32 := Scalar.subi v37 c1_i32_18
  let v53 : BitVec 32 := Scalar.select v51 v52 v37
  let v68 : BitVec 32 := Scalar.subi v53 c0_i32_30
  let c1_i32_31 : BitVec 32 := 1#32
  let v70 : BitVec 32 := Scalar.divsi v68 c1_i32_31
  let v71 : BitVec 32 := Scalar.muli v70 c1_i32_31
  let v72 : BitVec 32 := Scalar.addi c0_i32_30 v71
  let c1_i32_33 : BitVec 32 := 1#32
  let arg16 : BitVec 32 := Scf.iv v72 c1_i32_33 k0_t6
  let c128_i32_34 : BitVec 32 := 128#32
  let v73 : BitVec 32 := Scalar.muli arg16 c128_i32_34
  let v74 : BitVec 32 := Scalar.addi v10 v73
  let v75 : BitVec 32 := v74
  let v91 : Index := Scalar.indexCast v75
  let c0_45 : Index := 0#32
  ![v91.toNat, 0]

def k0_chk2 (v10 : BitVec 32) (v12 : BitVec 32) (v34 : BitVec 32) : Prop :=
  (∀ (k0_h2 : k0_cond2 v12 = 1#1), (k0_t1_loop v34).OK) ∧
  (∀ k0_t1 : Fin (k0_t1_loop v34).trips, ∀ (k0_h2 : k0_cond2 v12 = 1#1), 16 ∣ (k0_mult3 v10 v34 k0_t1).toNat) ∧
  (∀ k0_t1 : Fin (k0_t1_loop v34).trips, ∀ (k0_h2 : k0_cond2 v12 = 1#1), ∀ a, (k0_off7 v10 v34 k0_t1) a + S128x1024.size a ≤ S2688x1024.size a) ∧
  (∀ k0_t1 : Fin (k0_t1_loop v34).trips, ∀ (k0_h2 : k0_cond2 v12 = 1#1), ∀ a, (k0_off8 v10 v34 k0_t1) a + S128x1.size a ≤ S2688x1.size a) ∧
  (∀ k0_t1 : Fin (k0_t1_loop v34).trips, ∀ (k0_h2 : k0_cond2 v12 = 1#1), ∀ (hinb : ∀ a, (k0_off7 v10 v34 k0_t1) a + S128x1024.size a ≤ S2688x1024.size a), (Rect.unit (s := S2688x1024) (k0_off7 v10 v34 k0_t1) S128x1024.size hinb).PackedRows (EltTy.packing .bf16)) ∧
  (∀ (k0_h2 : k0_cond2 v12 = 1#1), (k0_t2_loop v34).OK) ∧
  (∀ k0_t2 : Fin (k0_t2_loop v34).trips, ∀ (k0_h2 : k0_cond2 v12 = 1#1), 16 ∣ (k0_mult4 v10 v34 k0_t2).toNat) ∧
  (∀ k0_t2 : Fin (k0_t2_loop v34).trips, ∀ (k0_h2 : k0_cond2 v12 = 1#1), ∀ a, (k0_off9 v10 v34 k0_t2) a + S128x1024.size a ≤ S2688x1024.size a) ∧
  (∀ k0_t2 : Fin (k0_t2_loop v34).trips, ∀ (k0_h2 : k0_cond2 v12 = 1#1), ∀ a, (k0_off10 v10 v34 k0_t2) a + S128x1.size a ≤ S2688x1.size a) ∧
  (∀ k0_t2 : Fin (k0_t2_loop v34).trips, ∀ (k0_h2 : k0_cond2 v12 = 1#1), ∀ (hinb : ∀ a, (k0_off9 v10 v34 k0_t2) a + S128x1024.size a ≤ S2688x1024.size a), (Rect.unit (s := S2688x1024) (k0_off9 v10 v34 k0_t2) S128x1024.size hinb).PackedRows (EltTy.packing .bf16)) ∧
  (∀ (k0_h3 : k0_cond3 v12 = 1#1), (k0_t5_loop v34).OK) ∧
  (∀ k0_t5 : Fin (k0_t5_loop v34).trips, ∀ (k0_h3 : k0_cond3 v12 = 1#1), 16 ∣ (k0_mult7 v10 v34 k0_t5).toNat) ∧
  (∀ k0_t5 : Fin (k0_t5_loop v34).trips, ∀ (k0_h3 : k0_cond3 v12 = 1#1), ∀ a, (k0_off15 v10 v34 k0_t5) a + S128x1024.size a ≤ S2688x1024.size a) ∧
  (∀ k0_t5 : Fin (k0_t5_loop v34).trips, ∀ (k0_h3 : k0_cond3 v12 = 1#1), ∀ a, (k0_off16 v10 v34 k0_t5) a + S128x1.size a ≤ S2688x1.size a) ∧
  (∀ k0_t5 : Fin (k0_t5_loop v34).trips, ∀ (k0_h3 : k0_cond3 v12 = 1#1), ∀ (hinb : ∀ a, (k0_off15 v10 v34 k0_t5) a + S128x1024.size a ≤ S2688x1024.size a), (Rect.unit (s := S2688x1024) (k0_off15 v10 v34 k0_t5) S128x1024.size hinb).PackedRows (EltTy.packing .bf16)) ∧
  (∀ (k0_h3 : k0_cond3 v12 = 1#1), (k0_t6_loop v34).OK) ∧
  (∀ k0_t6 : Fin (k0_t6_loop v34).trips, ∀ (k0_h3 : k0_cond3 v12 = 1#1), 16 ∣ (k0_mult8 v10 v34 k0_t6).toNat) ∧
  (∀ k0_t6 : Fin (k0_t6_loop v34).trips, ∀ (k0_h3 : k0_cond3 v12 = 1#1), ∀ a, (k0_off17 v10 v34 k0_t6) a + S128x1024.size a ≤ S2688x1024.size a) ∧
  (∀ k0_t6 : Fin (k0_t6_loop v34).trips, ∀ (k0_h3 : k0_cond3 v12 = 1#1), ∀ a, (k0_off18 v10 v34 k0_t6) a + S128x1.size a ≤ S2688x1.size a) ∧
  (∀ k0_t6 : Fin (k0_t6_loop v34).trips, ∀ (k0_h3 : k0_cond3 v12 = 1#1), ∀ (hinb : ∀ a, (k0_off17 v10 v34 k0_t6) a + S128x1024.size a ≤ S2688x1024.size a), (Rect.unit (s := S2688x1024) (k0_off17 v10 v34 k0_t6) S128x1024.size hinb).PackedRows (EltTy.packing .bf16))
theorem k0_t1_ok : ∀ (v10 : BitVec 32) (v12 : BitVec 32) (v34 : BitVec 32) (k0_hw2 : k0_chk2 v10 v12 v34), ∀ (k0_h2 : k0_cond2 v12 = 1#1), (k0_t1_loop v34).OK := fun v10 v12 v34 k0_hw2 k0_h2 => k0_hw2.1 k0_h2
theorem k0_mult3_dvd : ∀ (v10 : BitVec 32) (v12 : BitVec 32) (v34 : BitVec 32) (k0_hw2 : k0_chk2 v10 v12 v34) (k0_t1 : Fin (k0_t1_loop v34).trips), ∀ (k0_h2 : k0_cond2 v12 = 1#1), 16 ∣ (k0_mult3 v10 v34 k0_t1).toNat := fun v10 v12 v34 k0_hw2 k0_t1 k0_h2 => k0_hw2.2.1 k0_t1 k0_h2
theorem k0_off7_inb : ∀ (v10 : BitVec 32) (v12 : BitVec 32) (v34 : BitVec 32) (k0_hw2 : k0_chk2 v10 v12 v34) (k0_t1 : Fin (k0_t1_loop v34).trips), ∀ (k0_h2 : k0_cond2 v12 = 1#1), ∀ a, (k0_off7 v10 v34 k0_t1) a + S128x1024.size a ≤ S2688x1024.size a := fun v10 v12 v34 k0_hw2 k0_t1 k0_h2 => k0_hw2.2.2.1 k0_t1 k0_h2
theorem k0_off8_inb : ∀ (v10 : BitVec 32) (v12 : BitVec 32) (v34 : BitVec 32) (k0_hw2 : k0_chk2 v10 v12 v34) (k0_t1 : Fin (k0_t1_loop v34).trips), ∀ (k0_h2 : k0_cond2 v12 = 1#1), ∀ a, (k0_off8 v10 v34 k0_t1) a + S128x1.size a ≤ S2688x1.size a := fun v10 v12 v34 k0_hw2 k0_t1 k0_h2 => k0_hw2.2.2.2.1 k0_t1 k0_h2
theorem k0_off7_packedbf16 : ∀ (v10 : BitVec 32) (v12 : BitVec 32) (v34 : BitVec 32) (k0_hw2 : k0_chk2 v10 v12 v34) (k0_t1 : Fin (k0_t1_loop v34).trips), ∀ (k0_h2 : k0_cond2 v12 = 1#1), (Rect.unit (s := S2688x1024) (k0_off7 v10 v34 k0_t1) S128x1024.size (k0_off7_inb v10 v12 v34 k0_hw2 k0_t1 k0_h2)).PackedRows (EltTy.packing .bf16) := fun v10 v12 v34 k0_hw2 k0_t1 k0_h2 => k0_hw2.2.2.2.2.1 k0_t1 k0_h2 (k0_off7_inb v10 v12 v34 k0_hw2 k0_t1 k0_h2)
theorem k0_t2_ok : ∀ (v10 : BitVec 32) (v12 : BitVec 32) (v34 : BitVec 32) (k0_hw2 : k0_chk2 v10 v12 v34), ∀ (k0_h2 : k0_cond2 v12 = 1#1), (k0_t2_loop v34).OK := fun v10 v12 v34 k0_hw2 k0_h2 => k0_hw2.2.2.2.2.2.1 k0_h2
theorem k0_mult4_dvd : ∀ (v10 : BitVec 32) (v12 : BitVec 32) (v34 : BitVec 32) (k0_hw2 : k0_chk2 v10 v12 v34) (k0_t2 : Fin (k0_t2_loop v34).trips), ∀ (k0_h2 : k0_cond2 v12 = 1#1), 16 ∣ (k0_mult4 v10 v34 k0_t2).toNat := fun v10 v12 v34 k0_hw2 k0_t2 k0_h2 => k0_hw2.2.2.2.2.2.2.1 k0_t2 k0_h2
theorem k0_off9_inb : ∀ (v10 : BitVec 32) (v12 : BitVec 32) (v34 : BitVec 32) (k0_hw2 : k0_chk2 v10 v12 v34) (k0_t2 : Fin (k0_t2_loop v34).trips), ∀ (k0_h2 : k0_cond2 v12 = 1#1), ∀ a, (k0_off9 v10 v34 k0_t2) a + S128x1024.size a ≤ S2688x1024.size a := fun v10 v12 v34 k0_hw2 k0_t2 k0_h2 => k0_hw2.2.2.2.2.2.2.2.1 k0_t2 k0_h2
theorem k0_off10_inb : ∀ (v10 : BitVec 32) (v12 : BitVec 32) (v34 : BitVec 32) (k0_hw2 : k0_chk2 v10 v12 v34) (k0_t2 : Fin (k0_t2_loop v34).trips), ∀ (k0_h2 : k0_cond2 v12 = 1#1), ∀ a, (k0_off10 v10 v34 k0_t2) a + S128x1.size a ≤ S2688x1.size a := fun v10 v12 v34 k0_hw2 k0_t2 k0_h2 => k0_hw2.2.2.2.2.2.2.2.2.1 k0_t2 k0_h2
theorem k0_off9_packedbf16 : ∀ (v10 : BitVec 32) (v12 : BitVec 32) (v34 : BitVec 32) (k0_hw2 : k0_chk2 v10 v12 v34) (k0_t2 : Fin (k0_t2_loop v34).trips), ∀ (k0_h2 : k0_cond2 v12 = 1#1), (Rect.unit (s := S2688x1024) (k0_off9 v10 v34 k0_t2) S128x1024.size (k0_off9_inb v10 v12 v34 k0_hw2 k0_t2 k0_h2)).PackedRows (EltTy.packing .bf16) := fun v10 v12 v34 k0_hw2 k0_t2 k0_h2 => k0_hw2.2.2.2.2.2.2.2.2.2.1 k0_t2 k0_h2 (k0_off9_inb v10 v12 v34 k0_hw2 k0_t2 k0_h2)
theorem k0_t5_ok : ∀ (v10 : BitVec 32) (v12 : BitVec 32) (v34 : BitVec 32) (k0_hw2 : k0_chk2 v10 v12 v34), ∀ (k0_h3 : k0_cond3 v12 = 1#1), (k0_t5_loop v34).OK := fun v10 v12 v34 k0_hw2 k0_h3 => k0_hw2.2.2.2.2.2.2.2.2.2.2.1 k0_h3
theorem k0_mult7_dvd : ∀ (v10 : BitVec 32) (v12 : BitVec 32) (v34 : BitVec 32) (k0_hw2 : k0_chk2 v10 v12 v34) (k0_t5 : Fin (k0_t5_loop v34).trips), ∀ (k0_h3 : k0_cond3 v12 = 1#1), 16 ∣ (k0_mult7 v10 v34 k0_t5).toNat := fun v10 v12 v34 k0_hw2 k0_t5 k0_h3 => k0_hw2.2.2.2.2.2.2.2.2.2.2.2.1 k0_t5 k0_h3
theorem k0_off15_inb : ∀ (v10 : BitVec 32) (v12 : BitVec 32) (v34 : BitVec 32) (k0_hw2 : k0_chk2 v10 v12 v34) (k0_t5 : Fin (k0_t5_loop v34).trips), ∀ (k0_h3 : k0_cond3 v12 = 1#1), ∀ a, (k0_off15 v10 v34 k0_t5) a + S128x1024.size a ≤ S2688x1024.size a := fun v10 v12 v34 k0_hw2 k0_t5 k0_h3 => k0_hw2.2.2.2.2.2.2.2.2.2.2.2.2.1 k0_t5 k0_h3
theorem k0_off16_inb : ∀ (v10 : BitVec 32) (v12 : BitVec 32) (v34 : BitVec 32) (k0_hw2 : k0_chk2 v10 v12 v34) (k0_t5 : Fin (k0_t5_loop v34).trips), ∀ (k0_h3 : k0_cond3 v12 = 1#1), ∀ a, (k0_off16 v10 v34 k0_t5) a + S128x1.size a ≤ S2688x1.size a := fun v10 v12 v34 k0_hw2 k0_t5 k0_h3 => k0_hw2.2.2.2.2.2.2.2.2.2.2.2.2.2.1 k0_t5 k0_h3
theorem k0_off15_packedbf16 : ∀ (v10 : BitVec 32) (v12 : BitVec 32) (v34 : BitVec 32) (k0_hw2 : k0_chk2 v10 v12 v34) (k0_t5 : Fin (k0_t5_loop v34).trips), ∀ (k0_h3 : k0_cond3 v12 = 1#1), (Rect.unit (s := S2688x1024) (k0_off15 v10 v34 k0_t5) S128x1024.size (k0_off15_inb v10 v12 v34 k0_hw2 k0_t5 k0_h3)).PackedRows (EltTy.packing .bf16) := fun v10 v12 v34 k0_hw2 k0_t5 k0_h3 => k0_hw2.2.2.2.2.2.2.2.2.2.2.2.2.2.2.1 k0_t5 k0_h3 (k0_off15_inb v10 v12 v34 k0_hw2 k0_t5 k0_h3)
theorem k0_t6_ok : ∀ (v10 : BitVec 32) (v12 : BitVec 32) (v34 : BitVec 32) (k0_hw2 : k0_chk2 v10 v12 v34), ∀ (k0_h3 : k0_cond3 v12 = 1#1), (k0_t6_loop v34).OK := fun v10 v12 v34 k0_hw2 k0_h3 => k0_hw2.2.2.2.2.2.2.2.2.2.2.2.2.2.2.2.1 k0_h3
theorem k0_mult8_dvd : ∀ (v10 : BitVec 32) (v12 : BitVec 32) (v34 : BitVec 32) (k0_hw2 : k0_chk2 v10 v12 v34) (k0_t6 : Fin (k0_t6_loop v34).trips), ∀ (k0_h3 : k0_cond3 v12 = 1#1), 16 ∣ (k0_mult8 v10 v34 k0_t6).toNat := fun v10 v12 v34 k0_hw2 k0_t6 k0_h3 => k0_hw2.2.2.2.2.2.2.2.2.2.2.2.2.2.2.2.2.1 k0_t6 k0_h3
theorem k0_off17_inb : ∀ (v10 : BitVec 32) (v12 : BitVec 32) (v34 : BitVec 32) (k0_hw2 : k0_chk2 v10 v12 v34) (k0_t6 : Fin (k0_t6_loop v34).trips), ∀ (k0_h3 : k0_cond3 v12 = 1#1), ∀ a, (k0_off17 v10 v34 k0_t6) a + S128x1024.size a ≤ S2688x1024.size a := fun v10 v12 v34 k0_hw2 k0_t6 k0_h3 => k0_hw2.2.2.2.2.2.2.2.2.2.2.2.2.2.2.2.2.2.1 k0_t6 k0_h3
theorem k0_off18_inb : ∀ (v10 : BitVec 32) (v12 : BitVec 32) (v34 : BitVec 32) (k0_hw2 : k0_chk2 v10 v12 v34) (k0_t6 : Fin (k0_t6_loop v34).trips), ∀ (k0_h3 : k0_cond3 v12 = 1#1), ∀ a, (k0_off18 v10 v34 k0_t6) a + S128x1.size a ≤ S2688x1.size a := fun v10 v12 v34 k0_hw2 k0_t6 k0_h3 => k0_hw2.2.2.2.2.2.2.2.2.2.2.2.2.2.2.2.2.2.2.1 k0_t6 k0_h3
theorem k0_off17_packedbf16 : ∀ (v10 : BitVec 32) (v12 : BitVec 32) (v34 : BitVec 32) (k0_hw2 : k0_chk2 v10 v12 v34) (k0_t6 : Fin (k0_t6_loop v34).trips), ∀ (k0_h3 : k0_cond3 v12 = 1#1), (Rect.unit (s := S2688x1024) (k0_off17 v10 v34 k0_t6) S128x1024.size (k0_off17_inb v10 v12 v34 k0_hw2 k0_t6 k0_h3)).PackedRows (EltTy.packing .bf16) := fun v10 v12 v34 k0_hw2 k0_t6 k0_h3 => k0_hw2.2.2.2.2.2.2.2.2.2.2.2.2.2.2.2.2.2.2.2 k0_t6 k0_h3 (k0_off17_inb v10 v12 v34 k0_hw2 k0_t6 k0_h3)

def k0_cond4 (i : grid0.Coords) : BitVec 1 :=
  let arg1 : BitVec 32 := BitVec.ofNat 32 (i 1).val
  let c15_i32 : BitVec 32 := 15#32
  let v60 : BitVec 1 := Scalar.cmpi .eq arg1 c15_i32
  let v61 : BitVec 32 := Scalar.extui v60
  let c0_i32_23 : BitVec 32 := 0#32
  let v62 : BitVec 1 := Scalar.cmpi .ne v61 c0_i32_23
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MixtureIdeal.lean ====
abbrev S32768x1024 : Shape := ⟨2, ![32768, 1024]⟩
abbrev S32x2x1024 : Shape := ⟨3, ![32, 2, 1024]⟩
abbrev S1024 : Shape := ⟨1, ![1024]⟩
abbrev S32x1024x256 : Shape := ⟨3, ![32, 1024, 256]⟩
abbrev S32x256x1024 : Shape := ⟨3, ![32, 256, 1024]⟩
abbrev S32x2x1024x1 : Shape := ⟨4, ![32, 2, 1024, 1]⟩
abbrev S1x1x1x32 : Shape := ⟨4, ![1, 1, 1, 32]⟩
abbrev S32x2x1024x32 : Shape := ⟨4, ![32, 2, 1024, 32]⟩
abbrev S_ : Shape := ⟨0, ![]⟩
abbrev S32x1024x32 : Shape := ⟨3, ![32, 1024, 32]⟩
abbrev S32768x32 : Shape := ⟨2, ![32768, 32]⟩
abbrev S32x256x32768 : Shape := ⟨3, ![32, 256, 32768]⟩
abbrev S32x32768x256 : Shape := ⟨3, ![32, 32768, 256]⟩
abbrev S32x32768x1024 : Shape := ⟨3, ![32, 32768, 1024]⟩
abbrev S32x32768 : Shape := ⟨2, ![32, 32768]⟩
abbrev S32x32768x1 : Shape := ⟨3, ![32, 32768, 1]⟩
abbrev S32768 : Shape := ⟨1, ![32768]⟩
abbrev S32768x1 : Shape := ⟨2, ![32768, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32x2x1024, .i32⟩
  | .hbm, ⟨3, _⟩ => ⟨S32x2x1024, .i32⟩
  | .hbm, ⟨4, _⟩ => ⟨S32x2x1024, .f32⟩
  | .hbm, ⟨5, _⟩ => ⟨S1024, .i32⟩
  | .hbm, ⟨6, _⟩ => ⟨S1024, .i32⟩
  | .hbm, ⟨7, _⟩ => ⟨S32x1024x256, .f32⟩
  | .hbm, ⟨8, _⟩ => ⟨S32x1024x256, .f32⟩
  | .hbm, ⟨9, _⟩ => ⟨S32x256x1024, .f32⟩
  | .hbm, ⟨10, _⟩ => ⟨S1024, .f32⟩
  | .hbm, ⟨11, _⟩ => ⟨S32x2x1024x1, .i32⟩
  | .hbm, ⟨12, _⟩ => ⟨S1x1x1x32, .i32⟩
  | .hbm, ⟨13, _⟩ => ⟨S32x2x1024x32, .i32⟩
  | .hbm, ⟨14, _⟩ => ⟨S32x2x1024x32, .i32⟩
  | .hbm, ⟨15, _⟩ => ⟨S32x2x1024x32, .i1⟩
  | .hbm, ⟨16, _⟩ => ⟨S32x2x1024x32, .f32⟩
  | .hbm, ⟨17, _⟩ => ⟨S32x2x1024x1, .f32⟩
  | .hbm, ⟨18, _⟩ => ⟨S32x2x1024x32, .f32⟩
  | .hbm, ⟨19, _⟩ => ⟨S32x2x1024x32, .f32⟩
  | .hbm, ⟨20, _⟩ => ⟨S_, .f32⟩
  | .hbm, ⟨21, _⟩ => ⟨S32x1024x32, .f32⟩
  | .hbm, ⟨22, _⟩ => ⟨S32768x32, .f32⟩
  | .hbm, ⟨23, _⟩ => ⟨S32x256x32768, .f32⟩
  | .hbm, ⟨24, _⟩ => ⟨S32x32768x256, .f32⟩
  | .hbm, ⟨25, _⟩ => ⟨S32x256x32768, .f32⟩
  | .hbm, ⟨26, _⟩ => ⟨S32x32768x256, .f32⟩
  | .hbm, ⟨27, _⟩ => ⟨S32x32768x256, .f32⟩
  | .hbm, ⟨28, _⟩ => ⟨S32x32768x256, .f32⟩
  | .hbm, ⟨29, _⟩ => ⟨S_, .f32⟩
  | .hbm, ⟨30, _⟩ => ⟨S32x32768x256, .f32⟩
  | .hbm, ⟨31, _⟩ => ⟨S32x32768x256, .f32⟩
  | .hbm, ⟨32, _⟩ => ⟨S_, .f32⟩
  | .hbm, ⟨33, _⟩ => ⟨S32x32768x256, .f32⟩
  | .hbm, ⟨34, _⟩ => ⟨S32x32768x256, .f32⟩
  | .hbm, ⟨35, _⟩ => ⟨S32x32768x256, .f32⟩
  | .hbm, ⟨36, _⟩ => ⟨S32x32768x256, .f32⟩
  | .hbm, ⟨37, _⟩ => ⟨S32x32768x1024, .f32⟩
  | .hbm, ⟨38, _⟩ => ⟨S32x32768, .f32⟩
  | .hbm, ⟨39, _⟩ => ⟨S32x32768x1, .f32⟩
  | .hbm, ⟨40, _⟩ => ⟨S32x32768x1024, .f32⟩
  | .hbm, ⟨41, _⟩ => ⟨S32x32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_cst_2 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩

abbrev nD : Nat := 1
abbrev τ : Topo := Topo.v7x

variable {F : FTy → Type} [FloatOps F]
-- ==== Proof.Tile.lean ====
/-
  The attention kernel's pass over the keys, tile by tile, in closed form, for any values. Keys and values come in 32
  chunks of 512; tile `t` is chunks `2t` and `2t + 1`. Per query column the kernel keeps a running maximum, `mm`, and a
  running weighted sum `acc` of the value rows (the ones rows below them carry the sum of the weights); a tile's own
  maximum is `tm`, and the sums are brought to the new maximum before the tile is added.
-/
module

public import proofs.«01_k».proof.Proof.Gen.KernelIdeal.Frame.Runs
public import Idealize.ShloMosaic.Lib.HeldBySlice
public import Idealize.ShloMosaic.Lib.Pipeline.Value
public import Idealize.ShloMosaic.Lib.Pipeline.RowLoads

@[expose] public section

set_option maxRecDepth 16384

noncomputable section

namespace Cert.Proof.Attn

open Cert.KernelIdeal Cert.KernelIdeal.Gen
open Idealize.ShloMosaic Idealize.SL.Sem

variable {F : FTy → Type} [FloatOps F]

theorem keys_inb (n : ℕ) : ∀ a, (![0, 0, 512 * (n % 32), 0] : Fin 4 → ℕ) a + S1x1x512x128.size a ≤ S1x1x16384x128.size a := by
  intro a; fin_cases a <;> simp [S1x1x512x128, S1x1x16384x128]; omega

theorem vals_inb (n : ℕ) : ∀ a, (![0, 0, 0, 512 * (n % 32)] : Fin 4 → ℕ) a + S1x1x80x512.size a ≤ S1x1x80x16384.size a := by
  intro a; fin_cases a <;> simp [S1x1x80x512, S1x1x80x16384]; omega

/-- Chunk `n` of the keys, -/
def keys (x1 : Vec F S1x1x16384x128 .bf16) (n : ℕ) : Vec F S1x1x512x128 .bf16 :=
  View.ld x1 (Rect.unit (s := S1x1x16384x128) ![0, 0, 512 * (n % 32), 0] S1x1x512x128.size (keys_inb n))

/-- and of the values. -/
def vals (x2 : Vec F S1x1x80x16384 .bf16) (n : ℕ) : Vec F S1x1x80x512 .bf16 :=
  View.ld x2 (Rect.unit (s := S1x1x80x16384) ![0, 0, 0, 512 * (n % 32)] S1x1x80x512.size (vals_inb n))

/-- The scores of chunk `n` against the queries `q`: a row per key. -/
def sc (q : FVec F S128x512 .bf16) (x1 : Vec F S1x1x16384x128 .bf16) (n : ℕ) : FVec F S512x512 .f32 :=
  matmul dot_S512x128_S128x512_S512x512_1_0_0_1_n_n none (shapeCast S512x128 (keys x1 n) shapeCasts_S1x1x512x128_S512x128) q (constant S512x512 .f32 0x00000000#32)

/-- A maximum brought up to date with a chunk of scores. -/
def up (m : FVec F S1x512 .f32) (s : FVec F S512x512 .f32) : FVec F S1x512 .f32 :=
  maximumf m (shapeCast S1x512 (multiReduction .maximumf [0] S512 s 0xFF800000#32 reduces_S512x512_S512 (.inl rfl) rfl) shapeCasts_S512_S1x512)

/-- What every maximum starts from. -/
def low : FVec F S1x512 .f32 := broadcast S1x512 (Scalar.ofBits .f32 0xF149F2CA#32)

/-- Tile `t`'s own maximum. -/
def tm (q : FVec F S128x512 .bf16) (x1 : Vec F S1x1x16384x128 .bf16) (t : ℕ) : FVec F S1x512 .f32 :=
  up (up low (sc q x1 (2 * t))) (sc q x1 (2 * t + 1))

/-- The running maximum before tile `t`. -/
def mm (q : FVec F S128x512 .bf16) (x1 : Vec F S1x1x16384x128 .bf16) : ℕ → FVec F S1x512 .f32
  | 0 => low
  | t + 1 => maximumf (mm q x1 t) (tm q x1 t)

/-- A chunk's weights at the maximum `m`. -/
def wt (s : FVec F S512x512 .f32) (m : FVec F S1x512 .f32) : FVec F S512x512 .bf16 :=
  exp2 (truncf .bf16 (subf s (broadcastTo S512x512 m broadcasts_S1x512_S512x512)) bitsLt_bf16_f32)

/-- A chunk's weighted sum of its value rows. -/
def pv (v : Vec F S1x1x80x512 .bf16) (s : FVec F S512x512 .f32) (m : FVec F S1x512 .f32) : FVec F S80x512 .f32 :=
  matmul dot_S80x512_S512x512_S80x512_1_0_0_1_n_n none (shapeCast S80x512 v shapeCasts_S1x1x80x512_S80x512) (wt s m) (constant S80x512 .f32 0x00000000#32)

/-- The sums brought from the maximum `m` to `m'`. -/
def corr (m m' : FVec F S1x512 .f32) (a : FVec F S80x512 .f32) : FVec F S80x512 .f32 :=
  mulf (broadcastTo S80x512 (exp2 (subf m m')) broadcasts_S1x512_S80x512) a

/-- The running sums before tile `t`. -/
def acc (q : FVec F S128x512 .bf16) (x1 : Vec F S1x1x16384x128 .bf16) (x2 : Vec F S1x1x80x16384 .bf16) : ℕ → FVec F S80x512 .f32
  | 0 => broadcast S80x512 (Scalar.ofBits .f32 0x00000000#32)
  | t + 1 => addf (addf (corr (mm q x1 t) (mm q x1 (t + 1)) (acc q x1 x2 t)) (pv (vals x2 (2 * t)) (sc q x1 (2 * t)) (mm q x1 (t + 1))))
      (pv (vals x2 (2 * t + 1)) (sc q x1 (2 * t + 1)) (mm q x1 (t + 1)))

/-- The block of queries as the products read it. -/
def qm (x0 : Vec F S1x1x128x512 .bf16) : FVec F S128x512 .bf16 := shapeCast S128x512 x0 shapeCasts_S1x1x128x512_S128x512

/-- What is left of the sums at the end: the value rows over the sum of the weights. -/
def fin (a : FVec F S80x512 .f32) : Vec F S1x64x512 .bf16 :=
  shapeCast S1x64x512 (truncf .bf16 (divf (extractStridedSlice S64x512 ![0, 0] a slices_S80x512_o0_0_S64x512)
    (broadcastTo S64x512 (extractStridedSlice S1x512 ![64, 0] a slices_S80x512_o64_0_S1x512) broadcasts_S1x512_S64x512)) bitsLt_bf16_f32) shapeCasts_S64x512_S1x64x512

/-- THE BLOCK a grid point leaves. -/
def out (x0 : Vec F S1x1x128x512 .bf16) (x1 : Vec F S1x1x16384x128 .bf16) (x2 : Vec F S1x1x80x16384 .bf16) : Vec F S1x64x512 .bf16 :=
  fin (acc (qm x0) x1 x2 16)

/-! ## Reading the memrefs -/

open Idealize.ShloMosaic.Tactic

/-- A load of chunk `n` of the keys, however its offset is spelled. -/
theorem load_keys (arg4 : Memref sig .tc .vmem S1x1x16384x128 .bf16) (harg4 : arg4.IsWhole) (x1 : Vec F S1x1x16384x128 .bf16) (n : ℕ)
    (off : Fin 4 → ℕ) (inb) (h : off = ![0, 0, 512 * (n % 32), 0]) :
    View.readAt (Elt F) arg4.view (Rect.unit (s := S1x1x16384x128) off S1x1x512x128.size inb).toLoadRect (harg4.unread x1) = keys x1 n := by
  subst h; rw [View.readAt_eq_ld, harg4.read_unread]; rfl

/-- The same of the values. -/
theorem load_vals (arg5 : Memref sig .tc .vmem S1x1x80x16384 .bf16) (harg5 : arg5.IsWhole) (x2 : Vec F S1x1x80x16384 .bf16) (n : ℕ)
    (off : Fin 4 → ℕ) (inb) (h : off = ![0, 0, 0, 512 * (n % 32)]) :
    View.readAt (Elt F) arg5.view (Rect.unit (s := S1x1x80x16384) off S1x1x80x512.size inb).toLoadRect (harg5.unread x2) = vals x2 n := by
  subst h; rw [View.readAt_eq_ld, harg5.read_unread]; rfl

/-- The upper half of a score scratch, -/
abbrev lo : Rect S1024x512 := Rect.unit (s := S1024x512) ![0, 0] S512x512.size inb_S1024x512_S512x512_0_0
/-- and the lower. -/
abbrev hi : Rect S1024x512 := Rect.unit (s := S1024x512) ![512, 0] S512x512.size inb_S1024x512_S512x512_512_0

/-- What both halves' stores leave, covered loads, -/
theorem cov_hi (v : View sig .tc .vmem S1024x512 .f32) (a b : Vec F S512x512 .f32) :
    v.readCov [(⟨hi, b⟩ : View.Piece (Elt F) S1024x512 .f32), ⟨lo, a⟩] hi.toLoadRect = b :=
  View.readCov_cons_toLoadRect v hi b _

theorem cov_lo (v : View sig .tc .vmem S1024x512 .f32) (a b : Vec F S512x512 .f32) :
    v.readCov [(⟨hi, b⟩ : View.Piece (Elt F) S1024x512 .f32), ⟨lo, a⟩] lo.toLoadRect = a := by
  rw [show v.readCov [(⟨hi, b⟩ : View.Piece (Elt F) S1024x512 .f32), ⟨lo, a⟩] lo.toLoadRect = v.readCov [(⟨lo, a⟩ : View.Piece (Elt F) S1024x512 .f32)] lo.toLoadRect from
    View.readCov_cons_of_rows_disjoint (k := 512) (k' := 512) v 512 0 (Or.inr (by omega)) b _ inb_S1024x512_S512x512_512_0 inb_S1024x512_S512x512_0_0]
  exact View.readCov_cons_toLoadRect v lo a _

/-- and loads over any contents. -/
theorem read_hi (v : View sig .tc .vmem S1024x512 .f32) (f) (a b : Vec F S512x512 .f32) :
    v.readAt (Elt F) hi.toLoadRect (v.writes (Elt F) f [(⟨hi, b⟩ : View.Piece (Elt F) S1024x512 .f32), ⟨lo, a⟩]) = b := by
  rw [View.readAt_writes_eq_of_cover v f v.junk _ _ fun j => ⟨⟨hi, b⟩, .head _, LoadRect.idx_mem _ j⟩]
  exact cov_hi v a b

theorem read_lo (v : View sig .tc .vmem S1024x512 .f32) (f) (a b : Vec F S512x512 .f32) :
    v.readAt (Elt F) lo.toLoadRect (v.writes (Elt F) f [(⟨hi, b⟩ : View.Piece (Elt F) S1024x512 .f32), ⟨lo, a⟩]) = a := by
  rw [View.readAt_writes_eq_of_cover v f v.junk _ _ fun j => ⟨⟨lo, a⟩, .tail _ (.head _), LoadRect.idx_mem _ j⟩]
  exact cov_lo v a b

/-- A score scratch holds tile `t`. -/
def Holds (v : View sig .tc .vmem S1024x512 .f32) (q : FVec F S128x512 .bf16) (x1 : Vec F S1x1x16384x128 .bf16) (f : v.ty.Contents (Elt F)) (t : ℕ) : Prop :=
  v.readAt (Elt F) lo.toLoadRect f = sc q x1 (2 * t) ∧ v.readAt (Elt F) hi.toLoadRect f = sc q x1 (2 * t + 1)

theorem holds_writes (v : View sig .tc .vmem S1024x512 .f32) (q : FVec F S128x512 .bf16) (x1 : Vec F S1x1x16384x128 .bf16) (f) (t : ℕ) (a b : Vec F S512x512 .f32)
    (ha : a = sc q x1 (2 * t)) (hb : b = sc q x1 (2 * t + 1)) :
    Holds v q x1 (v.writes (Elt F) f [(⟨hi, b⟩ : View.Piece (Elt F) S1024x512 .f32), ⟨lo, a⟩]) t :=
  ⟨(read_lo v f a b).trans ha, (read_hi v f a b).trans hb⟩

/-- A score block stored as it is. -/
theorem cast_sc (s : FVec F S512x512 .f32) : shapeCast S512x512 s shapeCasts_S512x512_S512x512 = s := by
  exact shapeCast_self ..

end Cert.Proof.Attn

end
-- ==== Proof.Trip.lean ====
/-
  One trip of the attention kernel's loop and the four together: a trip takes tiles `3k`, `3k + 1` and `3k + 2` into the
  sums and prepares the scores of the next three. Before it the first score scratch holds tile `3k` and the second tile
  `3k + 1`; the third is written before it is read.
-/
module

public import proofs.«01_k».proof.Proof.Tile

@[expose] public section

set_option maxRecDepth 16384

noncomputable section

namespace Cert.Proof.Attn

open Cert.KernelIdeal Cert.KernelIdeal.Gen
open Idealize.ShloMosaic Idealize.ShloMosaic.TcCoe Idealize.SL.Sem Idealize.ShloMosaic.Tactic

variable {F : FTy → Type} [FloatOps F]

/-- A stored block of scores. -/
theorem stored (q : FVec F S128x512 .bf16) (x1 : Vec F S1x1x16384x128 .bf16) (n : ℕ) : k0_pay3 q (keys x1 n) = sc q x1 n := cast_sc _

theorem tm_eq (q : FVec F S128x512 .bf16) (x1 : Vec F S1x1x16384x128 .bf16) (n : ℕ) :
    k0_pay16 q low (keys x1 (2 * n)) (keys x1 (2 * n + 1)) = tm q x1 n := rfl

theorem mm_succ (q : FVec F S128x512 .bf16) (x1 : Vec F S1x1x16384x128 .bf16) (n : ℕ) : mm q x1 (n + 1) = maximumf (mm q x1 n) (tm q x1 n) := rfl

theorem acc_succ (q : FVec F S128x512 .bf16) (x1 : Vec F S1x1x16384x128 .bf16) (x2 : Vec F S1x1x80x16384 .bf16) (t : ℕ) :
    acc q x1 x2 (t + 1) = addf (addf (corr (mm q x1 t) (mm q x1 (t + 1)) (acc q x1 x2 t)) (pv (vals x2 (2 * t)) (sc q x1 (2 * t)) (mm q x1 (t + 1))))
      (pv (vals x2 (2 * t + 1)) (sc q x1 (2 * t + 1)) (mm q x1 (t + 1))) := rfl

variable (𝒱 : Variants) (c : Dev nD) (bd : Option 𝒱.V) (i : grid0.Coords) (arg3 : Memref sig .tc .vmem S1x1x128x512 .bf16) (harg3 : arg3.IsWhole) (arg4 : Memref sig .tc .vmem S1x1x16384x128 .bf16) (harg4 : arg4.IsWhole) (arg5 : Memref sig .tc .vmem S1x1x80x16384 .bf16) (harg5 : arg5.IsWhole) (arg6 : Memref sig .tc .vmem S1x64x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole)
variable (q : FVec F S128x512 .bf16) (x1 : Vec F S1x1x16384x128 .bf16) (x2 : Vec F S1x1x80x16384 .bf16)

/-- What the loop carries before tile `n`. -/
def st (n : ℕ) : FVec F S1x512 .f32 × FVec F S80x512 .f32 × FVec F S1x512 .f32 × FVec F S1x512 .f32 :=
  (mm q x1 n, acc q x1 x2 n, tm q x1 n, tm q x1 (n + 1))

/-- The loads of a trip: the keys of the three tiles it prepares, -/
theorem trip_keys (k : Fin k0_t1_loop.trips) (r₁ : Fin 3) (r₂ : Fin 2) :
    View.readAt (Elt F) arg4.view (Rect.unit (s := S1x1x16384x128) (k0_off1 k (BitVec.ofNat 32 (2 + r₁.val)) (BitVec.ofNat 32 (512 * r₂.val))) S1x1x512x128.size (k0_off1_inb k r₁ r₂)).toLoadRect (harg4.unread x1)
      = keys x1 (2 * (3 * k.val + (2 + r₁.val)) + r₂.val) := by
  have hk : k.val < 4 := Nat.lt_of_lt_of_le k.isLt k0_t1_abs.2.1
  refine load_keys arg4 harg4 x1 _ _ _ ((k0_off1_eq k r₁ r₂).trans ?_)
  congr 3; omega

/-- the values of the first of the three it takes in, -/
theorem trip_vals (k : Fin k0_t1_loop.trips) (r : Fin 2) :
    View.readAt (Elt F) arg5.view (Rect.unit (s := S1x1x80x16384) (k0_off2 k (BitVec.ofNat 32 (512 * r.val))) S1x1x80x512.size (k0_off2_inb k r)).toLoadRect (harg5.unread x2)
      = vals x2 (2 * (3 * k.val) + r.val) := by
  have hk : k.val < 4 := Nat.lt_of_lt_of_le k.isLt k0_t1_abs.2.1
  refine load_vals arg5 harg5 x2 _ _ _ ((k0_off2_eq k r).trans ?_)
  congr 4; omega

/-- and of the other two. -/
theorem trip_vals' (k : Fin k0_t1_loop.trips) (r₁ r₂ : Fin 2) :
    View.readAt (Elt F) arg5.view (Rect.unit (s := S1x1x80x16384) (k0_off3 k (BitVec.ofNat 32 (1 + r₁.val)) (BitVec.ofNat 32 (512 * r₂.val))) S1x1x80x512.size (k0_off3_inb k r₁ r₂)).toLoadRect (harg5.unread x2)
      = vals x2 (2 * (3 * k.val + (1 + r₁.val)) + r₂.val) := by
  have hk : k.val < 4 := Nat.lt_of_lt_of_le k.isLt k0_t1_abs.2.1
  refine load_vals arg5 harg5 x2 _ _ _ ((k0_off3_eq k r₁ r₂).trans ?_)
  congr 4; omega

variable (v3 : FVec F S80x512 .f32) (v25 : FVec F S1x512 .f32) (v28 : Vec F S1x1x512x128 .bf16)

/-- What a trip yields. -/
theorem trip_yields (k : Fin k0_t1_loop.trips) (f7 f8 f9) (h7 : Holds arg7.view q x1 f7 (3 * k.val)) (h8 : Holds arg8.view q x1 f8 (3 * k.val + 1)) :
    tripR_k0_t1 (F := F) 𝒱 c bd i arg3 harg3 arg4 harg4 arg5 harg5 arg6 harg6 arg7 harg7 arg8 harg8 arg9 harg9 q low v3 v25 v28 (harg4.unread x1) (harg5.unread x2) k (st q x1 x2 (3 * k.val)) f7 f8 f9
      = st q x1 x2 (3 * (k.val + 1)) := by
  have k20 : View.readAt (Elt F) arg4.view (Rect.unit (s := S1x1x16384x128) (k0_off1 k 2#32 0#32) S1x1x512x128.size (k0_off1_inb k 0 0)).toLoadRect (harg4.unread x1)
      = keys x1 (2 * (3 * k.val + 2)) := trip_keys arg4 harg4 x1 k 0 0
  have k21 : View.readAt (Elt F) arg4.view (Rect.unit (s := S1x1x16384x128) (k0_off1 k 2#32 512#32) S1x1x512x128.size (k0_off1_inb k 0 1)).toLoadRect (harg4.unread x1)
      = keys x1 (2 * (3 * k.val + 2) + 1) := trip_keys arg4 harg4 x1 k 0 1
  have k30 : View.readAt (Elt F) arg4.view (Rect.unit (s := S1x1x16384x128) (k0_off1 k 3#32 0#32) S1x1x512x128.size (k0_off1_inb k 1 0)).toLoadRect (harg4.unread x1)
      = keys x1 (2 * (3 * k.val + 3)) := trip_keys arg4 harg4 x1 k 1 0
  have k31 : View.readAt (Elt F) arg4.view (Rect.unit (s := S1x1x16384x128) (k0_off1 k 3#32 512#32) S1x1x512x128.size (k0_off1_inb k 1 1)).toLoadRect (harg4.unread x1)
      = keys x1 (2 * (3 * k.val + 3) + 1) := trip_keys arg4 harg4 x1 k 1 1
  have k40 : View.readAt (Elt F) arg4.view (Rect.unit (s := S1x1x16384x128) (k0_off1 k 4#32 0#32) S1x1x512x128.size (k0_off1_inb k 2 0)).toLoadRect (harg4.unread x1)
      = keys x1 (2 * (3 * k.val + 4)) := trip_keys arg4 harg4 x1 k 2 0
  have k41 : View.readAt (Elt F) arg4.view (Rect.unit (s := S1x1x16384x128) (k0_off1 k 4#32 512#32) S1x1x512x128.size (k0_off1_inb k 2 1)).toLoadRect (harg4.unread x1)
      = keys x1 (2 * (3 * k.val + 4) + 1) := trip_keys arg4 harg4 x1 k 2 1
  have w00 : View.readAt (Elt F) arg5.view (Rect.unit (s := S1x1x80x16384) (k0_off2 k 0#32) S1x1x80x512.size (k0_off2_inb k 0)).toLoadRect (harg5.unread x2)
      = vals x2 (2 * (3 * k.val)) := trip_vals arg5 harg5 x2 k 0
  have w01 : View.readAt (Elt F) arg5.view (Rect.unit (s := S1x1x80x16384) (k0_off2 k 512#32) S1x1x80x512.size (k0_off2_inb k 1)).toLoadRect (harg5.unread x2)
      = vals x2 (2 * (3 * k.val) + 1) := trip_vals arg5 harg5 x2 k 1
  have w10 : View.readAt (Elt F) arg5.view (Rect.unit (s := S1x1x80x16384) (k0_off3 k 1#32 0#32) S1x1x80x512.size (k0_off3_inb k 0 0)).toLoadRect (harg5.unread x2)
      = vals x2 (2 * (3 * k.val + 1)) := trip_vals' arg5 harg5 x2 k 0 0
  have w11 : View.readAt (Elt F) arg5.view (Rect.unit (s := S1x1x80x16384) (k0_off3 k 1#32 512#32) S1x1x80x512.size (k0_off3_inb k 0 1)).toLoadRect (harg5.unread x2)
      = vals x2 (2 * (3 * k.val + 1) + 1) := trip_vals' arg5 harg5 x2 k 0 1
  have w20 : View.readAt (Elt F) arg5.view (Rect.unit (s := S1x1x80x16384) (k0_off3 k 2#32 0#32) S1x1x80x512.size (k0_off3_inb k 1 0)).toLoadRect (harg5.unread x2)
      = vals x2 (2 * (3 * k.val + 2)) := trip_vals' arg5 harg5 x2 k 1 0
  have w21 : View.readAt (Elt F) arg5.view (Rect.unit (s := S1x1x80x16384) (k0_off3 k 2#32 512#32) S1x1x80x512.size (k0_off3_inb k 1 1)).toLoadRect (harg5.unread x2)
      = vals x2 (2 * (3 * k.val + 2) + 1) := trip_vals' arg5 harg5 x2 k 1 1
  obtain ⟨h7a, h7b⟩ := h7
  obtain ⟨h8a, h8b⟩ := h8
  unfold tripR_k0_t1 trip_k0_t1
  dsimp only
  unfold trip_k0_t1.sl.r_12 trip_k0_t1.sl.r_13 trip_k0_t1.sl.r_7 trip_k0_t1.sl.r_8 trip_k0_t1.sl.v353 trip_k0_t1.sl.v379 trip_k0_t1.sl.r_9 trip_k0_t1.sl.r_11 trip_k0_t1.sl.r_3 trip_k0_t1.sl.r_4
  unfold trip_k0_t1.sl.r_10 trip_k0_t1.sl.r_6 trip_k0_t1.sl.r_1 trip_k0_t1.sl.r trip_k0_t1.sl.HW_arg9_2
  unfold trip_k0_t1.sl.r_5 trip_k0_t1.sl.r_4
  unfold trip_k0_t1.sl.r_2 trip_k0_t1.sl.r
  have c0 := cov_lo arg9.view (sc q x1 (2 * (3 * k.val + 2))) (sc q x1 (2 * (3 * k.val + 2) + 1))
  have c1 := cov_hi arg9.view (sc q x1 (2 * (3 * k.val + 2))) (sc q x1 (2 * (3 * k.val + 2) + 1))
  dsimp only [lo, hi] at c0 c1 h7a h7b h8a h8b
  simp only [k20, k21, k30, k31, k40, k41, w00, w01, w10, w11, w20, w21]
  simp only [c0, c1, h7a, h7b, h8a, h8b, stored, show k0_pay7 q (keys x1 (2 * (3 * k.val + 2) + 1)) = sc q x1 (2 * (3 * k.val + 2) + 1) from cast_sc _]
  rw [show 3 * (k.val + 1) = 3 * k.val + 3 by omega]
  generalize 3 * k.val = n
  rfl

/-- What a trip leaves in the first two score scratches: the next tiles. -/
theorem trip_leaves (k : Fin k0_t1_loop.trips) (a) (f7 f8 f9) :
    Holds arg7.view q x1 (arg7.view.writes (Elt F) f7 (tripL_k0_t1 (F := F) 𝒱 c bd i arg3 harg3 arg4 harg4 arg5 harg5 arg6 harg6 arg7 harg7 arg8 harg8 arg9 harg9 q low v3 v25 v28 (harg4.unread x1) (harg5.unread x2) k a f7 f8 f9).1) (3 * (k.val + 1))
    ∧ Holds arg8.view q x1 (arg8.view.writes (Elt F) f8 (tripL_k0_t1 (F := F) 𝒱 c bd i arg3 harg3 arg4 harg4 arg5 harg5 arg6 harg6 arg7 harg7 arg8 harg8 arg9 harg9 q low v3 v25 v28 (harg4.unread x1) (harg5.unread x2) k a f7 f8 f9).2.1) (3 * (k.val + 1) + 1) := by
  have k20 : View.readAt (Elt F) arg4.view (Rect.unit (s := S1x1x16384x128) (k0_off1 k 2#32 0#32) S1x1x512x128.size (k0_off1_inb k 0 0)).toLoadRect (harg4.unread x1)
      = keys x1 (2 * (3 * k.val + 2)) := trip_keys arg4 harg4 x1 k 0 0
  have k21 : View.readAt (Elt F) arg4.view (Rect.unit (s := S1x1x16384x128) (k0_off1 k 2#32 512#32) S1x1x512x128.size (k0_off1_inb k 0 1)).toLoadRect (harg4.unread x1)
      = keys x1 (2 * (3 * k.val + 2) + 1) := trip_keys arg4 harg4 x1 k 0 1
  have k30 : View.readAt (Elt F) arg4.view (Rect.unit (s := S1x1x16384x128) (k0_off1 k 3#32 0#32) S1x1x512x128.size (k0_off1_inb k 1 0)).toLoadRect (harg4.unread x1)
      = keys x1 (2 * (3 * k.val + 3)) := trip_keys arg4 harg4 x1 k 1 0
  have k31 : View.readAt (Elt F) arg4.view (Rect.unit (s := S1x1x16384x128) (k0_off1 k 3#32 512#32) S1x1x512x128.size (k0_off1_inb k 1 1)).toLoadRect (harg4.unread x1)
      = keys x1 (2 * (3 * k.val + 3) + 1) := trip_keys arg4 harg4 x1 k 1 1
  have k40 : View.readAt (Elt F) arg4.view (Rect.unit (s := S1x1x16384x128) (k0_off1 k 4#32 0#32) S1x1x512x128.size (k0_off1_inb k 2 0)).toLoadRect (harg4.unread x1)
      = keys x1 (2 * (3 * k.val + 4)) := trip_keys arg4 harg4 x1 k 2 0
  have k41 : View.readAt (Elt F) arg4.view (Rect.unit (s := S1x1x16384x128) (k0_off1 k 4#32 512#32) S1x1x512x128.size (k0_off1_inb k 2 1)).toLoadRect (harg4.unread x1)
      = keys x1 (2 * (3 * k.val + 4) + 1) := trip_keys arg4 harg4 x1 k 2 1
  rw [show 3 * (k.val + 1) = 3 * k.val + 3 by omega]
  constructor
  · unfold tripL_k0_t1 trip_k0_t1
    dsimp only
    sl_unfold_words
    exact holds_writes _ _ _ _ _ _ _ ((congrArg (k0_pay12 q) k30).trans (cast_sc _)) ((congrArg (k0_pay15 q) k31).trans (cast_sc _))
  · unfold tripL_k0_t1 trip_k0_t1
    dsimp only
    sl_unfold_words
    exact holds_writes _ _ _ _ _ _ _ ((congrArg (k0_pay20 q) k40).trans (cast_sc _)) ((congrArg (k0_pay24 q) k41).trans (cast_sc _))

variable (G7 : BufTy.Contents (Elt F) arg7.view.ty) (G8 : BufTy.Contents (Elt F) arg8.view.ty) (G9 : BufTy.Contents (Elt F) arg9.view.ty)

/-- THE LOOP: before trip `k`, whatever the third scratch holds. -/
theorem loop_state (h7 : Holds arg7.view q x1 G7 0) (h8 : Holds arg8.view q x1 G8 1) (k : ℕ) (hk : k ≤ 4) :
    (st_k0_t1 (F := F) 𝒱 c bd i arg3 harg3 arg4 harg4 arg5 harg5 arg6 harg6 arg7 harg7 arg8 harg8 arg9 harg9 q low v3 v25 v28 (harg4.unread x1) (harg5.unread x2) G7 G8 G9 (st q x1 x2 0) k).1 = st q x1 x2 (3 * k)
    ∧ Holds arg7.view q x1 (arg7.view.writes (Elt F) G7 (st_k0_t1 (F := F) 𝒱 c bd i arg3 harg3 arg4 harg4 arg5 harg5 arg6 harg6 arg7 harg7 arg8 harg8 arg9 harg9 q low v3 v25 v28 (harg4.unread x1) (harg5.unread x2) G7 G8 G9 (st q x1 x2 0) k).2.1) (3 * k)
    ∧ Holds arg8.view q x1 (arg8.view.writes (Elt F) G8 (st_k0_t1 (F := F) 𝒱 c bd i arg3 harg3 arg4 harg4 arg5 harg5 arg6 harg6 arg7 harg7 arg8 harg8 arg9 harg9 q low v3 v25 v28 (harg4.unread x1) (harg5.unread x2) G7 G8 G9 (st q x1 x2 0) k).2.2.1) (3 * k + 1) := by
  induction k with
  | zero => exact ⟨rfl, h7, h8⟩
  | succ k ih =>
    obtain ⟨ha, hb7, hb8⟩ := ih (by omega)
    have ht : k < k0_t1_loop.trips := Nat.lt_of_lt_of_le (by omega : k < 4) (by decide +kernel)
    rw [st_k0_t1_succ (k := ⟨k, ht⟩)]
    dsimp only
    rw [View.writes_append, View.writes_append, ha]
    exact ⟨trip_yields 𝒱 c bd i arg3 harg3 arg4 harg4 arg5 harg5 arg6 harg6 arg7 harg7 arg8 harg8 arg9 harg9 q x1 x2 v3 v25 v28 ⟨k, ht⟩ _ _ _ hb7 hb8,
      trip_leaves 𝒱 c bd i arg3 harg3 arg4 harg4 arg5 harg5 arg6 harg6 arg7 harg7 arg8 harg8 arg9 harg9 q x1 x2 v3 v25 v28 ⟨k, ht⟩ _ _ _ _⟩

end Cert.Proof.Attn

end
-- ==== Proof.Body.lean ====
/-
  The attention kernel's body, run part by part: what each part reads, what it yields and what it leaves in the score
  scratches, in the closed forms of Tile.lean.
-/
module

public import proofs.«01_k».proof.Proof.Trip

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg3 : Memref sig .tc .vmem S1x1x128x512 .bf16) (harg3 : arg3.IsWhole) (arg4 : Memref sig .tc .vmem S1x1x16384x128 .bf16) (harg4 : arg4.IsWhole) (arg5 : Memref sig .tc .vmem S1x1x80x16384 .bf16) (harg5 : arg5.IsWhole) (arg6 : Memref sig .tc .vmem S1x64x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole)
variable (x0 : Vec F S1x1x128x512 .bf16) (q : FVec F S128x512 .bf16) (x1 : Vec F S1x1x16384x128 .bf16) (x2 : Vec F S1x1x80x16384 .bf16) (E : Set ℕ)

/-- A load of the block of queries. -/
theorem load_queries (inb) :
    View.readAt (Elt F) arg3.view (Rect.unit (s := S1x1x128x512) ![0, 0, 0, 0] S1x1x128x512.size inb).toLoadRect (harg3.unread x0) = x0 := by
  rw [View.readAt_eq_ld, harg3.read_unread]; exact View.ld_unit_zero (h := by funext a; fin_cases a <;> rfl) ..

/-- Chunk `n` loaded at its literal offset. -/
theorem keys_at (n : ℕ) (hn : n % 32 = n) (inb) :
    View.readAt (Elt F) arg4.view (Rect.unit (s := S1x1x16384x128) ![0, 0, 512 * n, 0] S1x1x512x128.size inb).toLoadRect (harg4.unread x1) = keys x1 n :=
  load_keys arg4 harg4 x1 n _ _ (by rw [hn])

theorem vals_at (n : ℕ) (hn : n % 32 = n) (inb) :
    View.readAt (Elt F) arg5.view (Rect.unit (s := S1x1x80x16384) ![0, 0, 0, 512 * n] S1x1x80x512.size inb).toLoadRect (harg5.unread x2) = vals x2 n :=
  load_vals arg5 harg5 x2 n _ _ (by rw [hn])

/-- The first tile's scores and its maximum; the queries as the products read them. -/
theorem part6 (f7 : BufTy.Contents (Elt F) arg7.view.ty) :
    (iprop((arg3.view.loc (c : Thread nD τ) ↦[arg3.view.set]{fullShare} harg3.unread x0) ∗ (arg4.view.loc (c : Thread nD τ) ↦[arg4.view.set]{fullShare} harg4.unread x1) ∗ (arg7.view.loc (c : Thread nD τ) ↦[arg7.view.set]{fullShare} f7)) : sProp 𝕄)
      ⊢ wp frame (wpE (defs₀ (F := F)) Variants.none (c : Thread nD τ) none) E (k0_part6 (F := F) i arg3 harg3 arg4 harg4 arg5 harg5 arg6 harg6 arg7 harg7 arg8 harg8 arg9 harg9)
          (fun r => iprop(⌜r = ⟨qm x0, low, acc (qm x0) x1 x2 0, tm (qm x0) x1 0, keys x1 2⟩⌝ ∗ (arg3.view.loc (c : Thread nD τ) ↦[arg3.view.set]{fullShare} harg3.unread x0) ∗ (arg4.view.loc (c : Thread nD τ) ↦[arg4.view.set]{fullShare} harg4.unread x1) ∗ (∃ f, (arg7.view.loc (c : Thread nD τ) ↦[arg7.view.set]{fullShare} f) ∗ ⌜Holds arg7.view (qm x0) x1 f 0⌝))) := by
  rw [k0_part6_eq_skeleton]; unfold k0_part6_skel
  iintro ⟨H3, H4, H7⟩
  sl_exec
  sl_step
  have e0 := load_queries arg3 harg3 x0 inb_S1x1x128x512_S1x1x128x512_0_0_0_0
  have k0 : View.readAt (Elt F) arg4.view (Rect.unit (s := S1x1x16384x128) ![0, 0, 0, 0] S1x1x512x128.size inb_S1x1x16384x128_S1x1x512x128_0_0_0_0).toLoadRect (harg4.unread x1) = keys x1 0 :=
    keys_at arg4 harg4 x1 0 rfl _
  have k1 : View.readAt (Elt F) arg4.view (Rect.unit (s := S1x1x16384x128) ![0, 0, 512, 0] S1x1x512x128.size inb_S1x1x16384x128_S1x1x512x128_0_0_512_0).toLoadRect (harg4.unread x1) = keys x1 1 :=
    keys_at arg4 harg4 x1 1 rfl _
  have k2 : View.readAt (Elt F) arg4.view (Rect.unit (s := S1x1x16384x128) ![0, 0, 1024, 0] S1x1x512x128.size inb_S1x1x16384x128_S1x1x512x128_0_0_1024_0).toLoadRect (harg4.unread x1) = keys x1 2 :=
    keys_at arg4 harg4 x1 2 rfl _
  simp only [e0, k0, k1, k2]
  isplitr
  · ipureintro; rfl
  isplitl [H3]; · iexact H3
  isplitl [H4]; · iexact H4
  iexists _; isplitl [H7]; · iexact H7
  ipureintro; exact holds_writes _ _ _ _ _ _ _ (cast_sc _) (cast_sc _)

/-- The second tile's scores, the loop, and half of tile 14's scores; the sums brought to tile 12's maximum. -/
theorem part7 (f7 : BufTy.Contents (Elt F) arg7.view.ty) (f8 : BufTy.Contents (Elt F) arg8.view.ty) (f9 : BufTy.Contents (Elt F) arg9.view.ty) (h7 : Holds arg7.view q x1 f7 0) :
    (iprop((arg4.view.loc (c : Thread nD τ) ↦[arg4.view.set]{fullShare} harg4.unread x1) ∗ (arg5.view.loc (c : Thread nD τ) ↦[arg5.view.set]{fullShare} harg5.unread x2) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄)
      ⊢ wp frame (wpE (defs₀ (F := F)) Variants.none (c : Thread nD τ) none) E (k0_part7 (F := F) i arg3 harg3 arg4 harg4 arg5 harg5 arg6 harg6 arg7 harg7 arg8 harg8 arg9 harg9 q low (acc q x1 x2 0) (tm q x1 0) (keys x1 2))
          (fun r => iprop(⌜r = ⟨tm q x1 13, mm q x1 13, corr (mm q x1 12) (mm q x1 13) (acc q x1 x2 12), sc q x1 28⟩⌝ ∗ (arg4.view.loc (c : Thread nD τ) ↦[arg4.view.set]{fullShare} harg4.unread x1) ∗ (arg5.view.loc (c : Thread nD τ) ↦[arg5.view.set]{fullShare} harg5.unread x2) ∗ (∃ f, (arg7.view.loc (c : Thread nD τ) ↦[arg7.view.set]{fullShare} f) ∗ ⌜Holds arg7.view q x1 f 12⌝) ∗ (∃ f, (arg8.view.loc (c : Thread nD τ) ↦[arg8.view.set]{fullShare} f) ∗ ⌜Holds arg8.view q x1 f 13⌝) ∗ (∃ f, (arg9.view.loc (c : Thread nD τ) ↦[arg9.view.set]{fullShare} f) ∗ ⌜∃ g, f = arg9.view.writes (Elt F) g [⟨lo, sc q x1 28⟩]⌝))) := by
  rw [k0_part7_eq_skeleton]; unfold k0_part7_skel
  iintro ⟨H4, H5, H7, H8, H9⟩
  sl_exec
  sl_step
  have k3 : View.readAt (Elt F) arg4.view (Rect.unit (s := S1x1x16384x128) ![0, 0, 1536, 0] S1x1x512x128.size inb_S1x1x16384x128_S1x1x512x128_0_0_1536_0).toLoadRect (harg4.unread x1) = keys x1 3 :=
    keys_at arg4 harg4 x1 3 rfl _
  have k28 : View.readAt (Elt F) arg4.view (Rect.unit (s := S1x1x16384x128) ![0, 0, 14336, 0] S1x1x512x128.size inb_S1x1x16384x128_S1x1x512x128_0_0_14336_0).toLoadRect (harg4.unread x1) = keys x1 28 :=
    keys_at arg4 harg4 x1 28 rfl _
  have ht : Scf.trips k0_t1_loop.lb k0_t1_loop.ub k0_t1_loop.st = 4 := by decide +kernel
  unfold part7.sl.H8_2
  simp only [k3, k28, ht]
  rw [show ((low, acc q x1 x2 0, tm q x1 0, k0_pay39 q low (keys x1 2) (keys x1 3)) : _ × _ × _ × _) = st q x1 x2 0 from rfl]
  have h8 : Holds arg8.view q x1 (arg8.view.writes (Elt F) arg8.view.junk [(⟨hi, k0_pay38 q (keys x1 3)⟩ : View.Piece (Elt F) S1024x512 .f32), ⟨lo, k0_pay36 q (keys x1 2)⟩]) 1 :=
    holds_writes _ _ _ _ _ _ _ (cast_sc _) (cast_sc _)
  obtain ⟨ha, hb7, hb8⟩ := loop_state Variants.none c none i arg3 harg3 arg4 harg4 arg5 harg5 arg6 harg6 arg7 harg7 arg8 harg8 arg9 harg9 q x1 x2
    (acc q x1 x2 0) (tm q x1 0) (keys x1 2) f7 _ f9 h7 h8 4 le_rfl
  dsimp only [lo, hi] at ha hb7 hb8
  generalize st_k0_t1 (F := F) Variants.none c none i arg3 harg3 arg4 harg4 arg5 harg5 arg6 harg6 arg7 harg7 arg8 harg8 arg9 harg9 q low (acc q x1 x2 0) (tm q x1 0) (keys x1 2) (harg4.unread x1) (harg5.unread x2) f7
    (arg8.view.writes (Elt F) arg8.view.junk _) f9 (st q x1 x2 0) 4 = S at ha hb7 hb8 ⊢
  rw [← View.writes_append] at hb8
  isplitr
  · ipureintro
    obtain ⟨S1, S2⟩ := S
    dsimp only at ha
    subst ha; rfl
  isplitl [H4]; · iexact H4
  isplitl [H5]; · iexact H5
  isplitl [H7]
  · iexists _; isplitl [H7]; · iexact H7
    ipureintro; exact hb7
  isplitl [H8]
  · iexists _; isplitl [H8]; · iexact H8
    ipureintro; exact hb8
  iexists _; isplitl [H9]; · iexact H9
  ipureintro
  exact ⟨arg9.view.writes (Elt F) f9 S.2.2.2, congrArg (fun z => arg9.view.writes (Elt F) (arg9.view.writes (Elt F) f9 S.2.2.2) [(⟨lo, z⟩ : View.Piece (Elt F) S1024x512 .f32)]) (cast_sc _)⟩

/-- Tile 12 into the sums, and the rest of tile 14's scores. -/
theorem part8 (f7 : BufTy.Contents (Elt F) arg7.view.ty) (f9 : BufTy.Contents (Elt F) arg9.view.ty) (h7 : Holds arg7.view q x1 f7 12) :
    (iprop((arg4.view.loc (c : Thread nD τ) ↦[arg4.view.set]{fullShare} harg4.unread x1) ∗ (arg5.view.loc (c : Thread nD τ) ↦[arg5.view.set]{fullShare} harg5.unread x2) ∗ (arg7.view.loc (c : Thread nD τ) ↦[arg7.view.set]{fullShare} f7) ∗ (arg9.view.loc (c : Thread nD τ) ↦[arg9.view.set]{fullShare} arg9.view.writes (Elt F) f9 [⟨lo, sc q x1 28⟩])) : sProp 𝕄)
      ⊢ wp frame (wpE (defs₀ (F := F)) Variants.none (c : Thread nD τ) none) E (k0_part8 (F := F) i arg3 harg3 arg4 harg4 arg5 harg5 arg6 harg6 arg7 harg7 arg8 harg8 arg9 harg9 q low (mm q x1 13) (corr (mm q x1 12) (mm q x1 13) (acc q x1 x2 12)) (sc q x1 28))
          (fun r => iprop(⌜r = ⟨tm q x1 14, acc q x1 x2 13⟩⌝ ∗ (arg4.view.loc (c : Thread nD τ) ↦[arg4.view.set]{fullShare} harg4.unread x1) ∗ (arg5.view.loc (c : Thread nD τ) ↦[arg5.view.set]{fullShare} harg5.unread x2) ∗ (arg7.view.loc (c : Thread nD τ) ↦[arg7.view.set]{fullShare} f7) ∗ (∃ f, (arg9.view.loc (c : Thread nD τ) ↦[arg9.view.set]{fullShare} f) ∗ ⌜Holds arg9.view q x1 f 14⌝))) := by
  rw [k0_part8_eq_skeleton]; unfold k0_part8_skel
  iintro ⟨H4, H5, H7, H9⟩
  sl_exec
  sl_step
  have k29 : View.readAt (Elt F) arg4.view (Rect.unit (s := S1x1x16384x128) ![0, 0, 14848, 0] S1x1x512x128.size inb_S1x1x16384x128_S1x1x512x128_0_0_14848_0).toLoadRect (harg4.unread x1) = keys x1 29 :=
    keys_at arg4 harg4 x1 29 rfl _
  have w24 : View.readAt (Elt F) arg5.view (Rect.unit (s := S1x1x80x16384) ![0, 0, 0, 12288] S1x1x80x512.size inb_S1x1x80x16384_S1x1x80x512_0_0_0_12288).toLoadRect (harg5.unread x2) = vals x2 24 :=
    vals_at arg5 harg5 x2 24 rfl _
  have w25 : View.readAt (Elt F) arg5.view (Rect.unit (s := S1x1x80x16384) ![0, 0, 0, 12800] S1x1x80x512.size inb_S1x1x80x16384_S1x1x80x512_0_0_0_12800).toLoadRect (harg5.unread x2) = vals x2 25 :=
    vals_at arg5 harg5 x2 25 rfl _
  obtain ⟨h7a, h7b⟩ := h7
  simp only [k29, w24, w25, h7a, h7b]
  isplitr
  · ipureintro; rfl
  isplitl [H4]; · iexact H4
  isplitl [H5]; · iexact H5
  isplitl [H7]; · iexact H7
  iexists _; isplitl [H9]; · iexact H9
  ipureintro; exact holds_writes _ _ _ _ _ _ _ rfl (cast_sc _)

/-- Half of tile 13 into the sums; tile 15's scores. -/
theorem part9 (f7 : BufTy.Contents (Elt F) arg7.view.ty) (f8 : BufTy.Contents (Elt F) arg8.view.ty) (h8 : Holds arg8.view q x1 f8 13) :
    (iprop((arg4.view.loc (c : Thread nD τ) ↦[arg4.view.set]{fullShare} harg4.unread x1) ∗ (arg5.view.loc (c : Thread nD τ) ↦[arg5.view.set]{fullShare} harg5.unread x2) ∗ (arg7.view.loc (c : Thread nD τ) ↦[arg7.view.set]{fullShare} f7) ∗ (arg8.view.loc (c : Thread nD τ) ↦[arg8.view.set]{fullShare} f8)) : sProp 𝕄)
      ⊢ wp frame (wpE (defs₀ (F := F)) Variants.none (c : Thread nD τ) none) E (k0_part9 (F := F) i arg3 harg3 arg4 harg4 arg5 harg5 arg6 harg6 arg7 harg7 arg8 harg8 arg9 harg9 q low (tm q x1 13) (mm q x1 13) (acc q x1 x2 13))
          (fun r => iprop(⌜r = ⟨mm q x1 14, up low (sc q x1 30), addf (corr (mm q x1 13) (mm q x1 14) (acc q x1 x2 13)) (pv (vals x2 26) (sc q x1 26) (mm q x1 14)), sc q x1 31⟩⌝ ∗ (arg4.view.loc (c : Thread nD τ) ↦[arg4.view.set]{fullShare} harg4.unread x1) ∗ (arg5.view.loc (c : Thread nD τ) ↦[arg5.view.set]{fullShare} harg5.unread x2) ∗ (∃ f, (arg7.view.loc (c : Thread nD τ) ↦[arg7.view.set]{fullShare} f) ∗ ⌜Holds arg7.view q x1 f 15⌝) ∗ (arg8.view.loc (c : Thread nD τ) ↦[arg8.view.set]{fullShare} f8))) := by
  rw [k0_part9_eq_skeleton]; unfold k0_part9_skel
  iintro ⟨H4, H5, H7, H8⟩
  sl_exec
  sl_step
  have k30 : View.readAt (Elt F) arg4.view (Rect.unit (s := S1x1x16384x128) ![0, 0, 15360, 0] S1x1x512x128.size inb_S1x1x16384x128_S1x1x512x128_0_0_15360_0).toLoadRect (harg4.unread x1) = keys x1 30 :=
    keys_at arg4 harg4 x1 30 rfl _
  have k31 : View.readAt (Elt F) arg4.view (Rect.unit (s := S1x1x16384x128) ![0, 0, 15872, 0] S1x1x512x128.size inb_S1x1x16384x128_S1x1x512x128_0_0_15872_0).toLoadRect (harg4.unread x1) = keys x1 31 :=
    keys_at arg4 harg4 x1 31 rfl _
  have w26 : View.readAt (Elt F) arg5.view (Rect.unit (s := S1x1x80x16384) ![0, 0, 0, 13312] S1x1x80x512.size inb_S1x1x80x16384_S1x1x80x512_0_0_0_13312).toLoadRect (harg5.unread x2) = vals x2 26 :=
    vals_at arg5 harg5 x2 26 rfl _
  obtain ⟨h8a, h8b⟩ := h8
  simp only [k30, k31, w26, h8a, h8b]
  isplitr
  · ipureintro; rfl
  isplitl [H4]; · iexact H4
  isplitl [H5]; · iexact H5
  isplitl [H7]
  · iexists _; isplitl [H7]; · iexact H7
    ipureintro; exact holds_writes _ _ _ _ _ _ _ (cast_sc _) (cast_sc _)
  iexact H8

/-- The rest of tile 13 and half of tile 14 into the sums. -/
theorem part10 (f8 : BufTy.Contents (Elt F) arg8.view.ty) (f9 : BufTy.Contents (Elt F) arg9.view.ty) (h8 : Holds arg8.view q x1 f8 13) (h9 : Holds arg9.view q x1 f9 14) :
    (iprop((arg5.view.loc (c : Thread nD τ) ↦[arg5.view.set]{fullShare} harg5.unread x2) ∗ (arg8.view.loc (c : Thread nD τ) ↦[arg8.view.set]{fullShare} f8) ∗ (arg9.view.loc (c : Thread nD τ) ↦[arg9.view.set]{fullShare} f9)) : sProp 𝕄)
      ⊢ wp frame (wpE (defs₀ (F := F)) Variants.none (c : Thread nD τ) none) E (k0_part10 (F := F) i arg3 harg3 arg4 harg4 arg5 harg5 arg6 harg6 arg7 harg7 arg8 harg8 arg9 harg9 (tm q x1 14) (mm q x1 14) (up low (sc q x1 30)) (addf (corr (mm q x1 13) (mm q x1 14) (acc q x1 x2 13)) (pv (vals x2 26) (sc q x1 26) (mm q x1 14))) (sc q x1 31))
          (fun r => iprop(⌜r = ⟨tm q x1 15, mm q x1 15, addf (corr (mm q x1 14) (mm q x1 15) (acc q x1 x2 14)) (pv (vals x2 28) (sc q x1 28) (mm q x1 15)), wt (sc q x1 29) (mm q x1 15), shapeCast S80x512 (vals x2 29) shapeCasts_S1x1x80x512_S80x512, constant S80x512 .f32 0x00000000#32⟩⌝ ∗ (arg5.view.loc (c : Thread nD τ) ↦[arg5.view.set]{fullShare} harg5.unread x2) ∗ (arg8.view.loc (c : Thread nD τ) ↦[arg8.view.set]{fullShare} f8) ∗ (arg9.view.loc (c : Thread nD τ) ↦[arg9.view.set]{fullShare} f9))) := by
  rw [k0_part10_eq_skeleton]; unfold k0_part10_skel
  iintro ⟨H5, H8, H9⟩
  sl_exec
  sl_step
  have w27 : View.readAt (Elt F) arg5.view (Rect.unit (s := S1x1x80x16384) ![0, 0, 0, 13824] S1x1x80x512.size inb_S1x1x80x16384_S1x1x80x512_0_0_0_13824).toLoadRect (harg5.unread x2) = vals x2 27 :=
    vals_at arg5 harg5 x2 27 rfl _
  have w28 : View.readAt (Elt F) arg5.view (Rect.unit (s := S1x1x80x16384) ![0, 0, 0, 14336] S1x1x80x512.size inb_S1x1x80x16384_S1x1x80x512_0_0_0_14336).toLoadRect (harg5.unread x2) = vals x2 28 :=
    vals_at arg5 harg5 x2 28 rfl _
  have w29 : View.readAt (Elt F) arg5.view (Rect.unit (s := S1x1x80x16384) ![0, 0, 0, 14848] S1x1x80x512.size inb_S1x1x80x16384_S1x1x80x512_0_0_0_14848).toLoadRect (harg5.unread x2) = vals x2 29 :=
    vals_at arg5 harg5 x2 29 rfl _
  obtain ⟨h8a, h8b⟩ := h8
  obtain ⟨h9a, h9b⟩ := h9
  simp only [w27, w28, w29, h8a, h8b, h9a, h9b]
  isplitr
  · ipureintro; rfl
  isplitl [H5]; · iexact H5
  isplitl [H8]; · iexact H8
  iexact H9

end Cert.Proof.Attn

end
-- ==== Proof.Whole.lean ====
/-
  The attention kernel's whole body: its parts one after another leave the block `out` of its three inputs.
-/
module

public import proofs.«01_k».proof.Proof.Body
public import Idealize.ShloMosaic.Lib.VecWindow

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg3 : Memref sig .tc .vmem S1x1x128x512 .bf16) (harg3 : arg3.IsWhole) (arg4 : Memref sig .tc .vmem S1x1x16384x128 .bf16) (harg4 : arg4.IsWhole) (arg5 : Memref sig .tc .vmem S1x1x80x16384 .bf16) (harg5 : arg5.IsWhole) (arg6 : Memref sig .tc .vmem S1x64x512 .bf16) (harg6 : arg6.IsWhole) (arg7 : Memref sig .tc .vmem S1024x512 .f32) (harg7 : arg7.IsWhole) (arg8 : Memref sig .tc .vmem S1024x512 .f32) (harg8 : arg8.IsWhole) (arg9 : Memref sig .tc .vmem S1024x512 .f32) (harg9 : arg9.IsWhole)
variable (x0 : Vec F S1x1x128x512 .bf16) (q : FVec F S128x512 .bf16) (x1 : Vec F S1x1x16384x128 .bf16) (x2 : Vec F S1x1x80x16384 .bf16) (E : Set ℕ)

/-- THE BODY: from its three inputs at `x0`, `x1`, `x2` it leaves `out x0 x1 x2` in the output's buffer. -/
theorem body (f6 : BufTy.Contents (Elt F) arg6.view.ty) (f7 : BufTy.Contents (Elt F) arg7.view.ty) (f8 : BufTy.Contents (Elt F) arg8.view.ty) (f9 : BufTy.Contents (Elt F) arg9.view.ty) :
    (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)) : sProp 𝕄)
      ⊢ wp frame (wpE (defs₀ (F := F)) Variants.none (c : Thread nD τ) none) E (cc0_attn (F := F) i arg3 harg3 arg4 harg4 arg5 harg5 arg6 harg6 arg7 harg7 arg8 harg8 arg9 harg9)
          (fun _ => iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (∃ f, (arg6.view.loc (c : Thread nD τ) ↦[arg6.view.set]{fullShare} f) ∗ ⌜arg6.view.read (Elt F) f = out x0 x1 x2⌝) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)))) := by
  rw [cc0_attn_eq_skeleton]; unfold cc0_attn_skel
  rw [k0_part11_eq_skeleton]; unfold k0_part11_skel
  iintro ⟨H3, H4, H5, H6, H7, H8, H9⟩
  rw [wp_bind]
  rw [wp_bind]
  iapply wp_wand_r
  isplitl [H3 H4 H7]
  · iapply (part6 c i arg3 harg3 arg4 harg4 arg5 harg5 arg6 harg6 arg7 harg7 arg8 harg8 arg9 harg9 x0 x1 x2 E f7)
    isplitl [H3]; · iexact H3
    isplitl [H4]; · iexact H4
    iexact H7
  iintro %r ⟨%hr, H3, H4, ⟨%g7, H7, %h7⟩⟩
  subst hr
  dsimp only
  rw [wp_bind]
  iapply wp_wand_r
  isplitl [H4 H5 H7 H8 H9]
  · iapply (part7 c i arg3 harg3 arg4 harg4 arg5 harg5 arg6 harg6 arg7 harg7 arg8 harg8 arg9 harg9 (qm x0) x1 x2 E g7 f8 f9 h7)
    isplitl [H4]; · iexact H4
    isplitl [H5]; · iexact H5
    isplitl [H7]; · iexact H7
    isplitl [H8]; · iexact H8
    iexact H9
  iintro %r ⟨%hr, H4, H5, ⟨%k7, H7, %h7'⟩, ⟨%g8, H8, %h8⟩, ⟨%g9, H9, %h9⟩⟩
  subst hr
  dsimp only
  obtain ⟨l9, rfl⟩ := h9
  rw [wp_bind]
  iapply wp_wand_r
  isplitl [H4 H5 H7 H9]
  · iapply (part8 c i arg3 harg3 arg4 harg4 arg5 harg5 arg6 harg6 arg7 harg7 arg8 harg8 arg9 harg9 (qm x0) x1 x2 E k7 l9 h7')
    isplitl [H4]; · iexact H4
    isplitl [H5]; · iexact H5
    isplitl [H7]; · iexact H7
    iexact H9
  iintro %r ⟨%hr, H4, H5, H7, ⟨%m9, H9, %h9⟩⟩
  subst hr
  dsimp only
  rw [wp_bind]
  iapply wp_wand_r
  isplitl [H4 H5 H7 H8]
  · iapply (part9 c i arg3 harg3 arg4 harg4 arg5 harg5 arg6 harg6 arg7 harg7 arg8 harg8 arg9 harg9 (qm x0) x1 x2 E k7 g8 h8)
    isplitl [H4]; · iexact H4
    isplitl [H5]; · iexact H5
    isplitl [H7]; · iexact H7
    iexact H8
  iintro %r ⟨%hr, H4, H5, ⟨%n7, H7, %h7''⟩, H8⟩
  subst hr
  dsimp only
  rw [wp_bind]
  iapply wp_wand_r
  isplitl [H5 H8 H9]
  · iapply (part10 c i arg3 harg3 arg4 harg4 arg5 harg5 arg6 harg6 arg7 harg7 arg8 harg8 arg9 harg9 (qm x0) x1 x2 E g8 m9 h8 h9)
    isplitl [H5]; · iexact H5
    isplitl [H8]; · iexact H8
    iexact H9
  iintro %r ⟨%hr, H5, H8, H9⟩
  subst hr
  dsimp only
  sl_exec
  have w30 : View.readAt (Elt F) arg5.view (Rect.unit (s := S1x1x80x16384) ![0, 0, 0, 15360] S1x1x80x512.size inb_S1x1x80x16384_S1x1x80x512_0_0_0_15360).toLoadRect (harg5.unread x2) = vals x2 30 :=
    vals_at arg5 harg5 x2 30 rfl _
  have w31 : View.readAt (Elt F) arg5.view (Rect.unit (s := S1x1x80x16384) ![0, 0, 0, 15872] S1x1x80x512.size inb_S1x1x80x16384_S1x1x80x512_0_0_0_15872).toLoadRect (harg5.unread x2) = vals x2 31 :=
    vals_at arg5 harg5 x2 31 rfl _
  obtain ⟨h7a, h7b⟩ := h7''
  sl_step
  unfold body.sl.v187 body.sl.v198
  simp only [w30, w31, h7a, h7b]
  isplitl [H3]; · iexact H3
  isplitl [H4]; · iexact H4
  isplitl [H5]; · iexact H5
  isplitl [H6]
  · iexists _; isplitl [H6]; · iexact H6
    ipureintro
    rw [View.read_writes_full]; rfl
  isplitl [H7]; · iexists _; iexact H7
  isplitl [H8]; · iexists _; iexact H8
  iexists _; iexact H9

end Cert.Proof.Attn

end
-- ==== Proof.Run.lean ====
/-
  The attention kernel's launch: every grid point runs the body of Whole.lean, so the pipeline leaves, block by block,
  `out` of the point's queries, keys and values. The frame and the run with the result array named.
-/
module

public import proofs.«01_k».proof.Proof.Whole
public import proofs.«01_k».proof.Proof.Gen.KernelIdeal.Frame.Runs
public import Idealize.ShloMosaic.Lib.Claim
public import Idealize.ShloMosaic.Lib.Pipeline.Value

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block that grid point `t` leaves. -/
def blkOut (c : Dev nD) (t : Fin cfg0.N) : Vec F S1x64x512 .bf16 := out (iblk m c 0 t) (iblk m c 1 t) (iblk m c 2 t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blkOut m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = blkOut m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold owns
  iintro ⟨⟨⟨⟨%s0, %e0, %he0, HS0⟩, ⟨%s1, %e1, %he1, HS1⟩, ⟨%s2, %e2, %he2, HS2⟩⟩, Hg⟩, Ho, ⟨%d0, %f0, %hf0, H0⟩, ⟨%d1, %f1, %hf1, H1⟩, ⟨%d2, %f2, %hf2, H2⟩, ⟨%d3, %f3, %hf3, H3⟩⟩
  obtain rfl := (hs0_0 t).eq_unread hf0
  obtain rfl := (hs0_1 t).eq_unread hf1
  obtain rfl := (hs0_2 t).eq_unread hf2
  iapply wp_wand_r
  isplitl [H0 H1 H2 H3 HS0 HS1 HS2]
  · iapply (body c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      (iblk m c 0 t) (iblk m c 1 t) (iblk m c 2 t) Set.univ f3 e0 e1 e2)
    isplitl [H0]; · iexact H0
    isplitl [H1]; · iexact H1
    isplitl [H2]; · iexact H2
    isplitl [H3]; · iexact H3
    isplitl [HS0]; · iexact HS0
    isplitl [HS1]; · iexact HS1
    iexact HS2
  iintro %_ ⟨H0, H1, H2, ⟨%g3, H3, %hg3⟩, ⟨%g7, HS0⟩, ⟨%g8, HS1⟩, ⟨%g9, HS2⟩⟩
  isplitl [HS0 HS1 HS2 Hg]
  · isplitl [HS0 HS1 HS2]
    · isplitl [HS0]
      · iexists _; iexists _; isplitr; swap; · iexact HS0
        ipureintro; rfl
      isplitl [HS1]
      · iexists _; iexists _; isplitr; swap; · iexact HS1
        ipureintro; rfl
      iexists _; iexists _; isplitr; swap; · iexact HS2
      ipureintro; rfl
    iexact Hg
  isplitl [Ho]; · iexact Ho
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  iexists _; isplitr; swap; · iexact H3
  ipureintro; exact hg3

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends at what the proof data says, and every semaphore counter at zero. -/
theorem launched : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1) (launched m ρ))

/-- THE FRAME. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (launched m ρ))

/-- THE RUN with its result named. -/
theorem ran : θ_run defs (onTc (τ := τ) (main (F := F))) ⟨m, fun _ => 0, ρ⟩ (fun r => ∀ c : Dev nD,
      r.2.mem ((c.tc : Thread nD τ).loc main_v17) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  have h : θ_run defs (onTc (τ := τ) (main (F := F))) ⟨m, fun _ => 0, ρ⟩ (fun r => ∀ c : Dev nD,
      r.2.mem ((c.tc : Thread nD τ).loc main_v17) = (dats m 0 c).arrAt 3 cfg0.N) :=
    (θ_run defs _ _).mono (fun r h c => (h.1 c).1 3) (launched m ρ)
  (θ_run defs _ _).mono (fun _ h c => ⟨h.1 c, h.2 c⟩) (θ_run_and h (unchanged m ρ))

end Cert.Proof.Attn

end
-- ==== Proof.Same.lean ====
/-
  The printed program and its idealization have one text: their programs and body tables are equal.
-/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

set_option backward.isDefEq.respectTransparency false in
set_option backward.isDefEq.respectTransparency.types false in
/-- The two @main are one. -/
theorem main_same : @Cert.Kernel.main Bits _ Cert.Kernel.Gen.facts = @Cert.KernelIdeal.main Bits _ Cert.KernelIdeal.Gen.facts := rfl

set_option backward.isDefEq.respectTransparency false in
set_option backward.isDefEq.respectTransparency.types false in
/-- The bodies, label by label, are one. -/
theorem bodies_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | 0, (t, s) => rfl

set_option backward.isDefEq.respectTransparency false in
set_option backward.isDefEq.respectTransparency.types false in
/-- The body tables with the pipeline's own labels are one. -/
theorem defs_same : @Cert.Kernel.defs Bits _ Cert.Kernel.Gen.facts = @Cert.KernelIdeal.defs Bits _ Cert.KernelIdeal.Gen.facts := by
  unfold Cert.Kernel.defs Cert.KernelIdeal.defs
  exact congrArg (Pipeline.defs _) bodies_same

end Cert.Proof

end
-- ==== Proof.Softmax.lean ====
/-
  The running softmax of one query, in extended reals and away from any program: scores are real, values are anything.
  A partial sum `∑ k < n, w k · 2^(r k − m)` carried at a real base `m` is rescaled to another base by one
  multiplication (`rescale`), and at the end divided by its own normalizer it is the softmax average whatever the base
  (`finish`).
-/
module

public import Idealize.ShloMosaic.PureOps.Ideal.Laws

@[expose] public section

noncomputable section

namespace Cert.Proof.Softmax

open Idealize.ShloMosaic

/-- A real power of two. -/
def pow2 (x : ℝ) : ℝ := Real.rpow 2 x

theorem pow2_pos (x : ℝ) : 0 < pow2 x := Real.rpow_pos_of_pos (by norm_num) x

theorem pow2_mul (x y : ℝ) : pow2 x * pow2 y = pow2 (x + y) := (Real.rpow_add (by norm_num) x y).symm

/-- The kernel's base-two exponential of a difference of reals. -/
theorem exp2_sub (x y : ℝ) : Ideal.exp2 ((x : EReal) - (y : EReal)) = ((pow2 (x - y) : ℝ) : EReal) := by
  rw [← EReal.coe_sub]; rfl

/-- A base-two exponential is the exponential of the argument times `log 2`. -/
theorem pow2_eq_exp (x : ℝ) : pow2 x = Real.exp (x * Real.log 2) := by
  unfold pow2
  rw [show Real.rpow 2 x = (2 : ℝ) ^ x from rfl, Real.rpow_def_of_pos (by norm_num), mul_comm]

/-- A nonnegative real factor goes inside a finite sum of extended reals, whatever the terms. -/
theorem mul_sum {ι : Type} (s : Finset ι) (a : ℝ) (ha : 0 ≤ a) (f : ι → EReal) :
    (a : EReal) * ∑ k ∈ s, f k = ∑ k ∈ s, (a : EReal) * f k := by
  classical
  induction s using Finset.induction_on with
  | empty => simp
  | insert k s hk ih =>
    rw [Finset.sum_insert hk, Finset.sum_insert hk,
      EReal.left_distrib_of_nonneg_of_ne_top (EReal.coe_nonneg.mpr ha) (EReal.coe_ne_top a), ih]

/-- The partial sum over the first `n` keys, at base `m`. -/
def part (r : ℕ → ℝ) (w : ℕ → EReal) (m : ℝ) (n : ℕ) : EReal :=
  ∑ k ∈ Finset.range n, w k * ((pow2 (r k - m) : ℝ) : EReal)

theorem part_zero (r : ℕ → ℝ) (w : ℕ → EReal) (m : ℝ) : part r w m 0 = 0 := by simp [part]

/-- Changing the base multiplies the partial sum by the power of the difference. -/
theorem rescale (r : ℕ → ℝ) (w : ℕ → EReal) (m m' : ℝ) (n : ℕ) :
    ((pow2 (m - m') : ℝ) : EReal) * part r w m n = part r w m' n := by
  unfold part
  rw [mul_sum _ _ (pow2_pos _).le]
  refine Finset.sum_congr rfl fun k _ => ?_
  rw [mul_left_comm, ← EReal.coe_mul, pow2_mul, show m - m' + (r k - m) = r k - m' by ring]

/-- One more block of `c` keys. -/
theorem part_add (r : ℕ → ℝ) (w : ℕ → EReal) (m : ℝ) (n c : ℕ) :
    part r w m n + ∑ k : Fin c, w (n + k) * ((pow2 (r (n + k) - m) : ℝ) : EReal) = part r w m (n + c) := by
  unfold part
  rw [Finset.sum_range_add, ← Fin.sum_univ_eq_sum_range (fun k => w (n + k) * ((pow2 (r (n + k) - m) : ℝ) : EReal))]

/-- A sum of extended reals that are all real is the real sum. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert k s hk ih => rw [Finset.sum_insert hk, Finset.sum_insert hk, EReal.coe_add, ih]

/-- The largest of finitely many reals and −∞, over at least one of them, is real. -/
theorem fold_max_real {ι : Type} [Fintype ι] [Nonempty ι] (init : EReal) (hi : init ≠ ⊤) (f : ι → ℝ) :
    ∃ x : ℝ, Finset.univ.fold max init (fun k => ((f k : ℝ) : EReal)) = (x : EReal) := by
  classical
  have key : ∀ s : Finset ι, s.fold max init (fun k => ((f k : ℝ) : EReal)) = init
      ∨ ∃ x : ℝ, s.fold max init (fun k => ((f k : ℝ) : EReal)) = (x : EReal) := by
    intro s
    induction s using Finset.induction_on with
    | empty => exact .inl (by simp)
    | insert k s hk ih =>
      rw [Finset.fold_insert hk]
      rcases ih with h | ⟨x, h⟩
      · rw [h]
        rcases max_choice ((f k : ℝ) : EReal) init with h' | h' <;> rw [h']
        · exact .inr ⟨_, rfl⟩
        · exact .inl rfl
      · rw [h]; exact .inr ⟨max (f k) x, (EReal.coe_strictMono.monotone.map_max).symm⟩
  obtain ⟨k₀⟩ := ‹Nonempty ι›
  have hle : ((f k₀ : ℝ) : EReal) ≤ Finset.univ.fold max init (fun k => ((f k : ℝ) : EReal)) :=
    (Finset.le_fold_max _).mpr (.inr ⟨k₀, Finset.mem_univ _, le_rfl⟩)
  rcases key Finset.univ with h | h
  · rw [h] at hle ⊢
    induction init using EReal.rec with
    | bot => exact absurd (le_bot_iff.mp hle) (EReal.coe_ne_bot _)
    | coe x => exact ⟨x, rfl⟩
    | top => exact absurd rfl hi
  · exact h

/-- THE END: the weighted sum divided by its normalizer is the average under the softmax weights, which may be taken at
    any other real base `b`; `u k` is the score in natural units, `r k = u k / log 2` the kernel's. -/
theorem finish (n : ℕ) (hn : 0 < n) (r u : ℕ → ℝ) (hr : ∀ k, r k = u k * (1 / Real.log 2)) (w : ℕ → EReal) (m b : ℝ) :
    Ideal.div (part r w m n) (part r (fun _ => 1) m n)
      = ∑ k ∈ Finset.range n, w k * Ideal.div (Ideal.exp ((u k : EReal) - (b : EReal)))
          (∑ k' ∈ Finset.range n, Ideal.exp ((u k' : EReal) - (b : EReal))) := by
  have hl : Real.log 2 ≠ 0 := (Real.log_pos (by norm_num)).ne'
  have e1 : ∀ k, pow2 (r k - m) = Real.exp (u k - b) * Real.exp (b - m * Real.log 2) := by
    intro k
    rw [pow2_eq_exp, ← Real.exp_add, hr]
    congr 1
    field_simp
    ring
  have e2 : ∀ k, Ideal.exp ((u k : EReal) - (b : EReal)) = ((Real.exp (u k - b) : ℝ) : EReal) := by
    intro k; rw [← EReal.coe_sub]; rfl
  have hpos : 0 < ∑ k ∈ Finset.range n, Real.exp (u k - b) :=
    Finset.sum_pos (fun _ _ => Real.exp_pos _) ⟨0, Finset.mem_range.mpr hn⟩
  have hL : part r (fun _ => 1) m n
      = (((∑ k ∈ Finset.range n, Real.exp (u k - b)) * Real.exp (b - m * Real.log 2) : ℝ) : EReal) := by
    unfold part
    rw [Finset.sum_mul, ← coe_sum]
    exact Finset.sum_congr rfl fun k _ => by rw [one_mul, e1]
  have hE := Real.exp_pos (b - m * Real.log 2)
  simp only [e2]
  rw [hL, coe_sum, Ideal.div_coe (mul_pos hpos hE).ne', mul_comm, part,
    mul_sum _ _ (one_div_pos.mpr (mul_pos hpos hE)).le]
  refine Finset.sum_congr rfl fun k _ => ?_
  rw [Ideal.div_coe hpos.ne', mul_left_comm, ← EReal.coe_mul, ← EReal.coe_mul, e1]
  congr 2
  field_simp

end Cert.Proof.Softmax

end
-- ==== Proof.Peak.lean ====
/-
  The reference's result at an index.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.Proof.Ref

open Cert.ReferenceIdeal Cert.ReferenceIdeal.Gen
open Idealize.ShloMosaic Idealize.SL.Sem

/-- The largest score of each row. -/
def peak (x : FVec Ideal S2x8x16384x16384 .f32) : FVec Ideal S2x8x16384 .f32 :=
  maximumf (broadcastInDim S2x8x16384 ![] bcast_S_S2x8x16384 (constant S_ .f32 0xFF800000#32))
    (Host.reduce FloatOps.maximumf x (constant S_ .f32 0xFF800000#32) reducesTo_S2x8x16384x16384_S2x8x16384_d3 h_S_)

theorem reduce_real {s t u : Shape} {a : Fin s.rank} (x : FVec Ideal s .f32) (hx : ∀ i, ∃ r : ℝ, x i = (r : EReal)) (init : FVec Ideal u .f32)
    (h' : s.ReducesTo [a] t) (h : s.Reduces [a] t) (hu : 0 < u.numel) (hi : init (Shape.Idx.first hu) ≠ (⊤ : EReal)) (hn : 0 < s.size a) (j : t.Idx) :
    ∃ r : ℝ, Host.reduce FloatOps.maximumf x init h' hu j = (r : EReal) := by
  rw [Host.reduce_eq_fold_single FloatOps.maximumf x _ h' h hu]
  choose f hf using hx
  haveI : Nonempty (Fin (s.size a)) := ⟨⟨0, hn⟩⟩
  have e : (x ∘ h.lift j) = fun k => ((f (h.lift j k) : ℝ) : EReal) := funext fun k => hf _
  rw [e]
  exact Softmax.fold_max_real _ hi _

theorem max_apply {s : Shape} (x y : FVec Ideal s .f32) (j : s.Idx) : maximumf x y j = max (x j) (y j) := rfl

theorem fact : S2x8x16384x16384.Reduces [3] S2x8x16384 := by decide

theorem start_ne (k : S_.Idx) : constant (F := Ideal) S_ .f32 0xFF800000#32 k ≠ (⊤ : EReal) := by
  show Ideal.ofBits .f32 0xFF800000#32 ≠ ⊤
  simp [Ideal.ofBits, Ideal.ieee]

theorem long : 0 < S2x8x16384x16384.size (3 : Fin 4) := Nat.succ_pos 16383

theorem row_real (x : FVec Ideal S2x8x16384x16384 .f32) (hx : ∀ i, ∃ r : ℝ, x i = (r : EReal)) (j : S2x8x16384.Idx) :
    ∃ r : ℝ, Host.reduce FloatOps.maximumf x (constant S_ .f32 0xFF800000#32) reducesTo_S2x8x16384x16384_S2x8x16384_d3 h_S_ j = (r : EReal) :=
  reduce_real (s := S2x8x16384x16384) (t := S2x8x16384) (u := S_) (a := (3 : Fin 4)) x hx (constant S_ .f32 0xFF800000#32) reducesTo_S2x8x16384x16384_S2x8x16384_d3 fact h_S_
    (start_ne _) long j

theorem floor_apply (j : S2x8x16384.Idx) : broadcastInDim (α := Ideal .f32) S2x8x16384 ![] bcast_S_S2x8x16384 (constant S_ .f32 0xFF800000#32) j = (⊥ : EReal) := by
  show Ideal.ofBits .f32 0xFF800000#32 = (⊥ : EReal)
  simp [Ideal.ofBits, Ideal.ieee]

theorem peak_eq (x : FVec Ideal S2x8x16384x16384 .f32) (j : S2x8x16384.Idx) :
    peak x j = max (broadcastInDim S2x8x16384 ![] bcast_S_S2x8x16384 (constant S_ .f32 0xFF800000#32) j)
      (Host.reduce FloatOps.maximumf x (constant S_ .f32 0xFF800000#32) reducesTo_S2x8x16384x16384_S2x8x16384_d3 h_S_ j) :=
  max_apply _ _ j

/-- It is a real number where the scores are. -/
theorem peak_real (x : FVec Ideal S2x8x16384x16384 .f32) (hx : ∀ i, ∃ r : ℝ, x i = (r : EReal)) (j : S2x8x16384.Idx) :
    ∃ r : ℝ, peak x j = (r : EReal) := by
  obtain ⟨r, hr⟩ := row_real x hx j
  exact ⟨r, by rw [peak_eq, hr, floor_apply, max_eq_right bot_le]⟩

end Cert.Proof.Ref

end
-- ==== Proof.Ref.lean ====
/-
  The reference's result at an index.
-/
module

public import proofs.«01_k».proof.Proof.Gen.ReferenceIdeal.Run
public import proofs.«01_k».proof.Proof.Peak
public import Idealize.ShloMosaic.Lib.Pointwise

@[expose] public section

set_option maxRecDepth 16384

noncomputable section

namespace Cert.Proof.Ref

open Cert.ReferenceIdeal Cert.ReferenceIdeal.Gen
open Idealize.ShloMosaic Idealize.SL.Sem

variable (a0 : FVec Ideal S2x16384x8x64 .f32) (a1 : FVec Ideal S2x16384x8x32 .f32) (a2 : FVec Ideal S2x16384x8x64 .f32) (a3 : FVec Ideal S2x16384x32 .f32) (a4 : FVec Ideal S2x16384x8x64 .f32)

/-- The scores. -/
def scores : FVec Ideal S2x8x16384x16384 .f32 :=
  mulf (addf (Host.dotGeneral dot_S2x16384x8x64_S2x16384x8x64_S2x8x16384x16384_3_3_1_1_02_02 none a0 a2)
    (transpose S2x8x16384x16384 [0, 3, 2, 1] (Host.dotGeneral dot_S2x16384x32_S2x16384x8x32_S2x16384x16384x8_2_3_1_12_0_0 none a3 a1) transposes_S2x16384x16384x8_S2x8x16384x16384_0_3_2_1))
    (broadcastInDim S2x8x16384x16384 ![] bcast_S_S2x8x16384x16384 (constant S_ .f32 0x3DD105EC#32))

theorem scores_apply (b : Fin 2) (h : Fin 8) (s k : Fin 16384) :
    scores a0 a1 a2 a3 (ix4 b h s k) = (∑ x, a0 (ix4 b s h x) * a2 (ix4 b k h x) + ∑ x, a3 (ix3 b k x) * a1 (ix4 b s h x))
      * Ideal.ofBits .f32 0x3DD105EC#32 := by
  pointwise [scores]

/-- The exponentials. -/
def exps (x : FVec Ideal S2x8x16384x16384 .f32) : FVec Ideal S2x8x16384x16384 .f32 :=
  Host.exp (subf x (broadcastInDim S2x8x16384x16384 ![0, 1, 2, 3] bcast_S2x8x16384x1_S2x8x16384x16384_0_1_2_3 (broadcastInDim S2x8x16384x1 ![0, 1, 2] bcast_S2x8x16384_S2x8x16384x1_0_1_2 (peak x))))

theorem exps_apply (x : FVec Ideal S2x8x16384x16384 .f32) (b : Fin 2) (h : Fin 8) (s k : Fin 16384) :
    exps x (ix4 b h s k) = Ideal.exp (x (ix4 b h s k) - peak x (ix3 b h s)) := by
  pointwise [exps]

/-- The result, from the exponentials and the values. -/
def res (e : FVec Ideal S2x8x16384x16384 .f32) (a4 : FVec Ideal S2x16384x8x64 .f32) : FVec Ideal S2x512x16384 .bf16 :=
  truncf .bf16 (transpose S2x512x16384 [0, 2, 1] (shapeCast _ (transpose S2x16384x8x64 [0, 3, 1, 2] (Host.dotGeneral dot_S2x16384x8x64_S2x8x16384x16384_S2x8x64x16384_1_3_3_2_02_01 none a4
    (Host.divf e (broadcastInDim S2x8x16384x16384 ![0, 1, 2, 3] bcast_S2x8x16384x1_S2x8x16384x16384_0_1_2_3 (broadcastInDim S2x8x16384x1 ![0, 1, 2] bcast_S2x8x16384_S2x8x16384x1_0_1_2
      (Host.reduceAdd e (constant S_ .f32 0x00000000#32) reducesTo_S2x8x16384x16384_S2x8x16384_d3 h_S_))))) transposes_S2x8x64x16384_S2x16384x8x64_0_3_1_2) shapeCasts_S2x16384x8x64_S2x16384x512) transposes_S2x16384x512_S2x512x16384_0_2_1) bitsLt_bf16_f32

theorem res_apply (e : FVec Ideal S2x8x16384x16384 .f32) (b : Fin 2) (h : Fin 8) (d : Fin 64) (s : Fin 16384) :
    res e a4 (ix3 b ⟨h * 64 + d, by omega⟩ s) = ∑ x, a4 (ix4 b x h d) * Ideal.div (e (ix4 b h s x)) (∑ x', e (ix4 b h s x')) := by
  pointwise [res]

/-- The result at an index, from the scores' row. -/
theorem result_apply (b : Fin 2) (h : Fin 8) (d : Fin 64) (s : Fin 16384) :
    res (exps (scores a0 a1 a2 a3)) a4 (ix3 b ⟨h * 64 + d, by omega⟩ s)
      = ∑ k, a4 (ix4 b k h d) * Ideal.div (Ideal.exp (scores a0 a1 a2 a3 (ix4 b h s k) - peak (scores a0 a1 a2 a3) (ix3 b h s)))
          (∑ k', Ideal.exp (scores a0 a1 a2 a3 (ix4 b h s k') - peak (scores a0 a1 a2 a3) (ix3 b h s))) := by
  rw [res_apply]; simp only [exps_apply]

/-- The reference's run, its result named. -/
theorem ran (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = res (exps (scores (m ((c.tc : Thread nD τ).loc main_arg0)) (m ((c.tc : Thread nD τ).loc main_arg1))
          (m ((c.tc : Thread nD τ).loc main_arg2)) (m ((c.tc : Thread nD τ).loc main_arg3)))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

end Cert.Proof.Ref

end
-- ==== Proof.Finite.lean ====
/-
  What the precondition says: every entry of the queries and of the keys is a real number.
-/
module

public import proofs.«01_k».proof.Defs
public import proofs.«01_k».proof.Proof.Gen.Pre_finite
public import Idealize.ShloMosaic.Lib.ReduceAll

@[expose] public section

set_option maxRecDepth 16384

noncomputable section

namespace Cert.Proof.Finite

open Idealize.ShloMosaic

/-- An entry whose absolute value is below infinity is real. -/
theorem real_of_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have hlt : max x (-x) < ⊤ := by
    by_contra hc
    simp [Ideal.cmp, hc] at h
  induction x using EReal.rec with
  | bot => simp at hlt
  | coe r => exact ⟨r, rfl⟩
  | top => simp at hlt

/-- One argument's part of the predicate. -/
theorem all_real {s : Shape} (a : FVec Ideal s .f32) (inf : FVec Ideal s .f32) (hinf : ∀ i, inf i = Ideal.ofBits .f32 0x7F800000#32)
    {axes : List (Fin s.rank)} {t u : Shape} (init : IVec u 1) (h : s.ReducesTo axes t) (hu : 0 < u.numel) (j : t.Idx) (hj : ∀ i, h.drop i = j)
    (e : Host.reduce IntOp.andi (cmpf .olt (Host.absf a) inf) init h hu j = 1#1) (i : s.Idx) : ∃ r : ℝ, a i = (r : EReal) := by
  have := Host.reduce_andi_eq_one (cmpf .olt (Host.absf a) inf) init h hu j e i (hj i)
  refine real_of_lt (a i) ?_
  rw [← hinf i]
  exact this

/-- The shape of a scalar has one index. -/
theorem none_left (i j : Cert.Pre_finite.S_.Idx) : i = j := funext fun d => Fin.elim0 d

/-- Every entry of the four arrays the predicate reads is real. -/
theorem entries [Cert.Pre_finite.Facts] (a0 : FVec Ideal Cert.Pre_finite.S2x16384x8x64 .f32) (a1 : FVec Ideal Cert.Pre_finite.S2x16384x8x32 .f32)
    (a2 : FVec Ideal Cert.Pre_finite.S2x16384x8x64 .f32) (a3 : FVec Ideal Cert.Pre_finite.S2x16384x32 .f32) (a4 : FVec Ideal Cert.Pre_finite.S2x16384x8x64 .f32)
    (e : Cert.Pre_finite.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ ∀ i, ∃ r : ℝ, a3 i = (r : EReal) := by
  have e0 := congrFun e fun d => Fin.elim0 d
  dsimp only [Cert.Pre_finite.fn, Cert.Pre_finite.fn_part1] at e0
  obtain ⟨e1, h3⟩ := IntOp.andi_eq_one.1 e0
  obtain ⟨e2, h2⟩ := IntOp.andi_eq_one.1 e1
  obtain ⟨h0, h1⟩ := IntOp.andi_eq_one.1 e2
  exact ⟨all_real a0 _ (fun _ => rfl) _ _ _ _ (fun _ => none_left _ _) h0, all_real a1 _ (fun _ => rfl) _ _ _ _ (fun _ => none_left _ _) h1,
    all_real a2 _ (fun _ => rfl) _ _ _ _ (fun _ => none_left _ _) h2, all_real a3 _ (fun _ => rfl) _ _ _ _ (fun _ => none_left _ _) h3⟩

end Cert.Proof.Finite

end
-- ==== Proof.Sums.lean ====
/-
  The attention kernel's block over the extended reals, a column of queries at a time: the running sums are partial
  sums of the weights 2^(score - maximum), so the block is the weighted mean of the value rows.
-/
module

public import proofs.«01_k».proof.Proof.Tile
public import proofs.«01_k».proof.Proof.Softmax
public import Idealize.ShloMosaic.Lib.Pointwise
public import Idealize.ShloMosaic.Lib.ValueIdx

@[expose] public section

set_option maxRecDepth 16384

noncomputable section

namespace Cert.Proof.Attn

open Cert.KernelIdeal Cert.KernelIdeal.Gen Cert.Proof.Softmax
open Idealize.ShloMosaic Idealize.SL.Sem

/-- Position `n` of the keys. -/
def pos (n : ℕ) : Fin 16384 := ⟨n % 16384, Nat.mod_lt _ (by decide)⟩

theorem pos_chunk (n : ℕ) (k : Fin 512) (h) : (⟨512 * (n % 32) + k, h⟩ : Fin 16384) = pos (512 * (n % 32) + k) :=
  Fin.ext (Nat.mod_eq_of_lt h).symm

variable (q : FVec Ideal S128x512 .bf16) (x1 : Vec Ideal S1x1x16384x128 .bf16) (x2 : Vec Ideal S1x1x80x16384 .bf16)

theorem sc_apply (n : ℕ) (k : Fin 512) (j : Fin 512) :
    sc q x1 n (ix2 k j) = ∑ d : Fin 128, x1 (ix4 0 0 (pos (512 * (n % 32) + k)) d) * q (ix2 d j) := by
  pointwise [sc, keys]
  simp only [pos_chunk]

theorem up_apply (m : FVec Ideal S1x512 .f32) (s : FVec Ideal S512x512 .f32) (j : Fin 512) :
    up m s (ix2 0 j) = max (m (ix2 0 j)) (Finset.univ.fold max ⊥ fun k : Fin 512 => s (ix2 k j)) := by
  pointwise [up]
  rw [show Ideal.ofBits FTy.f32 0xFF800000#32 = ⊥ from by simp [Ideal.ofBits, Ideal.ieee]]

theorem pv_apply (n : ℕ) (s : FVec Ideal S512x512 .f32) (m : FVec Ideal S1x512 .f32) (a : Fin 80) (j : Fin 512) :
    pv (vals x2 n) s m (ix2 a j) = ∑ k : Fin 512, x2 (ix4 0 0 a (pos (512 * (n % 32) + k))) * Ideal.exp2 (s (ix2 k j) - m (ix2 0 j)) := by
  pointwise [pv, vals, wt]
  simp only [pos_chunk]
  rfl

theorem corr_apply (m m' : FVec Ideal S1x512 .f32) (x : FVec Ideal S80x512 .f32) (a : Fin 80) (j : Fin 512) :
    corr m m' x (ix2 a j) = Ideal.exp2 (m (ix2 0 j) - m' (ix2 0 j)) * x (ix2 a j) := by
  pointwise [corr]
  rfl

theorem fin_apply (x : FVec Ideal S80x512 .f32) (d : Fin 64) (j : Fin 512) :
    fin x (ix3 0 d j) = Ideal.div (x (ix2 ⟨d, by omega⟩ j)) (x (ix2 64 j)) := by
  pointwise [fin]

theorem qm_apply (x0 : Vec Ideal S1x1x128x512 .bf16) (d : Fin 128) (j : Fin 512) :
    qm x0 (ix2 d j) = x0 (ix4 0 0 d j) := by
  pointwise [qm]

theorem low_apply (j : Fin 512) : ∃ x : ℝ, low (F := Ideal) (ix2 0 j) = (x : EReal) := by
  pointwise [low]
  exact ⟨_, (EReal.coe_toReal (by simp [Ideal.ofBits, Ideal.ieee, -EReal.coe_mul]) (by simp [Ideal.ofBits, Ideal.ieee, -EReal.coe_mul])).symm⟩

theorem acc_zero (a : Fin 80) (j : Fin 512) : acc q x1 x2 0 (ix2 a j) = 0 := by
  pointwise [acc]

/-- The running maximum is a real number wherever the scores are. -/
theorem up_real (m : FVec Ideal S1x512 .f32) (s : FVec Ideal S512x512 .f32) (j : Fin 512)
    (hm : ∃ x : ℝ, m (ix2 0 j) = (x : EReal)) (hs : ∀ k : Fin 512, ∃ x : ℝ, s (ix2 k j) = (x : EReal)) :
    ∃ x : ℝ, up m s (ix2 0 j) = (x : EReal) := by
  obtain ⟨x, hx⟩ := hm
  choose f hf using hs
  rw [up_apply, hx]
  simp only [hf]
  obtain ⟨y, hy⟩ := fold_max_real ⊥ (by simp) f
  exact ⟨max x y, by rw [hy, (EReal.coe_strictMono.monotone.map_max).symm]⟩

variable {q x1} {R : ℕ → ℝ} {j : Fin 512}

/-- The scores of column `j`. -/
def Scores (q : FVec Ideal S128x512 .bf16) (x1 : Vec Ideal S1x1x16384x128 .bf16) (R : ℕ → ℝ) (j : Fin 512) : Prop :=
  ∀ n < 16384, ∑ d : Fin 128, x1 (ix4 0 0 (pos n) d) * q (ix2 d j) = ((R n : ℝ) : EReal)

theorem sc_real (hR : Scores q x1 R j) (n : ℕ) (hn : n < 32) (k : Fin 512) : sc q x1 n (ix2 k j) = ((R (512 * n + k) : ℝ) : EReal) := by
  rw [sc_apply, Nat.mod_eq_of_lt hn]; exact hR _ (by omega)

theorem mm_real (hR : Scores q x1 R j) (t : ℕ) (ht : t ≤ 16) : ∃ x : ℝ, mm q x1 t (ix2 0 j) = (x : EReal) := by
  induction t with
  | zero => exact low_apply j
  | succ t ih =>
    obtain ⟨x, hx⟩ := ih (by omega)
    obtain ⟨y, hy⟩ : ∃ y : ℝ, tm q x1 t (ix2 0 j) = (y : EReal) :=
      up_real _ _ j (up_real _ _ j (low_apply j) fun k => ⟨_, sc_real hR _ (by omega) k⟩) fun k => ⟨_, sc_real hR _ (by omega) k⟩
    refine ⟨max x y, ?_⟩
    have : mm q x1 (t + 1) (ix2 0 j) = max (mm q x1 t (ix2 0 j)) (tm q x1 t (ix2 0 j)) := by
      pointwise [mm]
    rw [this, hx, hy, (EReal.coe_strictMono.monotone.map_max).symm]

/-- One chunk added to a partial sum. -/
theorem pv_part (hR : Scores q x1 R j) (n : ℕ) (hn : n < 32) (m : FVec Ideal S1x512 .f32) (M : ℝ) (hm : m (ix2 0 j) = (M : EReal)) (a : Fin 80) :
    part R (fun i => x2 (ix4 0 0 a (pos i))) M (512 * n) + pv (vals x2 n) (sc q x1 n) m (ix2 a j)
      = part R (fun i => x2 (ix4 0 0 a (pos i))) M (512 * (n + 1)) := by
  rw [pv_apply, Nat.mod_eq_of_lt hn, mul_add, mul_one, ← part_add]
  congr 1
  refine Finset.sum_congr rfl fun k _ => ?_
  rw [sc_real hR n hn, hm, exp2_sub]

/-- The running sums before tile `t` are the partial sums over the first `1024 t` positions. -/
theorem acc_part (hR : Scores q x1 R j) (t : ℕ) (ht : t ≤ 16) (M : ℝ) (hM : mm q x1 t (ix2 0 j) = (M : EReal)) (a : Fin 80) :
    acc q x1 x2 t (ix2 a j) = part R (fun i => x2 (ix4 0 0 a (pos i))) M (512 * (2 * t)) := by
  induction t generalizing M with
  | zero => rw [acc_zero, show 512 * (2 * 0) = 0 from rfl, part_zero]
  | succ t ih =>
    obtain ⟨M0, h0⟩ := mm_real hR t (by omega)
    have : acc q x1 x2 (t + 1) (ix2 a j) = corr (mm q x1 t) (mm q x1 (t + 1)) (acc q x1 x2 t) (ix2 a j)
        + pv (vals x2 (2 * t)) (sc q x1 (2 * t)) (mm q x1 (t + 1)) (ix2 a j)
        + pv (vals x2 (2 * t + 1)) (sc q x1 (2 * t + 1)) (mm q x1 (t + 1)) (ix2 a j) := rfl
    rw [this, corr_apply, ih (by omega) M0 h0, h0, hM, exp2_sub, rescale, pv_part x2 hR _ (by omega) _ M hM, pv_part x2 hR _ (by omega) _ M hM]
    rfl

/-- THE BLOCK at a column of queries: the weighted mean of the value rows, when the row of ones follows them. -/
theorem out_apply (x0 : Vec Ideal S1x1x128x512 .bf16) {u : ℕ → ℝ} (hR : Scores (qm x0) x1 (fun n => u n * (1 / Real.log 2)) j)
    (h1 : ∀ n, x2 (ix4 0 0 64 (pos n)) = 1) (b : ℝ) (d : Fin 64) :
    out x0 x1 x2 (ix3 0 d j) = ∑ k ∈ Finset.range 16384, x2 (ix4 0 0 ⟨d, by omega⟩ (pos k))
      * Ideal.div (Ideal.exp ((u k : EReal) - (b : EReal))) (∑ k' ∈ Finset.range 16384, Ideal.exp ((u k' : EReal) - (b : EReal))) := by
  obtain ⟨M, hM⟩ := mm_real hR 16 le_rfl
  rw [out, fin_apply, acc_part x2 hR 16 le_rfl M hM, acc_part x2 hR 16 le_rfl M hM]
  simp only [h1]
  exact finish 16384 (by decide) _ u (fun _ => rfl) _ M b

end Cert.Proof.Attn

end
-- ==== Proof.Prep.lean ====
/-
  What the host hands the attention kernel, at an index: the scaled queries, the keys and the values with their row of
  ones, as functions of the arguments.
-/
module

public import proofs.«01_k».proof.Proof.Run
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The queries as the kernel is given them, -/
def qq (a0 : FVec Ideal S2x16384x8x64 .f32) (a1 : FVec Ideal S2x16384x8x32 .f32) (b : Fin 2) (h : Fin 8) (s : Fin 16384) (d : Fin 128) : EReal :=
  (if h1 : (d : ℕ) < 64 then a0 (ix4 b s h ⟨d, h1⟩) else if h2 : (d : ℕ) - 64 < 32 then a1 (ix4 b s h ⟨d - 64, h2⟩) else 0)
    * Ideal.div (Ideal.ofBits .f32 0x3DD105EC#32) (Ideal.log (Ideal.ofBits .f32 0x40000000#32))

/-- the keys, -/
def kk (a2 : FVec Ideal S2x16384x8x64 .f32) (a3 : FVec Ideal S2x16384x32 .f32) (b : Fin 2) (h : Fin 8) (k : Fin 16384) (d : Fin 128) : EReal :=
  if h1 : (d : ℕ) < 64 then a2 (ix4 b k h ⟨d, h1⟩) else if h2 : (d : ℕ) - 64 < 32 then a3 (ix3 b k ⟨d - 64, h2⟩) else 0

/-- and the values. -/
def vv (a4 : FVec Ideal S2x16384x8x64 .f32) (b : Fin 2) (h : Fin 8) (k : Fin 16384) (d : Fin 80) : EReal :=
  if h1 : (d : ℕ) < 64 then a4 (ix4 b k h ⟨d, h1⟩) else 1

theorem v7_apply (b : Fin 2) (h : Fin 8) (d : Fin 128) (s : Fin 16384) :
    (V m c main_v7 : Vec Ideal S2x8x128x16384 .bf16) (ix4 b h d s) = qq (m ((c.tc : Thread nD τ).loc main_arg0)) (m ((c.tc : Thread nD τ).loc main_arg1)) b h s d := by
  unfold V
  after_reads_at
  after_reads_at
  rfl

theorem v12_apply (b : Fin 2) (h : Fin 8) (d : Fin 128) (s : Fin 16384) :
    (V m c main_v12 : Vec Ideal S2x8x16384x128 .bf16) (ix4 b h s d) = kk (m ((c.tc : Thread nD τ).loc main_arg2)) (m ((c.tc : Thread nD τ).loc main_arg3)) b h s d := by
  unfold V
  after_reads_at
  after_reads_at
  rfl

theorem v16_apply (b : Fin 2) (h : Fin 8) (d : Fin 80) (s : Fin 16384) :
    (V m c main_v16 : Vec Ideal S2x8x80x16384 .bf16) (ix4 b h d s) = vv (m ((c.tc : Thread nD τ).loc main_arg4)) b h s d := by
  unfold V
  after_reads_at
  after_reads_at
  rfl

/-! ## The blocks -/

theorem idx (t : Fin cfg0.N) : win0_0.index t = ![t.val / 256, t.val / 32 % 8, 0, t.val % 32] ∧ win0_1.index t = ![t.val / 256, t.val / 32 % 8, 0, 0]
    ∧ win0_2.index t = ![t.val / 256, t.val / 32 % 8, 0, 0] ∧ win0_3.index t = ![t.val / 256, t.val / 32 % 8, t.val % 32] := by
  revert t; decide +kernel

theorem point_lt (t : Fin cfg0.N) : t.val < 512 := lt_of_lt_of_eq t.isLt N_0

/-- The batch, the head and the column of a grid point. -/
def bat (t : Fin cfg0.N) : Fin 2 := ⟨t.val / 256, by have := point_lt t; omega⟩
def hd (t : Fin cfg0.N) : Fin 8 := ⟨t.val / 32 % 8, by omega⟩
def col (t : Fin cfg0.N) (j : Fin 512) : Fin 16384 := ⟨t.val % 32 * 512 + j, by omega⟩

theorem blk0_apply (t : Fin cfg0.N) (d : Fin 128) (j : Fin 512) :
    (iblk m c 0 t : Vec Ideal S1x1x128x512 .bf16) (ix4 0 0 d j) = (V m c main_v7 : Vec Ideal S2x8x128x16384 .bf16) (ix4 (bat t) (hd t) d (col t j)) := by
  blk_ext [iblk, bat, hd, col, idx t]

theorem blk1_apply (t : Fin cfg0.N) (d : Fin 128) (k : Fin 16384) :
    (iblk m c 1 t : Vec Ideal S1x1x16384x128 .bf16) (ix4 0 0 k d) = (V m c main_v12 : Vec Ideal S2x8x16384x128 .bf16) (ix4 (bat t) (hd t) k d) := by
  blk_ext [iblk, bat, hd, col, idx t]

theorem blk2_apply (t : Fin cfg0.N) (d : Fin 80) (k : Fin 16384) :
    (iblk m c 2 t : Vec Ideal S1x1x80x16384 .bf16) (ix4 0 0 d k) = (V m c main_v16 : Vec Ideal S2x8x80x16384 .bf16) (ix4 (bat t) (hd t) d k) := by
  blk_ext [iblk, bat, hd, col, idx t]

end Cert.Proof.Attn

end
-- ==== Proof.Scores.lean ====
/-
  The kernel's scores are the reference's, divided by `log 2`: the pad lanes add nothing, and the scale comes out of the
  sum, every entry of the queries and keys being a real number.
-/
module

public import proofs.«01_k».proof.Proof.Prep
public import proofs.«01_k».proof.Proof.Ref

@[expose] public section

set_option maxRecDepth 16384

noncomputable section

namespace Cert.Proof.Attn

open Idealize.ShloMosaic Cert.KernelIdeal Cert.Proof.Softmax

/-- A sum over the 128 lanes of the products of 64 lanes, then 32, then 32 of zeros. -/
theorem sum_lanes (F : Fin 64 → ℝ) (G : Fin 32 → ℝ) :
    ∑ d : Fin 128, (if h1 : (d : ℕ) < 64 then F ⟨d, h1⟩ else if h2 : (d : ℕ) - 64 < 32 then G ⟨d - 64, h2⟩ else 0) = ∑ k, F k + ∑ k, G k := by
  refine (Fin.sum_univ_add (a := 64) (b := 64) fun d : Fin (64 + 64) =>
    (if h1 : (d : ℕ) < 64 then F ⟨d, h1⟩ else if h2 : (d : ℕ) - 64 < 32 then G ⟨d - 64, h2⟩ else 0)).trans ?_
  refine congrArg₂ (· + ·) ?_ ?_
  · refine Finset.sum_congr rfl fun k _ => ?_
    have : ((Fin.castAdd 64 k : Fin (64 + 64)) : ℕ) < 64 := k.isLt
    rw [dif_pos this]; rfl
  · have e : ∀ k : Fin 64, ¬ ((Fin.natAdd 64 k : Fin (64 + 64)) : ℕ) < 64 := fun k => by simp
    simp only [e, dif_neg, not_false_eq_true]
    refine (Fin.sum_univ_add (M := ℝ) (a := 32) (b := 32) _).trans ?_
    rw [← add_zero (∑ k, G k)]
    refine congrArg₂ (· + ·) ?_ ?_
    · refine Finset.sum_congr rfl fun k _ => ?_
      have h : ((Fin.natAdd 64 (Fin.castAdd 32 k : Fin (32 + 32)) : Fin (64 + 64)) : ℕ) - 64 < 32 := by simp
      rw [dif_pos h]; congr 1; apply Fin.ext; simp
    · refine Finset.sum_eq_zero fun k _ => ?_
      have h : ¬ ((Fin.natAdd 64 (Fin.natAdd 32 k : Fin (32 + 32)) : Fin (64 + 64)) : ℕ) - 64 < 32 := by simp
      rw [dif_neg h]

/-- The scale's literal is a real number, -/
theorem scale_real : ∃ s : ℝ, Ideal.ofBits .f32 0x3DD105EC#32 = (s : EReal) :=
  ⟨_, (EReal.coe_toReal (by simp [Ideal.ofBits, Ideal.ieee, -EReal.coe_mul]) (by simp [Ideal.ofBits, Ideal.ieee, -EReal.coe_mul])).symm⟩

/-- and `log 2` what it says. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]
    norm_num
  rw [h, Ideal.log_coe, if_neg (by norm_num)]

/-- THE SCORES: one real number for the reference, the same over `log 2` for the kernel. -/
theorem scores_agree (a0 : FVec Ideal S2x16384x8x64 .f32) (a1 : FVec Ideal S2x16384x8x32 .f32) (a2 : FVec Ideal S2x16384x8x64 .f32) (a3 : FVec Ideal S2x16384x32 .f32)
    (h0 : ∀ i, ∃ r : ℝ, a0 i = (r : EReal)) (h1 : ∀ i, ∃ r : ℝ, a1 i = (r : EReal)) (h2 : ∀ i, ∃ r : ℝ, a2 i = (r : EReal)) (h3 : ∀ i, ∃ r : ℝ, a3 i = (r : EReal))
    (b : Fin 2) (h : Fin 8) (s k : Fin 16384) :
    ∃ u : ℝ, Ref.scores a0 a1 a2 a3 (ix4 b h s k) = (u : EReal) ∧ ∑ d : Fin 128, kk a2 a3 b h k d * qq a0 a1 b h s d = ((u * (1 / Real.log 2) : ℝ) : EReal) := by
  choose f0 e0 using h0
  choose f1 e1 using h1
  choose f2 e2 using h2
  choose f3 e3 using h3
  obtain ⟨z, hz⟩ := scale_real
  have hl : Real.log 2 ≠ 0 := (Real.log_pos (by norm_num)).ne'
  have hL : ∀ d : Fin 128, kk a2 a3 b h k d * qq a0 a1 b h s d
      = (((if g1 : (d : ℕ) < 64 then f2 (ix4 b k h ⟨d, g1⟩) * f0 (ix4 b s h ⟨d, g1⟩)
          else if g2 : (d : ℕ) - 64 < 32 then f3 (ix3 b k ⟨d - 64, g2⟩) * f1 (ix4 b s h ⟨d - 64, g2⟩) else 0) * (z * (1 / Real.log 2)) : ℝ) : EReal) := by
    intro d
    unfold kk qq
    rw [hz, log_two, Ideal.div_coe hl]
    split_ifs with g1 g2
    · rw [e2, e0]; simp only [← EReal.coe_mul, mul_assoc]
    · rw [e3, e1]; simp only [← EReal.coe_mul, mul_assoc]
    · simp
  refine ⟨(∑ x, f0 (ix4 b s h x) * f2 (ix4 b k h x) + ∑ x, f3 (ix3 b k x) * f1 (ix4 b s h x)) * z, ?_, ?_⟩
  · rw [Ref.scores_apply, hz]
    simp only [e0, e1, e2, e3, ← EReal.coe_mul, coe_sum, ← EReal.coe_add]
  · rw [Finset.sum_congr rfl fun d _ => hL d, coe_sum, ← Finset.sum_mul,
      sum_lanes (fun x => f2 (ix4 b k h x) * f0 (ix4 b s h x)) (fun x => f3 (ix3 b k x) * f1 (ix4 b s h x))]
    congr 1
    rw [Finset.sum_congr rfl fun x _ => mul_comm (f2 (ix4 b k h x)) (f0 (ix4 b s h x)), mul_assoc]

end Cert.Proof.Attn

end
-- ==== Proof.Value.lean ====
/-
  THE VALUE: over real queries and keys the array the launch leaves is the reference's result.
-/
module

public import proofs.«01_k».proof.Proof.Run
public import proofs.«01_k».proof.Proof.Sums
public import proofs.«01_k».proof.Proof.Scores
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The queries, the keys and the values of the initial memory. -/
def q0 : FVec Ideal S2x16384x8x64 .f32 := m ((c.tc : Thread nD τ).loc main_arg0)
def q1 : FVec Ideal S2x16384x8x32 .f32 := m ((c.tc : Thread nD τ).loc main_arg1)
def k0 : FVec Ideal S2x16384x8x64 .f32 := m ((c.tc : Thread nD τ).loc main_arg2)
def k1 : FVec Ideal S2x16384x32 .f32 := m ((c.tc : Thread nD τ).loc main_arg3)
def vs : FVec Ideal S2x16384x8x64 .f32 := m ((c.tc : Thread nD τ).loc main_arg4)

/-- What the reference makes of them. -/
def result : FVec Ideal S2x512x16384 .bf16 := Ref.res (Ref.exps (Ref.scores (q0 m c) (q1 m c) (k0 m c) (k1 m c))) (vs m c)

/-- Queries and keys are real numbers. -/
def Real4 : Prop := (∀ i, ∃ r : ℝ, q0 m c i = (r : EReal)) ∧ (∀ i, ∃ r : ℝ, q1 m c i = (r : EReal))
  ∧ (∀ i, ∃ r : ℝ, k0 m c i = (r : EReal)) ∧ ∀ i, ∃ r : ℝ, k1 m c i = (r : EReal)

theorem pos_val (k : Fin 16384) : pos k = k := Fin.ext (Nat.mod_eq_of_lt k.isLt)

/-- Every score is real. -/
theorem scores_real (h : Real4 m c) (i) : ∃ r : ℝ, Ref.scores (q0 m c) (q1 m c) (k0 m c) (k1 m c) i = (r : EReal) := by
  obtain ⟨h0, h1, h2, h3⟩ := h
  obtain ⟨u, hu, -⟩ := scores_agree (q0 m c) (q1 m c) (k0 m c) (k1 m c) h0 h1 h2 h3 (i 0) (i 1) (i 2) (i 3)
  refine ⟨u, ?_⟩
  rw [← hu]
  congr 1
  exact eq_ix4 i

/-- The three blocks of a point, as arrays of extended reals, -/
def qb (t : Fin cfg0.N) : FVec Ideal S1x1x128x512 .bf16 := iblk m c 0 t
def kb (t : Fin cfg0.N) : FVec Ideal S1x1x16384x128 .bf16 := iblk m c 1 t
def vb (t : Fin cfg0.N) : FVec Ideal S1x1x80x16384 .bf16 := iblk m c 2 t

/-- and their entries, from the arguments. -/
theorem qb_apply (t : Fin cfg0.N) (d : Fin 128) (j : Fin 512) : qb m c t (ix4 0 0 d j) = qq (q0 m c) (q1 m c) (bat t) (hd t) (col t j) d :=
  (blk0_apply m c t d j).trans (v7_apply m c (bat t) (hd t) d (col t j))
theorem kb_apply (t : Fin cfg0.N) (d : Fin 128) (k : Fin 16384) : kb m c t (ix4 0 0 k d) = kk (k0 m c) (k1 m c) (bat t) (hd t) k d :=
  (blk1_apply m c t d k).trans (v12_apply m c (bat t) (hd t) d k)
theorem vb_apply (t : Fin cfg0.N) (d : Fin 80) (k : Fin 16384) : vb m c t (ix4 0 0 d k) = vv (vs m c) (bat t) (hd t) k d :=
  (blk2_apply m c t d k).trans (v16_apply m c (bat t) (hd t) d k)

/-- One point's block at a row and a column. -/
theorem point (h : Real4 m c) (t : Fin cfg0.N) (d : Fin 64) (j : Fin 512) :
    blkOut m c t (ix3 0 d j) = result m c (ix3 (bat t) ⟨hd t * 64 + d, by omega⟩ (col t j)) := by
  have hr := h
  obtain ⟨h0, h1, h2, h3⟩ := h
  choose u hu hk using fun k => scores_agree (q0 m c) (q1 m c) (k0 m c) (k1 m c) h0 h1 h2 h3 (bat t) (hd t) (col t j) k
  obtain ⟨b, hb⟩ := Ref.peak_real (Ref.scores (q0 m c) (q1 m c) (k0 m c) (k1 m c)) (scores_real m c hr) (ix3 (bat t) (hd t) (col t j))
  have hR : Scores (qm (qb m c t)) (kb m c t) (fun n => u (pos n) * (1 / Real.log 2)) j := by
    intro n _
    simp only [qm_apply, qb_apply, kb_apply]
    exact hk (pos n)
  have hones : ∀ n, vb m c t (ix4 0 0 64 (pos n)) = 1 := by
    intro n
    rw [vb_apply]
    exact dif_neg (by decide)
  have hv : ∀ k : Fin 16384, vb m c t (ix4 0 0 ⟨d, by omega⟩ k) = vs m c (ix4 (bat t) k (hd t) d) := by
    intro k
    rw [vb_apply]
    exact dif_pos d.isLt
  refine (out_apply (vb m c t) (qb m c t) hR hones b d).trans ?_
  rw [result, Ref.result_apply, hb]
  simp only [hu, Finset.sum_range, pos_val, hv]

/-- The array after the launch. -/
theorem array (h : Real4 m c) : (dats m 0 c).arrAt 3 cfg0.N = result m c := by
  refine (dats m 0 c).arrAt_eq_of_covers 3 _ (by decide +kernel) fun t hf y => ?_
  blk_simp
  rw [after0_3]
  have hy : y = ix3 0 (y 1) (y 2) := by
    funext d
    match d with
    | 0 => exact Fin.ext (Nat.lt_one_iff.1 (y 0).isLt)
    | 1 => rfl
    | 2 => rfl
  refine (congrArg (blkOut m c t) hy).trans ((point m c h t (y 1) (y 2)).trans (congrArg (result m c) ?_))
  blk_ext [bat, hd, col, idx t]

end Cert.Proof.Attn

end
-- ==== Proof.MoeSame.lean ====
/-
  The experts' printed program and its idealization have one text: their programs and body tables are equal.
-/
module

public import proofs.«01_k».proof.Defs
public import proofs.«01_k».proof.Proof.Gen.Experts
public import proofs.«01_k».proof.Proof.Gen.ExpertsIdeal

@[expose] public section

set_option maxHeartbeats 4000000

noncomputable section

namespace Cert.Proof.Moe

open Idealize.ShloMosaic Idealize.SL.Sem

set_option backward.isDefEq.respectTransparency false in
set_option backward.isDefEq.respectTransparency.types false in
/-- The two @main are one. -/
theorem main_same : @Cert.Experts.main Bits _ Cert.Experts.Gen.facts = @Cert.ExpertsIdeal.main Bits _ Cert.ExpertsIdeal.Gen.facts := rfl

set_option backward.isDefEq.respectTransparency false in
set_option backward.isDefEq.respectTransparency.types false in
/-- The bodies, label by label, are one. -/
theorem bodies_same : @Cert.Experts.defs₀ Bits _ Cert.Experts.Gen.facts = @Cert.ExpertsIdeal.defs₀ Bits _ Cert.ExpertsIdeal.Gen.facts := by
  unfold Cert.Experts.defs₀ Cert.ExpertsIdeal.defs₀
  refine congrArg Defs.onTc ?_
  funext l a
  match l, a with
  | 0, (t, s) => rfl

set_option backward.isDefEq.respectTransparency false in
set_option backward.isDefEq.respectTransparency.types false in
/-- The body tables with the pipeline's own labels are one. -/
theorem defs_same : @Cert.Experts.defs Bits _ Cert.Experts.Gen.facts = @Cert.ExpertsIdeal.defs Bits _ Cert.ExpertsIdeal.Gen.facts := by
  unfold Cert.Experts.defs Cert.ExpertsIdeal.defs
  exact congrArg (Pipeline.defs _) bodies_same

end Cert.Proof.Moe

end
-- ==== Proof.MoeTab.lean ====
/-
  The words the experts' kernel computes: its tile counts and its branches, for every count a dispatch can
  have.
-/
module

public import proofs.«01_k».proof.Proof.Gen.ExpertsIdeal

@[expose] public section

noncomputable section

namespace Cert.Proof.Moe

open Cert.ExpertsIdeal Cert.ExpertsIdeal.Gen
open Idealize.ShloMosaic

/-- The number of 128-row tiles of `n` rows. -/
def tiles (n : ℕ) : ℕ := (n + 127) / 128

theorem words_t1 : ∀ n : Fin 2561, (k0_t1_loop (BitVec.ofNat 32 n.val)).trips = (n.val + 127) / 128 - 1 ∧ (k0_t1_loop (BitVec.ofNat 32 n.val)).OK := by decide +kernel
theorem words_t2 : ∀ n : Fin 2561, (k0_t2_loop (BitVec.ofNat 32 n.val)).trips = 0 ∧ (k0_t2_loop (BitVec.ofNat 32 n.val)).OK := by decide +kernel
theorem words_t3 : ∀ n : Fin 2561, (k0_t3_loop (BitVec.ofNat 32 n.val)).trips = (n.val + 127) / 128 ∧ (k0_t3_loop (BitVec.ofNat 32 n.val)).OK := by decide +kernel
theorem words_t4 : ∀ n : Fin 2561, (k0_t4_loop (BitVec.ofNat 32 n.val)).trips = 0 ∧ (k0_t4_loop (BitVec.ofNat 32 n.val)).OK := by decide +kernel
theorem words_t5 : ∀ n : Fin 2561, (k0_t5_loop (BitVec.ofNat 32 n.val)).trips = (n.val + 127) / 128 ∧ (k0_t5_loop (BitVec.ofNat 32 n.val)).OK := by decide +kernel
theorem words_t6 : ∀ n : Fin 2561, (k0_t6_loop (BitVec.ofNat 32 n.val)).trips = 0 ∧ (k0_t6_loop (BitVec.ofNat 32 n.val)).OK := by decide +kernel
theorem words_c2 : ∀ n : Fin 2561, k0_cond2 (BitVec.ofNat 32 n.val) = 1#1 ↔ n.val ≤ 128 := by decide +kernel
theorem words_c3 : ∀ n : Fin 2561, k0_cond3 (BitVec.ofNat 32 n.val) = 1#1 ↔ 128 < n.val := by decide +kernel

end Cert.Proof.Moe

end
-- ==== Proof.MoeWords.lean ====
/-
  The words the experts' kernel computes: its tile counts, its branches and its row offsets, for the table entries a
  dispatch has.
-/
module

public import proofs.«01_k».proof.Proof.MoeTab

@[expose] public section

noncomputable section

namespace Cert.Proof.Moe

open Cert.ExpertsIdeal Cert.ExpertsIdeal.Gen
open Idealize.ShloMosaic

theorem word_add (o k : ℕ) (ho : o ≤ 2560) (hk : k ≤ 20) :
    (Scalar.addi (BitVec.ofNat 32 o) (Scalar.muli (BitVec.ofNat 32 k) 128#32) : BitVec 32).toNat = o + 128 * k := by
  simp only [Scalar.addi, Scalar.muli, IntOp.addi, IntOp.muli, BitVec.toNat_add, BitVec.toNat_mul, BitVec.toNat_ofNat]
  omega

theorem iv_zero (k : ℕ) : (Scf.iv 0#32 1#32 k : BitVec 32) = BitVec.ofNat 32 k := by
  simp [Scf.iv]
theorem iv_one (k : ℕ) : (Scf.iv 1#32 1#32 k : BitVec 32) = BitVec.ofNat 32 (k + 1) := by
  rw [BitVec.ofNat_add, BitVec.add_comm]; simp [Scf.iv]

variable (o n : ℕ) (ho : o ≤ 2560)
include ho
theorem mult1_at : (k0_mult1 (BitVec.ofNat 32 o)).toNat = o := by
  have h := word_add o 0 ho (by omega)
  unfold k0_mult1; dsimp only; rw [show (Scalar.muli (BitVec.ofNat 32 0) 128#32 : BitVec 32) = 0#32 from rfl] at h; exact h
theorem mult2_at : (k0_mult2 (BitVec.ofNat 32 o)).toNat = o := mult1_at o ho
theorem off3_at : k0_off3 (BitVec.ofNat 32 o) = ![o, 0] := congrArg (fun z => ![z, 0]) (mult1_at o ho)
theorem off4_at : k0_off4 (BitVec.ofNat 32 o) = ![o, 0] := congrArg (fun z => ![z, 0]) (mult1_at o ho)
theorem off5_at : k0_off5 (BitVec.ofNat 32 o) = ![o, 0] := congrArg (fun z => ![z, 0]) (mult1_at o ho)
theorem off6_at : k0_off6 (BitVec.ofNat 32 o) = ![o, 0] := congrArg (fun z => ![z, 0]) (mult1_at o ho)
theorem mult3_at (k : Fin (k0_t1_loop (BitVec.ofNat 32 n)).trips) (hk : k.val < 20) : (k0_mult3 (BitVec.ofNat 32 o) (BitVec.ofNat 32 n) k).toNat = o + 128 * (k.val + 1) := by
  unfold k0_mult3; dsimp only; rw [iv_one]; exact word_add o (k.val + 1) ho (by omega)
theorem off7_at (k : Fin (k0_t1_loop (BitVec.ofNat 32 n)).trips) (hk : k.val < 20) : k0_off7 (BitVec.ofNat 32 o) (BitVec.ofNat 32 n) k = ![o + 128 * (k.val + 1), 0] :=
  congrArg (fun z => ![z, 0]) (mult3_at o n ho k hk)
theorem off8_at (k : Fin (k0_t1_loop (BitVec.ofNat 32 n)).trips) (hk : k.val < 20) : k0_off8 (BitVec.ofNat 32 o) (BitVec.ofNat 32 n) k = ![o + 128 * (k.val + 1), 0] :=
  congrArg (fun z => ![z, 0]) (mult3_at o n ho k hk)
theorem mult5_at (k : Fin (k0_t3_loop (BitVec.ofNat 32 n)).trips) (hk : k.val ≤ 20) : (k0_mult5 (BitVec.ofNat 32 o) (BitVec.ofNat 32 n) k).toNat = o + 128 * k.val := by
  unfold k0_mult5; dsimp only; rw [iv_zero]; exact word_add o k.val ho hk
theorem off11_at (k : Fin (k0_t3_loop (BitVec.ofNat 32 n)).trips) (hk : k.val ≤ 20) : k0_off11 (BitVec.ofNat 32 o) (BitVec.ofNat 32 n) k = ![o + 128 * k.val, 0] :=
  congrArg (fun z => ![z, 0]) (mult5_at o n ho k hk)
theorem off12_at (k : Fin (k0_t3_loop (BitVec.ofNat 32 n)).trips) (hk : k.val ≤ 20) : k0_off12 (BitVec.ofNat 32 o) (BitVec.ofNat 32 n) k = ![o + 128 * k.val, 0] :=
  congrArg (fun z => ![z, 0]) (mult5_at o n ho k hk)
theorem mult7_at (k : Fin (k0_t5_loop (BitVec.ofNat 32 n)).trips) (hk : k.val ≤ 20) : (k0_mult7 (BitVec.ofNat 32 o) (BitVec.ofNat 32 n) k).toNat = o + 128 * k.val := by
  unfold k0_mult7; dsimp only; rw [iv_zero]; exact word_add o k.val ho hk
theorem off15_at (k : Fin (k0_t5_loop (BitVec.ofNat 32 n)).trips) (hk : k.val ≤ 20) : k0_off15 (BitVec.ofNat 32 o) (BitVec.ofNat 32 n) k = ![o + 128 * k.val, 0] :=
  congrArg (fun z => ![z, 0]) (mult7_at o n ho k hk)
theorem off16_at (k : Fin (k0_t5_loop (BitVec.ofNat 32 n)).trips) (hk : k.val ≤ 20) : k0_off16 (BitVec.ofNat 32 o) (BitVec.ofNat 32 n) k = ![o + 128 * k.val, 0] :=
  congrArg (fun z => ![z, 0]) (mult7_at o n ho k hk)
omit ho

theorem inb_rows (o : ℕ) (ho : o ≤ 2560) : ∀ a, (![o, 0] : Fin 2 → ℕ) a + S128x1024.size a ≤ S2688x1024.size a := fun a => by
  fin_cases a
  · change o + 128 ≤ 2688; omega
  · change 0 + 1024 ≤ 1024; omega
theorem inb_col (o : ℕ) (ho : o ≤ 2560) : ∀ a, (![o, 0] : Fin 2 → ℕ) a + S128x1.size a ≤ S2688x1.size a := fun a => by
  fin_cases a
  · change o + 128 ≤ 2688; omega
  · change 0 + 1 ≤ 1; omega
theorem packed (off : Fin 2 → ℕ) (o : ℕ) (h : off = ![o, 0]) (hd : 16 ∣ o) (hinb : ∀ a, off a + S128x1024.size a ≤ S2688x1024.size a) :
    (Rect.unit (s := S2688x1024) off S128x1024.size hinb).PackedRows (EltTy.packing .bf16) := by
  subst h
  refine Or.inr ⟨(by decide : 2 ≤ S2688x1024.rank), rfl, Or.inl ⟨?_, ?_⟩⟩
  · change 2 ∣ o; omega
  · change 2 ∣ 128; decide

theorem trips_le (n : ℕ) (hn : n ≤ 2560) : (n + 127) / 128 ≤ 20 := by omega

/-- The side conditions read off the first two table entries. -/
theorem chk1_at (oa ob na : ℕ) (ha : 16 ∣ oa) (hb : 16 ∣ ob) (hoa : oa + na ≤ 2560) (hob : ob ≤ 2560) :
    k0_chk1 (BitVec.ofNat 32 oa) (BitVec.ofNat 32 ob) (BitVec.ofNat 32 na) := by
  have ha' : oa ≤ 2560 := by omega
  have t3 := words_t3 ⟨na, by omega⟩
  have t4 := words_t4 ⟨na, by omega⟩
  have k3 : ∀ k : Fin (k0_t3_loop (BitVec.ofNat 32 na)).trips, k.val ≤ 20 ∧ oa + 128 * k.val ≤ 2560 := fun k => by
    have e : (k0_t3_loop (BitVec.ofNat 32 na)).trips = (na + 127) / 128 := t3.1; have := k.isLt; omega
  have k4 : ∀ k : Fin (k0_t4_loop (BitVec.ofNat 32 na)).trips, False := fun k => by
    have e : (k0_t4_loop (BitVec.ofNat 32 na)).trips = 0 := t4.1; have := k.isLt; omega
  rw [k0_chk1.eq_1]
  refine ⟨fun _ => ?_, fun _ => ?_, fun _ => ?_, fun _ _ => ?_, fun _ => ?_, fun _ => ?_, fun _ => ?_, fun _ _ => ?_, fun _ => t3.2, fun k _ => ?_, fun k _ => ?_, fun k _ => ?_, fun k _ _ => ?_,
    fun _ => t4.2, fun k _ => (k4 k).elim, fun k _ => (k4 k).elim, fun k _ => (k4 k).elim, fun k _ _ => (k4 k).elim⟩
  · rw [mult1_at oa ha']; exact ha
  · rw [off3_at oa ha']; exact inb_rows oa ha'
  · rw [off4_at oa ha']; exact inb_col oa ha'
  · exact packed _ oa (off3_at oa ha') ha _
  · rw [mult2_at ob hob]; exact hb
  · rw [off5_at ob hob]; exact inb_rows ob hob
  · rw [off6_at ob hob]; exact inb_col ob hob
  · exact packed _ ob (off5_at ob hob) hb _
  · rw [mult5_at oa na ha' k (k3 k).1]; omega
  · rw [off11_at oa na ha' k (k3 k).1]; exact inb_rows _ (k3 k).2
  · rw [off12_at oa na ha' k (k3 k).1]; exact inb_col _ (k3 k).2
  · exact packed _ _ (off11_at oa na ha' k (k3 k).1) (by omega) _

/-- The side conditions read off the second expert's entries. -/
theorem chk2_at (ob na nb : ℕ) (hb : 16 ∣ ob) (hob : ob + nb ≤ 2560) :
    k0_chk2 (BitVec.ofNat 32 ob) (BitVec.ofNat 32 na) (BitVec.ofNat 32 nb) := by
  have hb' : ob ≤ 2560 := by omega
  have t1 := words_t1 ⟨nb, by omega⟩
  have t2 := words_t2 ⟨nb, by omega⟩
  have t5 := words_t5 ⟨nb, by omega⟩
  have t6 := words_t6 ⟨nb, by omega⟩
  have k1 : ∀ k : Fin (k0_t1_loop (BitVec.ofNat 32 nb)).trips, k.val < 20 ∧ ob + 128 * (k.val + 1) ≤ 2560 := fun k => by
    have e : (k0_t1_loop (BitVec.ofNat 32 nb)).trips = (nb + 127) / 128 - 1 := t1.1; have := k.isLt; omega
  have k2 : ∀ k : Fin (k0_t2_loop (BitVec.ofNat 32 nb)).trips, False := fun k => by
    have e : (k0_t2_loop (BitVec.ofNat 32 nb)).trips = 0 := t2.1; have := k.isLt; omega
  have k5 : ∀ k : Fin (k0_t5_loop (BitVec.ofNat 32 nb)).trips, k.val ≤ 20 ∧ ob + 128 * k.val ≤ 2560 := fun k => by
    have e : (k0_t5_loop (BitVec.ofNat 32 nb)).trips = (nb + 127) / 128 := t5.1; have := k.isLt; omega
  have k6 : ∀ k : Fin (k0_t6_loop (BitVec.ofNat 32 nb)).trips, False := fun k => by
    have e : (k0_t6_loop (BitVec.ofNat 32 nb)).trips = 0 := t6.1; have := k.isLt; omega
  rw [k0_chk2.eq_1]
  refine ⟨fun _ => t1.2, fun k _ => ?_, fun k _ => ?_, fun k _ => ?_, fun k _ _ => ?_,
    fun _ => t2.2, fun k _ => (k2 k).elim, fun k _ => (k2 k).elim, fun k _ => (k2 k).elim, fun k _ _ => (k2 k).elim,
    fun _ => t5.2, fun k _ => ?_, fun k _ => ?_, fun k _ => ?_, fun k _ _ => ?_,
    fun _ => t6.2, fun k _ => (k6 k).elim, fun k _ => (k6 k).elim, fun k _ => (k6 k).elim, fun k _ _ => (k6 k).elim⟩
  · rw [mult3_at ob nb hb' k (k1 k).1]; omega
  · rw [off7_at ob nb hb' k (k1 k).1]; exact inb_rows _ (k1 k).2
  · rw [off8_at ob nb hb' k (k1 k).1]; exact inb_col _ (k1 k).2
  · exact packed _ _ (off7_at ob nb hb' k (k1 k).1) (by omega) _
  · rw [mult7_at ob nb hb' k (k5 k).1]; omega
  · rw [off15_at ob nb hb' k (k5 k).1]; exact inb_rows _ (k5 k).2
  · rw [off16_at ob nb hb' k (k5 k).1]; exact inb_col _ (k5 k).2
  · exact packed _ _ (off15_at ob nb hb' k (k5 k).1) (by omega) _

end Cert.Proof.Moe

end
-- ==== Proof.MoeTile.lean ====
/-
  What a step of the experts' kernel leaves in the expert outputs: a tile of 128 rows is one function of the expert's
  weights, of the tile's rows of sorted tokens and of their routing weights; an expert is done when each row of its
  segment is a row of such a tile.
-/
module

public import proofs.«01_k».proof.Proof.MoeWords
public import proofs.«01_k».proof.Proof.Gen.ExpertsIdeal.Loops
public import Idealize.ShloMosaic.Lib.WritesUnit
public import Idealize.ShloMosaic.Lib.Pointwise

@[expose] public section

set_option maxRecDepth 16384

noncomputable section

namespace Cert.Proof.Moe

open Cert.ExpertsIdeal Cert.ExpertsIdeal.Gen
open Idealize.ShloMosaic Idealize.ShloMosaic.TcCoe Idealize.SL.Sem

variable {F : FTy → Type} [FloatOps F]

/-- An expert's weights, as a tile reads them. -/
structure Wts (F : FTy → Type) where
  g : Vec F S1x1024x256 .bf16
  u : Vec F S1x1024x256 .bf16
  d : Vec F S1x256x1024 .bf16

theorem inb_tile (o : ℕ) (h : o + 128 ≤ 2688) : ∀ a, (![o, 0] : Fin 2 → ℕ) a + S128x1024.size a ≤ S2688x1024.size a := inb_rows o (by omega)
theorem inb_tile1 (o : ℕ) (h : o + 128 ≤ 2688) : ∀ a, (![o, 0] : Fin 2 → ℕ) a + S128x1.size a ≤ S2688x1.size a := inb_col o (by omega)

/-- The 128 rows from `o` on, -/
def rows (xs : Vec F S2688x1024 .bf16) (o : ℕ) (h : o + 128 ≤ 2688) : Vec F S128x1024 .bf16 :=
  View.ld xs (Rect.unit (s := S2688x1024) ![o, 0] S128x1024.size (inb_tile o h))
/-- and their routing weights. -/
def col (cs : Vec F S2688x1 .f32) (o : ℕ) (h : o + 128 ≤ 2688) : Vec F S128x1 .f32 :=
  View.ld cs (Rect.unit (s := S2688x1) ![o, 0] S128x1.size (inb_tile1 o h))

/-- A tile of an expert's outputs. -/
def tile (W : Wts F) (x : Vec F S128x1024 .bf16) (cs : Vec F S128x1 .f32) : FVec F S128x1024 .bf16 := k0_pay2 x W.g W.u W.d cs

/-- Rows `lo` to `hi` are an expert's outputs. -/
def Done (W : Wts F) (lo hi : ℕ) (xs : Vec F S2688x1024 .bf16) (cs : Vec F S2688x1 .f32) (ow : Vec F S2688x1024 .bf16) : Prop :=
  ∀ y : S2688x1024.Idx, lo ≤ (y 0).val → (y 0).val < hi → ∃ (r : ℕ) (h : r + 128 ≤ 2688) (x : S128x1024.Idx),
    (y 0).val = r + (x 0).val ∧ (y 1).val = (x 1).val ∧ ow y = tile W (rows xs r h) (col cs r h) x

theorem Done.empty (W : Wts F) (lo : ℕ) (xs : Vec F S2688x1024 .bf16) (cs : Vec F S2688x1 .f32) (ow : Vec F S2688x1024 .bf16) : Done W lo lo xs cs ow :=
  fun _ h1 h2 => absurd h2 (Nat.not_lt.2 h1)

theorem Done.mono {W : Wts F} {lo hi : ℕ} {xs : Vec F S2688x1024 .bf16} {cs : Vec F S2688x1 .f32} {ow : Vec F S2688x1024 .bf16} (h : Done W lo hi xs cs ow) {hi' : ℕ} (hh : hi' ≤ hi) :
    Done W lo hi' xs cs ow := fun y h1 h2 => h y h1 (by omega)

/-- A segment's claim: an expert's weights and its rows. -/
abbrev Seg (F : FTy → Type) : Type := Wts F × ℕ × ℕ
abbrev Seg.Done (s : Seg F) (xs : Vec F S2688x1024 .bf16) (cs : Vec F S2688x1 .f32) (ow : Vec F S2688x1024 .bf16) : Prop := Moe.Done s.1 s.2.1 s.2.2 xs cs ow

section write
variable {v : View sig .tc .vmem S2688x1024 .bf16} (f : v.ty.Contents (Elt F)) (xs : Vec F S2688x1024 .bf16) (cs : Vec F S2688x1 .f32)

/-- A tile written at the end of what is done lengthens it; -/
theorem Done.step (W : Wts F) (lo o : ℕ) (L : List (View.Piece (Elt F) S2688x1024 .bf16)) (off : Fin 2 → ℕ) (hoff : off = ![o, 0]) (ho : o + 128 ≤ 2688)
    (inb : ∀ a, off a + S128x1024.size a ≤ S2688x1024.size a) (w : FVec F S128x1024 .bf16) (hw : w = tile W (rows xs o ho) (col cs o ho))
    (h : Done W lo o xs cs (v.read (Elt F) (v.writes (Elt F) f L))) :
    Done W lo (o + 128) xs cs (v.read (Elt F) (v.writes (Elt F) f (⟨Rect.unit off S128x1024.size inb, w⟩ :: L))) := by
  intro y h1 h2
  by_cases hy : (y 0).val < o
  · obtain ⟨r, hr, x, e0, e1, e⟩ := h y h1 hy
    exact ⟨r, hr, x, e0, e1, (View.read_writes_cons_rows_of_not_mem v f inb w L y hoff rfl (.inl hy)).trans e⟩
  · have hx : (y 0).val - o < 128 := by omega
    refine ⟨o, ho, ix2 ⟨(y 0).val - o, hx⟩ ⟨(y 1).val, (y 1).isLt⟩, ?_, rfl, ?_⟩
    · change (y 0).val = o + ((y 0).val - o); omega
    · refine (View.read_writes_cons_rows_of_mem v f inb w L y (ix2 ⟨(y 0).val - o, hx⟩ ⟨(y 1).val, (y 1).isLt⟩) hoff ?_ rfl).trans (by rw [hw])
      change (y 0).val = o + ((y 0).val - o); omega

/-- and one written past it leaves it. -/
theorem Done.keep (W : Wts F) (lo hi o : ℕ) (L : List (View.Piece (Elt F) S2688x1024 .bf16)) (off : Fin 2 → ℕ) (hoff : off = ![o, 0]) (ho : hi ≤ o)
    (inb : ∀ a, off a + S128x1024.size a ≤ S2688x1024.size a) (w : FVec F S128x1024 .bf16)
    (h : Done W lo hi xs cs (v.read (Elt F) (v.writes (Elt F) f L))) :
    Done W lo hi xs cs (v.read (Elt F) (v.writes (Elt F) f (⟨Rect.unit off S128x1024.size inb, w⟩ :: L))) := by
  intro y h1 h2
  obtain ⟨r, hr, x, e0, e1, e⟩ := h y h1 h2
  exact ⟨r, hr, x, e0, e1, (View.read_writes_cons_rows_of_not_mem v f inb w L y hoff rfl (.inl (by omega))).trans e⟩

/-- A run of tiles: each written 128 rows past the last. -/
theorem Done.loop (W : Wts F) (S : Set (Seg F)) (lo o n : ℕ) (pb : ℕ → List (View.Piece (Elt F) S2688x1024 .bf16)) (h0 : pb 0 = [])
    (hs : ∀ k, k < n → ∃ (off : Fin 2 → ℕ) (inb : ∀ a, off a + S128x1024.size a ≤ S2688x1024.size a) (ho : o + 128 * k + 128 ≤ 2688),
      off = ![o + 128 * k, 0] ∧ pb (k + 1) = ⟨Rect.unit off S128x1024.size inb, tile W (rows xs (o + 128 * k) ho) (col cs (o + 128 * k) ho)⟩ :: pb k)
    (hS : ∀ s ∈ S, s.2.2 ≤ o) (hd : Done W lo o xs cs (v.read (Elt F) f)) (hk : ∀ s ∈ S, s.Done xs cs (v.read (Elt F) f)) :
    ∀ k, k ≤ n → Done W lo (o + 128 * k) xs cs (v.read (Elt F) (v.writes (Elt F) f (pb k))) ∧ ∀ s ∈ S, s.Done xs cs (v.read (Elt F) (v.writes (Elt F) f (pb k)))
  | 0, _ => by rw [h0]; exact ⟨hd, hk⟩
  | k + 1, h => by
    obtain ⟨ih, ihS⟩ := Done.loop W S lo o n pb h0 hs hS hd hk k (by omega)
    obtain ⟨off, inb, ho, hoff, e⟩ := hs k (by omega)
    rw [e]
    refine ⟨?_, fun s m => Done.keep f xs cs _ _ _ (o + 128 * k) _ off hoff (by have := hS s m; omega) inb _ (ihS s m)⟩
    exact Done.step f xs cs W lo (o + 128 * k) _ off hoff ho inb _ rfl ih
end write

end Cert.Proof.Moe

end
-- ==== Proof.MoeFill.lean ====
/-
  The first step of a block of tokens: the 2688 sorted rows are filled in six chunks of 448, each with the same
  function of the routing information and the chunk's first row: which token sits in a row, its routing weight and
  its activations.
-/
module

public import proofs.«01_k».proof.Proof.MoeTile

@[expose] public section

set_option maxRecDepth 16384

noncomputable section

namespace Cert.Proof.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Which tokens' slot `s` is the chunk's row, for the chunk starting at row `r`. -/
def hit (s : IVec S1x1024 32) (r : BitVec 32) : IVec S448x1024 1 :=
  cmpi .eq (addi (iota .tc S448x1024 32 [0] iota_S448x1024_d0_w32) (broadcast S448x1024 r)) (broadcastTo S448x1024 s broadcasts_S1x1024_S448x1024)

/-- The chunk's part of the permutation, -/
def pmOf (info : Vec F S1x8x1024 .f32) (r : BitVec 32) : FVec F S448x1024 .bf16 :=
  truncf .bf16 (select (ori (hit (k0_pay10 info) r) (hit (k0_pay11 info) r)) (broadcast S448x1024 (Scalar.ofBits .f32 0x3F800000#32 : F .f32)) (broadcast S448x1024 (Scalar.ofBits .f32 0x00000000#32 : F .f32))) bitsLt_bf16_f32

def chunkPm (info : Vec F S1x8x1024 .f32) (r : BitVec 32) : FVec F S448x1024 .bf16 := shapeCast S448x1024 (pmOf info r) shapeCasts_S448x1024_S448x1024

/-- its routing weights, -/
def chunkCs (info : Vec F S1x8x1024 .f32) (r : BitVec 32) : FVec F S448x1 .f32 :=
  shapeCast S448x1 (shapeCast S448x1 (multiReduction .add [1] S448
    (addf (select (hit (k0_pay10 info) r) (broadcastTo S448x1024 (shapeCast S1x1024 (extractStridedSlice S1x1024 ![2, 0] (k0_pay9 info) slices_S8x1024_o2_0_S1x1024) shapeCasts_S1x1024_S1x1024) broadcasts_S1x1024_S448x1024) (broadcast S448x1024 (Scalar.ofBits .f32 0x00000000#32 : F .f32)))
      (select (hit (k0_pay11 info) r) (broadcastTo S448x1024 (shapeCast S1x1024 (extractStridedSlice S1x1024 ![3, 0] (k0_pay9 info) slices_S8x1024_o3_0_S1x1024) shapeCasts_S1x1024_S1x1024) broadcasts_S1x1024_S448x1024) (broadcast S448x1024 (Scalar.ofBits .f32 0x00000000#32 : F .f32))))
    0x00000000#32 reduces_S448x1024_S448 (.inl rfl) rfl) shapeCasts_S448_S448x1) shapeCasts_S448x1_S448x1

/-- and its activations. -/
def chunkXs (info : Vec F S1x8x1024 .f32) (h : Vec F S1024x1024 .bf16) (r : BitVec 32) : FVec F S448x1024 .bf16 :=
  shapeCast S448x1024 (truncf .bf16 (matmul dot_S448x1024_S1024x1024_S448x1024_1_0_0_1_n_n none (pmOf info r) (shapeCast S1024x1024 h shapeCasts_S1024x1024_S1024x1024) (constant S448x1024 .f32 0x00000000#32)) bitsLt_bf16_f32) shapeCasts_S448x1024_S448x1024

/-- Each of the six chunks is the given function of its first row. -/
def Chunks (pay : BitVec 32 → FVec F S448x1024 .bf16) (v : Vec F S2688x1024 .bf16) : Prop :=
  ∀ (n : Fin 6) (x : S448x1024.Idx) (y : S2688x1024.Idx), (y 0).val = 448 * n.val + (x 0).val → (y 1).val = (x 1).val → v y = pay (BitVec.ofNat 32 (448 * n.val)) x
def Chunks1 (pay : BitVec 32 → FVec F S448x1 .f32) (v : Vec F S2688x1 .f32) : Prop :=
  ∀ (n : Fin 6) (x : S448x1.Idx) (y : S2688x1.Idx), (y 0).val = 448 * n.val + (x 0).val → (y 1).val = (x 1).val → v y = pay (BitVec.ofNat 32 (448 * n.val)) x

/-- What the first step leaves of the sorted tokens. -/
structure Filled (info : Vec F S1x8x1024 .f32) (h : Vec F S1024x1024 .bf16) (pm xs : Vec F S2688x1024 .bf16) (cs : Vec F S2688x1 .f32) : Prop where
  pm : Chunks (chunkPm info) pm
  xs : Chunks (chunkXs info h) xs
  cs : Chunks1 (chunkCs info) cs

section
variable {v : View sig .tc .vmem S2688x1024 .bf16} {v1 : View sig .tc .vmem S2688x1 .f32}

theorem chunks_of (pay : BitVec 32 → FVec F S448x1024 .bf16) (f : v.ty.Contents (Elt F)) (i0 i1 i2 i3 i4 i5) (w0 w1 w2 w3 w4 w5 : FVec F S448x1024 .bf16)
    (h0 : w0 = pay 0#32) (h1 : w1 = pay 448#32) (h2 : w2 = pay 896#32) (h3 : w3 = pay 1344#32) (h4 : w4 = pay 1792#32) (h5 : w5 = pay 2240#32) :
    Chunks pay (v.read (Elt F) (v.writes (Elt F) f [⟨Rect.unit (s := S2688x1024) ![2240, 0] S448x1024.size i5, w5⟩, ⟨Rect.unit (s := S2688x1024) ![1792, 0] S448x1024.size i4, w4⟩,
      ⟨Rect.unit (s := S2688x1024) ![1344, 0] S448x1024.size i3, w3⟩, ⟨Rect.unit (s := S2688x1024) ![896, 0] S448x1024.size i2, w2⟩, ⟨Rect.unit (s := S2688x1024) ![448, 0] S448x1024.size i1, w1⟩,
      ⟨Rect.unit (s := S2688x1024) ![0, 0] S448x1024.size i0, w0⟩])) := by
  subst h0 h1 h2 h3 h4 h5
  intro n x y e0 e1
  have hx : (x 0).val < 448 := (x 0).isLt
  fin_cases n <;> dsimp only at e0
  · rw [View.read_writes_cons_rows_of_not_mem v f _ _ _ y rfl rfl (.inl (by omega)), View.read_writes_cons_rows_of_not_mem v f _ _ _ y rfl rfl (.inl (by omega)),
      View.read_writes_cons_rows_of_not_mem v f _ _ _ y rfl rfl (.inl (by omega)), View.read_writes_cons_rows_of_not_mem v f _ _ _ y rfl rfl (.inl (by omega)),
      View.read_writes_cons_rows_of_not_mem v f _ _ _ y rfl rfl (.inl (by omega))]
    exact View.read_writes_cons_rows_of_mem v f _ _ _ y x rfl (by omega) e1
  · rw [View.read_writes_cons_rows_of_not_mem v f _ _ _ y rfl rfl (.inl (by omega)), View.read_writes_cons_rows_of_not_mem v f _ _ _ y rfl rfl (.inl (by omega)),
      View.read_writes_cons_rows_of_not_mem v f _ _ _ y rfl rfl (.inl (by omega)), View.read_writes_cons_rows_of_not_mem v f _ _ _ y rfl rfl (.inl (by omega))]
    exact View.read_writes_cons_rows_of_mem v f _ _ _ y x rfl (by omega) e1
  · rw [View.read_writes_cons_rows_of_not_mem v f _ _ _ y rfl rfl (.inl (by omega)), View.read_writes_cons_rows_of_not_mem v f _ _ _ y rfl rfl (.inl (by omega)),
      View.read_writes_cons_rows_of_not_mem v f _ _ _ y rfl rfl (.inl (by omega))]
    exact View.read_writes_cons_rows_of_mem v f _ _ _ y x rfl (by omega) e1
  · rw [View.read_writes_cons_rows_of_not_mem v f _ _ _ y rfl rfl (.inl (by omega)), View.read_writes_cons_rows_of_not_mem v f _ _ _ y rfl rfl (.inl (by omega))]
    exact View.read_writes_cons_rows_of_mem v f _ _ _ y x rfl (by omega) e1
  · rw [View.read_writes_cons_rows_of_not_mem v f _ _ _ y rfl rfl (.inl (by omega))]
    exact View.read_writes_cons_rows_of_mem v f _ _ _ y x rfl (by omega) e1
  · exact View.read_writes_cons_rows_of_mem v f _ _ _ y x rfl (by omega) e1

theorem chunks1_of (pay : BitVec 32 → FVec F S448x1 .f32) (f : v1.ty.Contents (Elt F)) (i0 i1 i2 i3 i4 i5) (w0 w1 w2 w3 w4 w5 : FVec F S448x1 .f32)
    (h0 : w0 = pay 0#32) (h1 : w1 = pay 448#32) (h2 : w2 = pay 896#32) (h3 : w3 = pay 1344#32) (h4 : w4 = pay 1792#32) (h5 : w5 = pay 2240#32) :
    Chunks1 pay (v1.read (Elt F) (v1.writes (Elt F) f [⟨Rect.unit (s := S2688x1) ![2240, 0] S448x1.size i5, w5⟩, ⟨Rect.unit (s := S2688x1) ![1792, 0] S448x1.size i4, w4⟩,
      ⟨Rect.unit (s := S2688x1) ![1344, 0] S448x1.size i3, w3⟩, ⟨Rect.unit (s := S2688x1) ![896, 0] S448x1.size i2, w2⟩, ⟨Rect.unit (s := S2688x1) ![448, 0] S448x1.size i1, w1⟩,
      ⟨Rect.unit (s := S2688x1) ![0, 0] S448x1.size i0, w0⟩])) := by
  subst h0 h1 h2 h3 h4 h5
  intro n x y e0 e1
  have hx : (x 0).val < 448 := (x 0).isLt
  fin_cases n <;> dsimp only at e0
  · rw [View.read_writes_cons_rows_of_not_mem v1 f _ _ _ y rfl rfl (.inl (by omega)), View.read_writes_cons_rows_of_not_mem v1 f _ _ _ y rfl rfl (.inl (by omega)),
      View.read_writes_cons_rows_of_not_mem v1 f _ _ _ y rfl rfl (.inl (by omega)), View.read_writes_cons_rows_of_not_mem v1 f _ _ _ y rfl rfl (.inl (by omega)),
      View.read_writes_cons_rows_of_not_mem v1 f _ _ _ y rfl rfl (.inl (by omega))]
    exact View.read_writes_cons_rows_of_mem v1 f _ _ _ y x rfl (by omega) e1
  · rw [View.read_writes_cons_rows_of_not_mem v1 f _ _ _ y rfl rfl (.inl (by omega)), View.read_writes_cons_rows_of_not_mem v1 f _ _ _ y rfl rfl (.inl (by omega)),
      View.read_writes_cons_rows_of_not_mem v1 f _ _ _ y rfl rfl (.inl (by omega)), View.read_writes_cons_rows_of_not_mem v1 f _ _ _ y rfl rfl (.inl (by omega))]
    exact View.read_writes_cons_rows_of_mem v1 f _ _ _ y x rfl (by omega) e1
  · rw [View.read_writes_cons_rows_of_not_mem v1 f _ _ _ y rfl rfl (.inl (by omega)), View.read_writes_cons_rows_of_not_mem v1 f _ _ _ y rfl rfl (.inl (by omega)),
      View.read_writes_cons_rows_of_not_mem v1 f _ _ _ y rfl rfl (.inl (by omega))]
    exact View.read_writes_cons_rows_of_mem v1 f _ _ _ y x rfl (by omega) e1
  · rw [View.read_writes_cons_rows_of_not_mem v1 f _ _ _ y rfl rfl (.inl (by omega)), View.read_writes_cons_rows_of_not_mem v1 f _ _ _ y rfl rfl (.inl (by omega))]
    exact View.read_writes_cons_rows_of_mem v1 f _ _ _ y x rfl (by omega) e1
  · rw [View.read_writes_cons_rows_of_not_mem v1 f _ _ _ y rfl rfl (.inl (by omega))]
    exact View.read_writes_cons_rows_of_mem v1 f _ _ _ y x rfl (by omega) e1
  · exact View.read_writes_cons_rows_of_mem v1 f _ _ _ y x rfl (by omega) e1
end

local notation "𝕄" => MT nD τ sig Unit (Elt F) ℕ (UR sig nD τ) ℕ

variable (c : Dev nD) (i : grid0.Coords) (arg2 : Memref sig .tc .smem S1024 .i32) (harg2 : arg2.IsWhole) (arg3 : Memref sig .tc .smem S1024 .i32) (harg3 : arg3.IsWhole) (arg4 : Memref sig .tc .vmem S1024x1024 .bf16) (harg4 : arg4.IsWhole) (arg5 : Memref sig .tc .vmem S1x8x1024 .f32) (harg5 : arg5.IsWhole) (arg6 : Memref sig .tc .vmem S2x1024x256 .bf16) (harg6 : arg6.IsWhole) (arg7 : Memref sig .tc .vmem S2x1024x256 .bf16) (harg7 : arg7.IsWhole) (arg8 : Memref sig .tc .vmem S2x256x1024 .bf16) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S2688x1024 .bf16) (harg12 : arg12.IsWhole) (arg13 : Memref sig .tc .vmem S2688x1024 .bf16) (harg13 : arg13.IsWhole) (arg14 : Memref sig .tc .vmem S2688x1024 .bf16) (harg14 : arg14.IsWhole) (arg15 : Memref sig .tc .vmem S2688x1 .f32) (harg15 : arg15.IsWhole)
variable (x2 x3 : Vec F S1024 .i32) (x4 : Vec F S1024x1024 .bf16) (x5 : Vec F S1x8x1024 .f32) (q2 q3 : PosShare TreeShare) (E : Set ℕ)

/-- Loads of whole blocks. -/
theorem load_info (inb) :
    View.readAt (Elt F) arg5.view (Rect.unit (s := S1x8x1024) ![0, 0, 0] S1x8x1024.size inb).toLoadRect (harg5.unread x5) = x5 := by
  rw [View.readAt_eq_ld, harg5.read_unread]; exact View.ld_unit_zero (h := by funext a; fin_cases a <;> rfl) ..
theorem load_acts (inb) :
    View.readAt (Elt F) arg4.view (Rect.unit (s := S1024x1024) ![0, 0] S1024x1024.size inb).toLoadRect (harg4.unread x4) = x4 := by
  rw [View.readAt_eq_ld, harg4.read_unread]; exact View.ld_unit_zero (h := by funext a; fin_cases a <;> rfl) ..

end Cert.Proof.Moe

end
-- ==== Proof.MoeLoops.lean ====
/-
  The experts' kernel's loops over an expert's tiles: a trip writes the next tile of the expert's segment.
-/
module

public import proofs.«01_k».proof.Proof.MoeFill

@[expose] public section

set_option maxRecDepth 16384

noncomputable section

namespace Cert.Proof.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (c : Dev nD) (i : grid0.Coords) (arg2 : Memref sig .tc .smem S1024 .i32) (harg2 : arg2.IsWhole) (arg3 : Memref sig .tc .smem S1024 .i32) (harg3 : arg3.IsWhole) (arg4 : Memref sig .tc .vmem S1024x1024 .bf16) (harg4 : arg4.IsWhole) (arg5 : Memref sig .tc .vmem S1x8x1024 .f32) (harg5 : arg5.IsWhole) (arg6 : Memref sig .tc .vmem S2x1024x256 .bf16) (harg6 : arg6.IsWhole) (arg7 : Memref sig .tc .vmem S2x1024x256 .bf16) (harg7 : arg7.IsWhole) (arg8 : Memref sig .tc .vmem S2x256x1024 .bf16) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S2688x1024 .bf16) (harg12 : arg12.IsWhole) (arg13 : Memref sig .tc .vmem S2688x1024 .bf16) (harg13 : arg13.IsWhole) (arg14 : Memref sig .tc .vmem S2688x1024 .bf16) (harg14 : arg14.IsWhole) (arg15 : Memref sig .tc .vmem S2688x1 .f32) (harg15 : arg15.IsWhole)
variable (x2 x3 : Vec F S1024 .i32) (x4 : Vec F S1024x1024 .bf16) (x5 : Vec F S1x8x1024 .f32) (x6 x7 : Vec F S2x1024x256 .bf16) (x8 : Vec F S2x256x1024 .bf16) (x9 : Vec F S1024x1024 .f32) (x10 : Vec F S1x1024 .f32) (q2 q3 : PosShare TreeShare) (E : Set ℕ)

/-- The two experts' weights of a step. -/
def wts0 (x6 x7 : Vec F S2x1024x256 .bf16) (x8 : Vec F S2x256x1024 .bf16) : Wts F :=
  ⟨View.ld x6 (Rect.unit (s := S2x1024x256) ![0, 0, 0] S1x1024x256.size inb_S2x1024x256_S1x1024x256_0_0_0),
    View.ld x7 (Rect.unit (s := S2x1024x256) ![0, 0, 0] S1x1024x256.size inb_S2x1024x256_S1x1024x256_0_0_0),
    View.ld x8 (Rect.unit (s := S2x256x1024) ![0, 0, 0] S1x256x1024.size inb_S2x256x1024_S1x256x1024_0_0_0)⟩

theorem tile0_at (f13 : BufTy.Contents (Elt F) arg13.view.ty) (f15 : BufTy.Contents (Elt F) arg15.view.ty) (off off1 : Fin 2 → ℕ) (o : ℕ) (h : o + 128 ≤ 2688) (e : off = ![o, 0]) (e1 : off1 = ![o, 0])
    (inb : ∀ a, off a + S128x1024.size a ≤ S2688x1024.size a) (inb1 : ∀ a, off1 a + S128x1.size a ≤ S2688x1.size a) :
    k0_pay2 (View.readAt (Elt F) arg13.view (Rect.unit (s := S2688x1024) off S128x1024.size inb).toLoadRect f13)
      (View.readAt (Elt F) arg6.view (Rect.unit (s := S2x1024x256) ![0, 0, 0] S1x1024x256.size inb_S2x1024x256_S1x1024x256_0_0_0).toLoadRect (harg6.unread x6))
      (View.readAt (Elt F) arg7.view (Rect.unit (s := S2x1024x256) ![0, 0, 0] S1x1024x256.size inb_S2x1024x256_S1x1024x256_0_0_0).toLoadRect (harg7.unread x7))
      (View.readAt (Elt F) arg8.view (Rect.unit (s := S2x256x1024) ![0, 0, 0] S1x256x1024.size inb_S2x256x1024_S1x256x1024_0_0_0).toLoadRect (harg8.unread x8))
      (View.readAt (Elt F) arg15.view (Rect.unit (s := S2688x1) off1 S128x1.size inb1).toLoadRect f15)
    = tile (wts0 x6 x7 x8) (rows (arg13.view.read (Elt F) f13) o h) (col (arg15.view.read (Elt F) f15) o h) := by
  subst e e1
  simp only [View.readAt_eq_ld, harg6.read_unread, harg7.read_unread, harg8.read_unread]
  rfl

def wts1 (x6 x7 : Vec F S2x1024x256 .bf16) (x8 : Vec F S2x256x1024 .bf16) : Wts F :=
  ⟨View.ld x6 (Rect.unit (s := S2x1024x256) ![1, 0, 0] S1x1024x256.size inb_S2x1024x256_S1x1024x256_1_0_0),
    View.ld x7 (Rect.unit (s := S2x1024x256) ![1, 0, 0] S1x1024x256.size inb_S2x1024x256_S1x1024x256_1_0_0),
    View.ld x8 (Rect.unit (s := S2x256x1024) ![1, 0, 0] S1x256x1024.size inb_S2x256x1024_S1x256x1024_1_0_0)⟩

theorem tile1_at (f13 : BufTy.Contents (Elt F) arg13.view.ty) (f15 : BufTy.Contents (Elt F) arg15.view.ty) (off off1 : Fin 2 → ℕ) (o : ℕ) (h : o + 128 ≤ 2688) (e : off = ![o, 0]) (e1 : off1 = ![o, 0])
    (inb : ∀ a, off a + S128x1024.size a ≤ S2688x1024.size a) (inb1 : ∀ a, off1 a + S128x1.size a ≤ S2688x1.size a) :
    k0_pay2 (View.readAt (Elt F) arg13.view (Rect.unit (s := S2688x1024) off S128x1024.size inb).toLoadRect f13)
      (View.readAt (Elt F) arg6.view (Rect.unit (s := S2x1024x256) ![1, 0, 0] S1x1024x256.size inb_S2x1024x256_S1x1024x256_1_0_0).toLoadRect (harg6.unread x6))
      (View.readAt (Elt F) arg7.view (Rect.unit (s := S2x1024x256) ![1, 0, 0] S1x1024x256.size inb_S2x1024x256_S1x1024x256_1_0_0).toLoadRect (harg7.unread x7))
      (View.readAt (Elt F) arg8.view (Rect.unit (s := S2x256x1024) ![1, 0, 0] S1x256x1024.size inb_S2x256x1024_S1x256x1024_1_0_0).toLoadRect (harg8.unread x8))
      (View.readAt (Elt F) arg15.view (Rect.unit (s := S2688x1) off1 S128x1.size inb1).toLoadRect f15)
    = tile (wts1 x6 x7 x8) (rows (arg13.view.read (Elt F) f13) o h) (col (arg15.view.read (Elt F) f15) o h) := by
  subst e e1
  simp only [View.readAt_eq_ld, harg6.read_unread, harg7.read_unread, harg8.read_unread]
  rfl

theorem step_t1 (oa ob na nb : ℕ) (h2 : k0_chk2 (BitVec.ofNat 32 ob) (BitVec.ofNat 32 na) (BitVec.ofNat 32 nb)) (hc : k0_cond2 (BitVec.ofNat 32 na) = 1#1) (ho : ob ≤ 2560) (f13 : BufTy.Contents (Elt F) arg13.view.ty) (f15 : BufTy.Contents (Elt F) arg15.view.ty)
    (k : Fin (k0_t1_loop (BitVec.ofNat 32 nb)).trips) (hk : k.val < 20) (hb : ob + 128 + 128 * k.val + 128 ≤ 2688) :
    ∃ (off : Fin 2 → ℕ) (inb : ∀ a, off a + S128x1024.size a ≤ S2688x1024.size a), off = ![ob + 128 + 128 * k.val, 0]
      ∧ pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 (k.val + 1)
        = ⟨Rect.unit off S128x1024.size inb, tile (wts1 x6 x7 x8) (rows (arg13.view.read (Elt F) f13) (ob + 128 + 128 * k.val) hb) (col (arg15.view.read (Elt F) f15) (ob + 128 + 128 * k.val) hb)⟩
          :: pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 k.val := by
  have e13 := off7_at ob nb ho k hk
  have e15 := off8_at ob nb ho k hk
  rw [show ob + 128 * (k.val + 1) = ob + 128 + 128 * k.val by omega] at e13 e15
  refine ⟨_, k0_off7_inb (BitVec.ofNat 32 ob) (BitVec.ofNat 32 na) (BitVec.ofNat 32 nb) h2 k hc, e13, ?_⟩
  rw [pb_k0_t1_succ]
  unfold tripL_k0_t1 trip_k0_t1
  dsimp only
  sl_unfold_words
  exact congrArg (fun w => (⟨Rect.unit _ S128x1024.size _, w⟩ : View.Piece (Elt F) S2688x1024 .bf16) :: _) (tile1_at arg6 harg6 arg7 harg7 arg8 harg8 arg13 arg15 x6 x7 x8 f13 f15 _ _ _ hb e13 e15 _ _)

/-- All of loop 1: the segment is done, and what was done before it is still. -/
theorem loop_t1 (oa ob na nb : ℕ) (h2 : k0_chk2 (BitVec.ofNat 32 ob) (BitVec.ofNat 32 na) (BitVec.ofNat 32 nb)) (hc : k0_cond2 (BitVec.ofNat 32 na) = 1#1) (hn : ob + nb ≤ 2560) (f13 : BufTy.Contents (Elt F) arg13.view.ty) (f15 : BufTy.Contents (Elt F) arg15.view.ty) (f : BufTy.Contents (Elt F) arg14.view.ty)
    (S : Set (Seg F)) (hS : ∀ s ∈ S, s.2.2 ≤ ob + 128) (hd : Done (wts1 x6 x7 x8) ob (ob + 128) (arg13.view.read (Elt F) f13) (arg15.view.read (Elt F) f15) (arg14.view.read (Elt F) f))
    (hk : ∀ s ∈ S, s.Done (arg13.view.read (Elt F) f13) (arg15.view.read (Elt F) f15) (arg14.view.read (Elt F) f)) :
    Done (wts1 x6 x7 x8) ob (ob + nb) (arg13.view.read (Elt F) f13) (arg15.view.read (Elt F) f15) (arg14.view.read (Elt F) (arg14.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 (Scf.trips (k0_t1_loop (BitVec.ofNat 32 nb)).lb (k0_t1_loop (BitVec.ofNat 32 nb)).ub (k0_t1_loop (BitVec.ofNat 32 nb)).st))))
    ∧ ∀ s ∈ S, s.Done (arg13.view.read (Elt F) f13) (arg15.view.read (Elt F) f15) (arg14.view.read (Elt F) (arg14.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 (Scf.trips (k0_t1_loop (BitVec.ofNat 32 nb)).lb (k0_t1_loop (BitVec.ofNat 32 nb)).ub (k0_t1_loop (BitVec.ofNat 32 nb)).st)))) := by
  have ht : (k0_t1_loop (BitVec.ofNat 32 nb)).trips = (nb + 127) / 128 - 1 := (words_t1 ⟨nb, by omega⟩).1
  have ht' : Scf.trips (k0_t1_loop (BitVec.ofNat 32 nb)).lb (k0_t1_loop (BitVec.ofNat 32 nb)).ub (k0_t1_loop (BitVec.ofNat 32 nb)).st = (nb + 127) / 128 - 1 := ht
  obtain ⟨h1, h2⟩ := Done.loop f (arg13.view.read (Elt F) f13) (arg15.view.read (Elt F) f15) (wts1 x6 x7 x8) S ob (ob + 128) ((nb + 127) / 128 - 1) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15) rfl
    (fun k hk => by
      obtain ⟨off, inb, e, e'⟩ := step_t1 c i arg2 harg2 arg3 harg3 arg4 harg4 arg5 harg5 arg6 harg6 arg7 harg7 arg8 harg8 arg9 harg9 arg10 harg10 arg11 harg11 arg12 harg12 arg13 harg13 arg14 harg14 arg15 harg15 x6 x7 x8 oa ob na nb h2 hc (by omega) f13 f15 ⟨k, by rw [ht]; exact hk⟩ (by dsimp only; omega) (by dsimp only; omega)
      exact ⟨off, inb, _, e, e'⟩) hS hd hk _ le_rfl
  rw [ht']
  exact ⟨h1.mono (by omega), h2⟩

theorem step_t3 (oa ob na nb : ℕ) (h1 : k0_chk1 (BitVec.ofNat 32 oa) (BitVec.ofNat 32 ob) (BitVec.ofNat 32 na)) (hc : k0_cond3 (BitVec.ofNat 32 na) = 1#1) (ho : oa ≤ 2560) (f13 : BufTy.Contents (Elt F) arg13.view.ty) (f15 : BufTy.Contents (Elt F) arg15.view.ty)
    (k : Fin (k0_t3_loop (BitVec.ofNat 32 na)).trips) (hk : k.val ≤ 20) (hb : oa + 128 * k.val + 128 ≤ 2688) :
    ∃ (off : Fin 2 → ℕ) (inb : ∀ a, off a + S128x1024.size a ≤ S2688x1024.size a), off = ![oa + 128 * k.val, 0]
      ∧ pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 oa) (BitVec.ofNat 32 ob) (BitVec.ofNat 32 na) h1 hc (harg6.unread x6) (harg7.unread x7) (harg8.unread x8) f13 f15 (k.val + 1)
        = ⟨Rect.unit off S128x1024.size inb, tile (wts0 x6 x7 x8) (rows (arg13.view.read (Elt F) f13) (oa + 128 * k.val) hb) (col (arg15.view.read (Elt F) f15) (oa + 128 * k.val) hb)⟩
          :: pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 oa) (BitVec.ofNat 32 ob) (BitVec.ofNat 32 na) h1 hc (harg6.unread x6) (harg7.unread x7) (harg8.unread x8) f13 f15 k.val := by
  have e13 := off11_at oa na ho k hk
  have e15 := off12_at oa na ho k hk
  refine ⟨_, k0_off11_inb (BitVec.ofNat 32 oa) (BitVec.ofNat 32 ob) (BitVec.ofNat 32 na) h1 k hc, e13, ?_⟩
  rw [pb_k0_t3_succ]
  unfold tripL_k0_t3 trip_k0_t3
  dsimp only
  sl_unfold_words
  exact congrArg (fun w => (⟨Rect.unit _ S128x1024.size _, w⟩ : View.Piece (Elt F) S2688x1024 .bf16) :: _) (tile0_at arg6 harg6 arg7 harg7 arg8 harg8 arg13 arg15 x6 x7 x8 f13 f15 _ _ _ hb e13 e15 _ _)

/-- All of loop 3: the segment is done, and what was done before it is still. -/
theorem loop_t3 (oa ob na nb : ℕ) (h1 : k0_chk1 (BitVec.ofNat 32 oa) (BitVec.ofNat 32 ob) (BitVec.ofNat 32 na)) (hc : k0_cond3 (BitVec.ofNat 32 na) = 1#1) (hn : oa + na ≤ 2560) (f13 : BufTy.Contents (Elt F) arg13.view.ty) (f15 : BufTy.Contents (Elt F) arg15.view.ty) (f : BufTy.Contents (Elt F) arg14.view.ty)
    (S : Set (Seg F)) (hS : ∀ s ∈ S, s.2.2 ≤ oa) (hd : Done (wts0 x6 x7 x8) oa (oa) (arg13.view.read (Elt F) f13) (arg15.view.read (Elt F) f15) (arg14.view.read (Elt F) f))
    (hk : ∀ s ∈ S, s.Done (arg13.view.read (Elt F) f13) (arg15.view.read (Elt F) f15) (arg14.view.read (Elt F) f)) :
    Done (wts0 x6 x7 x8) oa (oa + na) (arg13.view.read (Elt F) f13) (arg15.view.read (Elt F) f15) (arg14.view.read (Elt F) (arg14.view.writes (Elt F) f (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 oa) (BitVec.ofNat 32 ob) (BitVec.ofNat 32 na) h1 hc (harg6.unread x6) (harg7.unread x7) (harg8.unread x8) f13 f15 (Scf.trips (k0_t3_loop (BitVec.ofNat 32 na)).lb (k0_t3_loop (BitVec.ofNat 32 na)).ub (k0_t3_loop (BitVec.ofNat 32 na)).st))))
    ∧ ∀ s ∈ S, s.Done (arg13.view.read (Elt F) f13) (arg15.view.read (Elt F) f15) (arg14.view.read (Elt F) (arg14.view.writes (Elt F) f (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 oa) (BitVec.ofNat 32 ob) (BitVec.ofNat 32 na) h1 hc (harg6.unread x6) (harg7.unread x7) (harg8.unread x8) f13 f15 (Scf.trips (k0_t3_loop (BitVec.ofNat 32 na)).lb (k0_t3_loop (BitVec.ofNat 32 na)).ub (k0_t3_loop (BitVec.ofNat 32 na)).st)))) := by
  have ht : (k0_t3_loop (BitVec.ofNat 32 na)).trips = (na + 127) / 128 := (words_t3 ⟨na, by omega⟩).1
  have ht' : Scf.trips (k0_t3_loop (BitVec.ofNat 32 na)).lb (k0_t3_loop (BitVec.ofNat 32 na)).ub (k0_t3_loop (BitVec.ofNat 32 na)).st = (na + 127) / 128 := ht
  obtain ⟨h1, h2⟩ := Done.loop f (arg13.view.read (Elt F) f13) (arg15.view.read (Elt F) f15) (wts0 x6 x7 x8) S oa (oa) ((na + 127) / 128) (pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 oa) (BitVec.ofNat 32 ob) (BitVec.ofNat 32 na) h1 hc (harg6.unread x6) (harg7.unread x7) (harg8.unread x8) f13 f15) rfl
    (fun k hk => by
      obtain ⟨off, inb, e, e'⟩ := step_t3 c i arg2 harg2 arg3 harg3 arg4 harg4 arg5 harg5 arg6 harg6 arg7 harg7 arg8 harg8 arg9 harg9 arg10 harg10 arg11 harg11 arg12 harg12 arg13 harg13 arg14 harg14 arg15 harg15 x6 x7 x8 oa ob na nb h1 hc (by omega) f13 f15 ⟨k, by rw [ht]; exact hk⟩ (by dsimp only; omega) (by dsimp only; omega)
      exact ⟨off, inb, _, e, e'⟩) hS hd hk _ le_rfl
  rw [ht']
  exact ⟨h1.mono (by omega), h2⟩

theorem step_t5 (oa ob na nb : ℕ) (h2 : k0_chk2 (BitVec.ofNat 32 ob) (BitVec.ofNat 32 na) (BitVec.ofNat 32 nb)) (hc : k0_cond3 (BitVec.ofNat 32 na) = 1#1) (ho : ob ≤ 2560) (f13 : BufTy.Contents (Elt F) arg13.view.ty) (f15 : BufTy.Contents (Elt F) arg15.view.ty)
    (k : Fin (k0_t5_loop (BitVec.ofNat 32 nb)).trips) (hk : k.val ≤ 20) (hb : ob + 128 * k.val + 128 ≤ 2688) :
    ∃ (off : Fin 2 → ℕ) (inb : ∀ a, off a + S128x1024.size a ≤ S2688x1024.size a), off = ![ob + 128 * k.val, 0]
      ∧ pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 (k.val + 1)
        = ⟨Rect.unit off S128x1024.size inb, tile (wts1 x6 x7 x8) (rows (arg13.view.read (Elt F) f13) (ob + 128 * k.val) hb) (col (arg15.view.read (Elt F) f15) (ob + 128 * k.val) hb)⟩
          :: pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 k.val := by
  have e13 := off15_at ob nb ho k hk
  have e15 := off16_at ob nb ho k hk
  refine ⟨_, k0_off15_inb (BitVec.ofNat 32 ob) (BitVec.ofNat 32 na) (BitVec.ofNat 32 nb) h2 k hc, e13, ?_⟩
  rw [pb_k0_t5_succ]
  unfold tripL_k0_t5 trip_k0_t5
  dsimp only
  sl_unfold_words
  exact congrArg (fun w => (⟨Rect.unit _ S128x1024.size _, w⟩ : View.Piece (Elt F) S2688x1024 .bf16) :: _) (tile1_at arg6 harg6 arg7 harg7 arg8 harg8 arg13 arg15 x6 x7 x8 f13 f15 _ _ _ hb e13 e15 _ _)

/-- All of loop 5: the segment is done, and what was done before it is still. -/
theorem loop_t5 (oa ob na nb : ℕ) (h2 : k0_chk2 (BitVec.ofNat 32 ob) (BitVec.ofNat 32 na) (BitVec.ofNat 32 nb)) (hc : k0_cond3 (BitVec.ofNat 32 na) = 1#1) (hn : ob + nb ≤ 2560) (f13 : BufTy.Contents (Elt F) arg13.view.ty) (f15 : BufTy.Contents (Elt F) arg15.view.ty) (f : BufTy.Contents (Elt F) arg14.view.ty)
    (S : Set (Seg F)) (hS : ∀ s ∈ S, s.2.2 ≤ ob) (hd : Done (wts1 x6 x7 x8) ob (ob) (arg13.view.read (Elt F) f13) (arg15.view.read (Elt F) f15) (arg14.view.read (Elt F) f))
    (hk : ∀ s ∈ S, s.Done (arg13.view.read (Elt F) f13) (arg15.view.read (Elt F) f15) (arg14.view.read (Elt F) f)) :
    Done (wts1 x6 x7 x8) ob (ob + nb) (arg13.view.read (Elt F) f13) (arg15.view.read (Elt F) f15) (arg14.view.read (Elt F) (arg14.view.writes (Elt F) f (pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 (Scf.trips (k0_t5_loop (BitVec.ofNat 32 nb)).lb (k0_t5_loop (BitVec.ofNat 32 nb)).ub (k0_t5_loop (BitVec.ofNat 32 nb)).st))))
    ∧ ∀ s ∈ S, s.Done (arg13.view.read (Elt F) f13) (arg15.view.read (Elt F) f15) (arg14.view.read (Elt F) (arg14.view.writes (Elt F) f (pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 (Scf.trips (k0_t5_loop (BitVec.ofNat 32 nb)).lb (k0_t5_loop (BitVec.ofNat 32 nb)).ub (k0_t5_loop (BitVec.ofNat 32 nb)).st)))) := by
  have ht : (k0_t5_loop (BitVec.ofNat 32 nb)).trips = (nb + 127) / 128 := (words_t5 ⟨nb, by omega⟩).1
  have ht' : Scf.trips (k0_t5_loop (BitVec.ofNat 32 nb)).lb (k0_t5_loop (BitVec.ofNat 32 nb)).ub (k0_t5_loop (BitVec.ofNat 32 nb)).st = (nb + 127) / 128 := ht
  obtain ⟨h1, h2⟩ := Done.loop f (arg13.view.read (Elt F) f13) (arg15.view.read (Elt F) f15) (wts1 x6 x7 x8) S ob (ob) ((nb + 127) / 128) (pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15) rfl
    (fun k hk => by
      obtain ⟨off, inb, e, e'⟩ := step_t5 c i arg2 harg2 arg3 harg3 arg4 harg4 arg5 harg5 arg6 harg6 arg7 harg7 arg8 harg8 arg9 harg9 arg10 harg10 arg11 harg11 arg12 harg12 arg13 harg13 arg14 harg14 arg15 harg15 x6 x7 x8 oa ob na nb h2 hc (by omega) f13 f15 ⟨k, by rw [ht]; exact hk⟩ (by dsimp only; omega) (by dsimp only; omega)
      exact ⟨off, inb, _, e, e'⟩) hS hd hk _ le_rfl
  rw [ht']
  exact ⟨h1.mono (by omega), h2⟩

theorem loop_t2 (oa ob na nb : ℕ) (hn : nb ≤ 2560) (h2 : k0_chk2 (BitVec.ofNat 32 ob) (BitVec.ofNat 32 na) (BitVec.ofNat 32 nb)) (hc : k0_cond2 (BitVec.ofNat 32 na) = 1#1) (f13 : BufTy.Contents (Elt F) arg13.view.ty) (f15 : BufTy.Contents (Elt F) arg15.view.ty) :
    pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 (Scf.trips (k0_t2_loop (BitVec.ofNat 32 nb)).lb (k0_t2_loop (BitVec.ofNat 32 nb)).ub (k0_t2_loop (BitVec.ofNat 32 nb)).st) = [] := by
  have ht : Scf.trips (k0_t2_loop (BitVec.ofNat 32 nb)).lb (k0_t2_loop (BitVec.ofNat 32 nb)).ub (k0_t2_loop (BitVec.ofNat 32 nb)).st = 0 := (words_t2 ⟨nb, by omega⟩).1
  rw [ht]; rfl

theorem loop_t4 (oa ob na nb : ℕ) (hn : na ≤ 2560) (h1 : k0_chk1 (BitVec.ofNat 32 oa) (BitVec.ofNat 32 ob) (BitVec.ofNat 32 na)) (hc : k0_cond3 (BitVec.ofNat 32 na) = 1#1) (f13 : BufTy.Contents (Elt F) arg13.view.ty) (f15 : BufTy.Contents (Elt F) arg15.view.ty) :
    pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 oa) (BitVec.ofNat 32 ob) (BitVec.ofNat 32 na) h1 hc (harg6.unread x6) (harg7.unread x7) (harg8.unread x8) f13 f15 (Scf.trips (k0_t4_loop (BitVec.ofNat 32 na)).lb (k0_t4_loop (BitVec.ofNat 32 na)).ub (k0_t4_loop (BitVec.ofNat 32 na)).st) = [] := by
  have ht : Scf.trips (k0_t4_loop (BitVec.ofNat 32 na)).lb (k0_t4_loop (BitVec.ofNat 32 na)).ub (k0_t4_loop (BitVec.ofNat 32 na)).st = 0 := (words_t4 ⟨na, by omega⟩).1
  rw [ht]; rfl

theorem loop_t6 (oa ob na nb : ℕ) (hn : nb ≤ 2560) (h2 : k0_chk2 (BitVec.ofNat 32 ob) (BitVec.ofNat 32 na) (BitVec.ofNat 32 nb)) (hc : k0_cond3 (BitVec.ofNat 32 na) = 1#1) (f13 : BufTy.Contents (Elt F) arg13.view.ty) (f15 : BufTy.Contents (Elt F) arg15.view.ty) :
    pb_k0_t6 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 (Scf.trips (k0_t6_loop (BitVec.ofNat 32 nb)).lb (k0_t6_loop (BitVec.ofNat 32 nb)).ub (k0_t6_loop (BitVec.ofNat 32 nb)).st) = [] := by
  have ht : Scf.trips (k0_t6_loop (BitVec.ofNat 32 nb)).lb (k0_t6_loop (BitVec.ofNat 32 nb)).ub (k0_t6_loop (BitVec.ofNat 32 nb)).st = 0 := (words_t6 ⟨nb, by omega⟩).1
  rw [ht]; rfl

end Cert.Proof.Moe

end
-- ==== Proof.MoeBody.lean ====
/-
  The experts' kernel's body at a grid point: the first step of a block of tokens fills the sorted rows, every step
  does its two experts' segments, and the last one leaves the result.
-/
module

public import proofs.«01_k».proof.Proof.MoeLoops
public import Idealize.ShloMosaic.Lib.VecWindow

@[expose] public section

set_option maxRecDepth 16384

noncomputable section

namespace Cert.Proof.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (c : Dev nD) (i : grid0.Coords) (arg2 : Memref sig .tc .smem S1024 .i32) (harg2 : arg2.IsWhole) (arg3 : Memref sig .tc .smem S1024 .i32) (harg3 : arg3.IsWhole) (arg4 : Memref sig .tc .vmem S1024x1024 .bf16) (harg4 : arg4.IsWhole) (arg5 : Memref sig .tc .vmem S1x8x1024 .f32) (harg5 : arg5.IsWhole) (arg6 : Memref sig .tc .vmem S2x1024x256 .bf16) (harg6 : arg6.IsWhole) (arg7 : Memref sig .tc .vmem S2x1024x256 .bf16) (harg7 : arg7.IsWhole) (arg8 : Memref sig .tc .vmem S2x256x1024 .bf16) (harg8 : arg8.IsWhole) (arg9 : Memref sig .tc .vmem S1024x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S2688x1024 .bf16) (harg12 : arg12.IsWhole) (arg13 : Memref sig .tc .vmem S2688x1024 .bf16) (harg13 : arg13.IsWhole) (arg14 : Memref sig .tc .vmem S2688x1024 .bf16) (harg14 : arg14.IsWhole) (arg15 : Memref sig .tc .vmem S2688x1 .f32) (harg15 : arg15.IsWhole)
variable (x2 x3 : Vec F S1024 .i32) (x4 : Vec F S1024x1024 .bf16) (x5 : Vec F S1x8x1024 .f32) (x6 x7 : Vec F S2x1024x256 .bf16) (x8 : Vec F S2x256x1024 .bf16) (x9 : Vec F S1024x1024 .f32) (x10 : Vec F S1x1024 .f32) (q2 q3 : PosShare TreeShare) (E : Set ℕ)

/-- A word of a table. -/
theorem word2 (off : Fin 1 → ℕ) (v : BitVec 32) (h : ∀ y : S1024.Idx, (y 0).val = off 0 → x2 y = v) (inb : ∀ a, off a + S1.size a ≤ S1024.size a) (hp) :
    View.readAt (Elt F) arg2.view (Rect.unit (s := S1024) off S1.size inb).toLoadRect (harg2.unread x2) (Shape.Idx.first hp) = v := by
  rw [View.readAt_eq_ld, harg2.read_unread]; exact h _ rfl
theorem word3 (off : Fin 1 → ℕ) (v : BitVec 32) (h : ∀ y : S1024.Idx, (y 0).val = off 0 → x3 y = v) (inb : ∀ a, off a + S1.size a ≤ S1024.size a) (hp) :
    View.readAt (Elt F) arg3.view (Rect.unit (s := S1024) off S1.size inb).toLoadRect (harg3.unread x3) (Shape.Idx.first hp) = v := by
  rw [View.readAt_eq_ld, harg3.read_unread]; exact h _ rfl

/-- The first step of a block. -/
theorem part_first (oa ob na nb : ℕ) (h1 : k0_chk1 (BitVec.ofNat 32 oa) (BitVec.ofNat 32 ob) (BitVec.ofNat 32 na)) (h2 : k0_chk2 (BitVec.ofNat 32 ob) (BitVec.ofNat 32 na) (BitVec.ofNat 32 nb)) (h2a : ∀ y : S1024.Idx, (y 0).val = k0_off1 i 0 → x2 y = BitVec.ofNat 32 oa) (h2b : ∀ y : S1024.Idx, (y 0).val = k0_off2 i 0 → x2 y = BitVec.ofNat 32 ob)
    (h3a : ∀ y : S1024.Idx, (y 0).val = k0_off1 i 0 → x3 y = BitVec.ofNat 32 na) (h3b : ∀ y : S1024.Idx, (y 0).val = k0_off2 i 0 → x3 y = BitVec.ofNat 32 nb) (h0 : Scalar.cmpi .ne (Scalar.extui (Scalar.cmpi .eq (BitVec.ofNat 32 (i 1).val) 0#32) : BitVec 32) 0#32 = 1#1) (f12 : BufTy.Contents (Elt F) arg12.view.ty) (f13 : BufTy.Contents (Elt F) arg13.view.ty) (f14 : BufTy.Contents (Elt F) arg14.view.ty) (f15 : BufTy.Contents (Elt F) arg15.view.ty) :
    (iprop((arg2.view.loc (c : Thread nD τ) ↦[arg2.view.set]{q2} harg2.unread x2) ∗ (arg3.view.loc (c : Thread nD τ) ↦[arg3.view.set]{q3} harg3.unread x3) ∗ (arg4.view.loc (c : Thread nD τ) ↦[arg4.view.set]{fullShare} harg4.unread x4) ∗ (arg5.view.loc (c : Thread nD τ) ↦[arg5.view.set]{fullShare} harg5.unread x5) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := F)) Variants.none (c : Thread nD τ) none) E (k0_part7 (F := F) i arg2 harg2 arg3 harg3 arg4 harg4 arg5 harg5 arg6 harg6 arg7 harg7 arg8 harg8 arg9 harg9 arg10 harg10 arg11 harg11 arg12 harg12 arg13 harg13 arg14 harg14 arg15 harg15) (fun r => iprop(⌜∃ v31 v36 : BitVec 32, r = ⟨BitVec.ofNat 32 (i 1).val, BitVec.ofNat 32 oa, BitVec.ofNat 32 ob, BitVec.ofNat 32 na, h1, v31, BitVec.ofNat 32 nb, h2, v36, 128#32⟩⌝ ∗ (arg2.view.loc (c : Thread nD τ) ↦[arg2.view.set]{q2} harg2.unread x2) ∗ (arg3.view.loc (c : Thread nD τ) ↦[arg3.view.set]{q3} harg3.unread x3) ∗ (arg4.view.loc (c : Thread nD τ) ↦[arg4.view.set]{fullShare} harg4.unread x4) ∗ (arg5.view.loc (c : Thread nD τ) ↦[arg5.view.set]{fullShare} harg5.unread x5)
          ∗ (∃ f12 f13 f14 f15, (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ ⌜Filled x5 x4 (arg12.view.read (Elt F) f12) (arg13.view.read (Elt F) f13) (arg15.view.read (Elt F) f15)⌝))) := by
  rw [k0_part7_eq_skeleton]; unfold k0_part7_skel
  dsimp only
  rw [dif_pos h0, k0_part1_eq_skeleton, k0_part2_eq_skeleton, k0_part3_eq_skeleton, k0_part4_eq_skeleton, k0_part5_eq_skeleton]
  unfold k0_part1_skel k0_part2_skel k0_part3_skel k0_part4_skel k0_part5_skel
  iintro ⟨H2, H3, H4, H5, H12, H13, H14, H15⟩
  sl_exec
  have r0 : part_first.sl.r i arg2 harg2 x2 = BitVec.ofNat 32 oa := word2 arg2 harg2 x2 _ _ h2a _ _
  have r1 : part_first.sl.r_1 i arg2 harg2 x2 = BitVec.ofNat 32 ob := word2 arg2 harg2 x2 _ _ h2b _ _
  have r2 : part_first.sl.r_2 i arg3 harg3 x3 = BitVec.ofNat 32 na := word3 arg3 harg3 x3 _ _ h3a _ _
  rw [r0, r1, r2]
  iapply (wp_assume _ _ _ _ h1)
  sl_exec
  have r3 : part_first.sl.r_3 i arg3 harg3 x3 = BitVec.ofNat 32 nb := word3 arg3 harg3 x3 _ _ h3b _ _
  rw [r3]
  iapply (wp_assume _ _ _ _ h2)
  sl_step

  have e4 := load_acts arg4 harg4 x4 inb_S1024x1024_S1024x1024_0_0
  have e5 := load_info arg5 harg5 x5 inb_S1x8x1024_S1x8x1024_0_0_0
  simp only [e4, e5]
  isplitr
  · ipureintro; exact ⟨_, _, rfl⟩
  isplitl [H2]; · iexact H2
  isplitl [H3]; · iexact H3
  isplitl [H4]; · iexact H4
  isplitl [H5]; · iexact H5
  iexists _; iexists _; iexists _; iexists _
  isplitl [H12]; · iexact H12
  isplitl [H13]; · iexact H13
  isplitl [H14]; · iexact H14
  isplitl [H15]; · iexact H15
  ipureintro
  refine ⟨?_, ?_, ?_⟩
  · exact chunks_of (chunkPm x5) f12 _ _ _ _ _ _ _ _ _ _ _ _ rfl rfl rfl rfl rfl rfl
  · exact chunks_of (chunkXs x5 x4) f13 _ _ _ _ _ _ _ _ _ _ _ _ rfl rfl rfl rfl rfl rfl
  · exact chunks1_of (chunkCs x5) f15 _ _ _ _ _ _ _ _ _ _ _ _ rfl rfl rfl rfl rfl rfl

/-- The others find the rows filled. -/
theorem part_later (oa ob na nb : ℕ) (h1 : k0_chk1 (BitVec.ofNat 32 oa) (BitVec.ofNat 32 ob) (BitVec.ofNat 32 na)) (h2 : k0_chk2 (BitVec.ofNat 32 ob) (BitVec.ofNat 32 na) (BitVec.ofNat 32 nb)) (h2a : ∀ y : S1024.Idx, (y 0).val = k0_off1 i 0 → x2 y = BitVec.ofNat 32 oa) (h2b : ∀ y : S1024.Idx, (y 0).val = k0_off2 i 0 → x2 y = BitVec.ofNat 32 ob)
    (h3a : ∀ y : S1024.Idx, (y 0).val = k0_off1 i 0 → x3 y = BitVec.ofNat 32 na) (h3b : ∀ y : S1024.Idx, (y 0).val = k0_off2 i 0 → x3 y = BitVec.ofNat 32 nb) (h0 : ¬ (Scalar.cmpi .ne (Scalar.extui (Scalar.cmpi .eq (BitVec.ofNat 32 (i 1).val) 0#32) : BitVec 32) 0#32 = 1#1)) :
    (iprop((arg2.view.loc (c : Thread nD τ) ↦[arg2.view.set]{q2} harg2.unread x2) ∗ (arg3.view.loc (c : Thread nD τ) ↦[arg3.view.set]{q3} harg3.unread x3)) : sProp 𝕄)
      ⊢ wp frame (wpE (defs₀ (F := F)) Variants.none (c : Thread nD τ) none) E (k0_part7 (F := F) i arg2 harg2 arg3 harg3 arg4 harg4 arg5 harg5 arg6 harg6 arg7 harg7 arg8 harg8 arg9 harg9 arg10 harg10 arg11 harg11 arg12 harg12 arg13 harg13 arg14 harg14 arg15 harg15) (fun r => iprop(⌜∃ v31 v36 : BitVec 32, r = ⟨BitVec.ofNat 32 (i 1).val, BitVec.ofNat 32 oa, BitVec.ofNat 32 ob, BitVec.ofNat 32 na, h1, v31, BitVec.ofNat 32 nb, h2, v36, 128#32⟩⌝ ∗ (arg2.view.loc (c : Thread nD τ) ↦[arg2.view.set]{q2} harg2.unread x2) ∗ (arg3.view.loc (c : Thread nD τ) ↦[arg3.view.set]{q3} harg3.unread x3))) := by
  rw [k0_part7_eq_skeleton]; unfold k0_part7_skel
  dsimp only
  rw [dif_neg h0]
  iintro ⟨H2, H3⟩
  sl_exec
  have r0 : part_later.sl.r i arg2 harg2 x2 = BitVec.ofNat 32 oa := word2 arg2 harg2 x2 _ _ h2a _ _
  have r1 : part_later.sl.r_1 i arg2 harg2 x2 = BitVec.ofNat 32 ob := word2 arg2 harg2 x2 _ _ h2b _ _
  have r2 : part_later.sl.r_2 i arg3 harg3 x3 = BitVec.ofNat 32 na := word3 arg3 harg3 x3 _ _ h3a _ _
  rw [r0, r1, r2]
  iapply (wp_assume _ _ _ _ h1)
  sl_exec
  have r3 : part_later.sl.r_3 i arg3 harg3 x3 = BitVec.ofNat 32 nb := word3 arg3 harg3 x3 _ _ h3b _ _
  rw [r3]
  iapply (wp_assume _ _ _ _ h2)
  sl_step

  isplitr
  · ipureintro; exact ⟨_, _, rfl⟩
  isplitl [H2]; · iexact H2
  iexact H3

theorem load_x9 (inb) :
    View.readAt (Elt F) arg9.view (Rect.unit (s := S1024x1024) ![0, 0] S1024x1024.size inb).toLoadRect (harg9.unread x9) = x9 := by
  rw [View.readAt_eq_ld, harg9.read_unread]; exact View.ld_unit_zero (h := by funext a; fin_cases a <;> rfl) ..
theorem load_x10 (inb) :
    View.readAt (Elt F) arg10.view (Rect.unit (s := S1x1024) ![0, 0] S1x1024.size inb).toLoadRect (harg10.unread x10) = x10 := by
  rw [View.readAt_eq_ld, harg10.read_unread]; exact View.ld_unit_zero (h := by funext a; fin_cases a <;> rfl) ..
theorem load_full (a : Memref sig .tc .vmem S2688x1024 .bf16) (f : BufTy.Contents (Elt F) a.view.ty) (inb) :
    View.readAt (Elt F) a.view (Rect.unit (s := S2688x1024) ![0, 0] S2688x1024.size inb).toLoadRect f = a.view.read (Elt F) f := by
  rw [View.readAt_eq_ld]; exact View.ld_unit_zero (h := by funext a; fin_cases a <;> rfl) ..

/-- The two experts' segments: both a tile at once when the first is short, one after the other when it is not. -/
theorem tiles_short (oa ob na nb : ℕ) (h2 : k0_chk2 (BitVec.ofNat 32 ob) (BitVec.ofNat 32 na) (BitVec.ofNat 32 nb)) (hc : k0_cond2 (BitVec.ofNat 32 na) = 1#1) (hn : na ≤ 128) (hab : oa + na ≤ ob) (hb : ob + nb ≤ 2560)
    (f13 : BufTy.Contents (Elt F) arg13.view.ty) (f14 : BufTy.Contents (Elt F) arg14.view.ty) (f15 : BufTy.Contents (Elt F) arg15.view.ty) (S : Set (Seg F)) (hS : ∀ s ∈ S, s.2.2 ≤ oa) (hSd : ∀ s ∈ S, s.Done (arg13.view.read (Elt F) f13) (arg15.view.read (Elt F) f15) (arg14.view.read (Elt F) f14))
    (offa offb : Fin 2 → ℕ) (ea : offa = ![oa, 0]) (eb : offb = ![ob, 0]) (inba : ∀ a, offa a + S128x1024.size a ≤ S2688x1024.size a) (inbb : ∀ a, offb a + S128x1024.size a ≤ S2688x1024.size a)
    (wa wb : FVec F S128x1024 .bf16) (ha : oa + 128 ≤ 2688) (hb' : ob + 128 ≤ 2688) (hwa : wa = tile (wts0 x6 x7 x8) (rows (arg13.view.read (Elt F) f13) oa ha) (col (arg15.view.read (Elt F) f15) oa ha)) (hwb : wb = tile (wts1 x6 x7 x8) (rows (arg13.view.read (Elt F) f13) ob hb') (col (arg15.view.read (Elt F) f15) ob hb'))
    (f : BufTy.Contents (Elt F) arg14.view.ty)
    (hf : f = arg14.view.writes (Elt F) f14 (pb_k0_t2 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 (Scf.trips (k0_t2_loop (BitVec.ofNat 32 nb)).lb (k0_t2_loop (BitVec.ofNat 32 nb)).ub (k0_t2_loop (BitVec.ofNat 32 nb)).st)
      ++ (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 (Scf.trips (k0_t1_loop (BitVec.ofNat 32 nb)).lb (k0_t1_loop (BitVec.ofNat 32 nb)).ub (k0_t1_loop (BitVec.ofNat 32 nb)).st)
      ++ [⟨Rect.unit offb S128x1024.size inbb, wb⟩, ⟨Rect.unit offa S128x1024.size inba, wa⟩]))) :
    (∀ s ∈ S, s.Done (arg13.view.read (Elt F) f13) (arg15.view.read (Elt F) f15) (arg14.view.read (Elt F) f)) ∧ Done (wts0 x6 x7 x8) oa (oa + na) (arg13.view.read (Elt F) f13) (arg15.view.read (Elt F) f15) (arg14.view.read (Elt F) f) ∧ Done (wts1 x6 x7 x8) ob (ob + nb) (arg13.view.read (Elt F) f13) (arg15.view.read (Elt F) f15) (arg14.view.read (Elt F) f) := by
  rw [loop_t2 c i arg2 harg2 arg3 harg3 arg4 harg4 arg5 harg5 arg6 harg6 arg7 harg7 arg8 harg8 arg9 harg9 arg10 harg10 arg11 harg11 arg12 harg12 arg13 harg13 arg14 harg14 arg15 harg15 x6 x7 x8 oa ob na nb (by omega) h2 hc f13 f15, List.nil_append, View.writes_append] at hf
  have a1 := (Done.step (v := arg14.view) f14 (arg13.view.read (Elt F) f13) (arg15.view.read (Elt F) f15) (wts0 x6 x7 x8) oa oa [] offa ea ha inba wa hwa (Done.empty _ _ _ _ _)).mono (hi' := oa + na) (by omega)
  have a2 := Done.keep (v := arg14.view) f14 (arg13.view.read (Elt F) f13) (arg15.view.read (Elt F) f15) (wts0 x6 x7 x8) oa (oa + na) ob _ offb eb hab inbb wb a1
  have b2 := Done.step (v := arg14.view) f14 (arg13.view.read (Elt F) f13) (arg15.view.read (Elt F) f15) (wts1 x6 x7 x8) ob ob [⟨Rect.unit offa S128x1024.size inba, wa⟩] offb eb hb' inbb wb hwb (Done.empty _ _ _ _ _)
  have s2 : ∀ s ∈ insert ((wts0 x6 x7 x8, oa, oa + na) : Seg F) S, s.Done (arg13.view.read (Elt F) f13) (arg15.view.read (Elt F) f15) (arg14.view.read (Elt F) (arg14.view.writes (Elt F) f14 [⟨Rect.unit offb S128x1024.size inbb, wb⟩, ⟨Rect.unit offa S128x1024.size inba, wa⟩])) := by
    intro s hs
    rcases hs with rfl | hs
    · exact a2
    · exact Done.keep (v := arg14.view) f14 _ _ _ _ _ ob _ offb eb (by have := hS s hs; omega) inbb wb
        (Done.keep (v := arg14.view) f14 _ _ _ _ _ oa [] offa ea (hS s hs) inba wa (hSd s hs))
  obtain ⟨d1, d2⟩ := loop_t1 c i arg2 harg2 arg3 harg3 arg4 harg4 arg5 harg5 arg6 harg6 arg7 harg7 arg8 harg8 arg9 harg9 arg10 harg10 arg11 harg11 arg12 harg12 arg13 harg13 arg14 harg14 arg15 harg15 x6 x7 x8 oa ob na nb h2 hc hb f13 f15 _ (insert ((wts0 x6 x7 x8, oa, oa + na) : Seg F) S)
    (by
      rintro s (rfl | hs)
      · exact (by omega : oa + na ≤ ob + 128)
      · have := hS s hs; omega) b2 s2
  rw [← hf] at d1 d2
  exact ⟨fun s hs => d2 s (Or.inr hs), d2 _ (Or.inl rfl), d1⟩

theorem tiles_long (oa ob na nb : ℕ) (h1 : k0_chk1 (BitVec.ofNat 32 oa) (BitVec.ofNat 32 ob) (BitVec.ofNat 32 na)) (h2 : k0_chk2 (BitVec.ofNat 32 ob) (BitVec.ofNat 32 na) (BitVec.ofNat 32 nb)) (hc : k0_cond3 (BitVec.ofNat 32 na) = 1#1) (hab : oa + na ≤ ob) (ha : oa + na ≤ 2560) (hb : ob + nb ≤ 2560)
    (f13 : BufTy.Contents (Elt F) arg13.view.ty) (f14 : BufTy.Contents (Elt F) arg14.view.ty) (f15 : BufTy.Contents (Elt F) arg15.view.ty) (S : Set (Seg F)) (hS : ∀ s ∈ S, s.2.2 ≤ oa) (hSd : ∀ s ∈ S, s.Done (arg13.view.read (Elt F) f13) (arg15.view.read (Elt F) f15) (arg14.view.read (Elt F) f14))
    (f : BufTy.Contents (Elt F) arg14.view.ty)
    (hf : f = arg14.view.writes (Elt F) f14 (pb_k0_t6 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 (Scf.trips (k0_t6_loop (BitVec.ofNat 32 nb)).lb (k0_t6_loop (BitVec.ofNat 32 nb)).ub (k0_t6_loop (BitVec.ofNat 32 nb)).st)
      ++ (pb_k0_t5 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 ob) (BitVec.ofNat 32 na) (BitVec.ofNat 32 nb) h2 hc (harg6.unread x6) (harg7.unread x7) (harg8.unread x8) f13 f15 (Scf.trips (k0_t5_loop (BitVec.ofNat 32 nb)).lb (k0_t5_loop (BitVec.ofNat 32 nb)).ub (k0_t5_loop (BitVec.ofNat 32 nb)).st)
      ++ (pb_k0_t4 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 oa) (BitVec.ofNat 32 ob) (BitVec.ofNat 32 na) h1 hc (harg6.unread x6) (harg7.unread x7) (harg8.unread x8) f13 f15 (Scf.trips (k0_t4_loop (BitVec.ofNat 32 na)).lb (k0_t4_loop (BitVec.ofNat 32 na)).ub (k0_t4_loop (BitVec.ofNat 32 na)).st)
      ++ pb_k0_t3 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 oa) (BitVec.ofNat 32 ob) (BitVec.ofNat 32 na) h1 hc (harg6.unread x6) (harg7.unread x7) (harg8.unread x8) f13 f15 (Scf.trips (k0_t3_loop (BitVec.ofNat 32 na)).lb (k0_t3_loop (BitVec.ofNat 32 na)).ub (k0_t3_loop (BitVec.ofNat 32 na)).st))))) :
    (∀ s ∈ S, s.Done (arg13.view.read (Elt F) f13) (arg15.view.read (Elt F) f15) (arg14.view.read (Elt F) f)) ∧ Done (wts0 x6 x7 x8) oa (oa + na) (arg13.view.read (Elt F) f13) (arg15.view.read (Elt F) f15) (arg14.view.read (Elt F) f) ∧ Done (wts1 x6 x7 x8) ob (ob + nb) (arg13.view.read (Elt F) f13) (arg15.view.read (Elt F) f15) (arg14.view.read (Elt F) f) := by
  rw [loop_t6 c i arg2 harg2 arg3 harg3 arg4 harg4 arg5 harg5 arg6 harg6 arg7 harg7 arg8 harg8 arg9 harg9 arg10 harg10 arg11 harg11 arg12 harg12 arg13 harg13 arg14 harg14 arg15 harg15 x6 x7 x8 oa ob na nb (by omega) h2 hc f13 f15, loop_t4 c i arg2 harg2 arg3 harg3 arg4 harg4 arg5 harg5 arg6 harg6 arg7 harg7 arg8 harg8 arg9 harg9 arg10 harg10 arg11 harg11 arg12 harg12 arg13 harg13 arg14 harg14 arg15 harg15 x6 x7 x8 oa ob na nb (by omega) h1 hc f13 f15, List.nil_append, List.nil_append, View.writes_append] at hf
  obtain ⟨a1, a2⟩ := loop_t3 c i arg2 harg2 arg3 harg3 arg4 harg4 arg5 harg5 arg6 harg6 arg7 harg7 arg8 harg8 arg9 harg9 arg10 harg10 arg11 harg11 arg12 harg12 arg13 harg13 arg14 harg14 arg15 harg15 x6 x7 x8 oa ob na nb h1 hc ha f13 f15 f14 S hS (Done.empty _ _ _ _ _) hSd
  obtain ⟨d1, d2⟩ := loop_t5 c i arg2 harg2 arg3 harg3 arg4 harg4 arg5 harg5 arg6 harg6 arg7 harg7 arg8 harg8 arg9 harg9 arg10 harg10 arg11 harg11 arg12 harg12 arg13 harg13 arg14 harg14 arg15 harg15 x6 x7 x8 oa ob na nb h2 hc hb f13 f15 _ (insert ((wts0 x6 x7 x8, oa, oa + na) : Seg F) S)
    (by
      rintro s (rfl | hs)
      · exact hab
      · have := hS s hs; omega) (Done.empty _ _ _ _ _)
    (by
      rintro s (rfl | hs)
      · exact a1
      · exact a2 s hs)
  rw [← hf] at d1 d2
  exact ⟨fun s hs => d2 s (Or.inr hs), d2 _ (Or.inl rfl), d1⟩

theorem pay8_congr {a a' : Vec F S1024x1024 .f32} {b b' c c' : Vec F S2688x1024 .bf16} {d d' : Vec F S1x1024 .f32} (ha : a = a') (hb : b = b') (hc : c = c') (hd : d = d') : k0_pay8 a b c d = k0_pay8 a' b' c' d' := by
  rw [ha, hb, hc, hd]

theorem all_of {a b c d e : Prop} (h : a) (h' : b ∧ c ∧ d) (h'' : e) : a ∧ b ∧ c ∧ d ∧ e := ⟨h, h'.1, h'.2.1, h'.2.2, h''⟩

/-- The body, given its first part. -/
theorem body_of (oa ob na nb : ℕ) (h1 : k0_chk1 (BitVec.ofNat 32 oa) (BitVec.ofNat 32 ob) (BitVec.ofNat 32 na)) (h2 : k0_chk2 (BitVec.ofNat 32 ob) (BitVec.ofNat 32 na) (BitVec.ofNat 32 nb)) (hab : oa + na ≤ ob) (hna : oa + na ≤ 2560) (hnb : ob + nb ≤ 2560) (S : Set (Seg F)) (hS : ∀ s ∈ S, s.2.2 ≤ oa) (f11 : BufTy.Contents (Elt F) arg11.view.ty) (P R : sProp 𝕄)
    (hp : P ⊢ wp frame (wpE (defs₀ (F := F)) Variants.none (c : Thread nD τ) none) E (k0_part7 (F := F) i arg2 harg2 arg3 harg3 arg4 harg4 arg5 harg5 arg6 harg6 arg7 harg7 arg8 harg8 arg9 harg9 arg10 harg10 arg11 harg11 arg12 harg12 arg13 harg13 arg14 harg14 arg15 harg15) (fun r => iprop(⌜∃ v31 v36 : BitVec 32, r = ⟨BitVec.ofNat 32 (i 1).val, BitVec.ofNat 32 oa, BitVec.ofNat 32 ob, BitVec.ofNat 32 na, h1, v31, BitVec.ofNat 32 nb, h2, v36, 128#32⟩⌝ ∗ R ∗ (∃ f12 f13 f14 f15, (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ ⌜Filled x5 x4 (arg12.view.read (Elt F) f12) (arg13.view.read (Elt F) f13) (arg15.view.read (Elt F) f15) ∧ ∀ s ∈ S, s.Done (arg13.view.read (Elt F) f13) (arg15.view.read (Elt F) f15) (arg14.view.read (Elt F) f14)⌝)))) :
    iprop(P ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} f11))
      ⊢ wp frame (wpE (defs₀ (F := F)) Variants.none (c : Thread nD τ) none) E (cc0_moe (F := F) i arg2 harg2 arg3 harg3 arg4 harg4 arg5 harg5 arg6 harg6 arg7 harg7 arg8 harg8 arg9 harg9 arg10 harg10 arg11 harg11 arg12 harg12 arg13 harg13 arg14 harg14 arg15 harg15) (fun _ => iprop(R ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10)
          ∗ (∃ f11 f12 f13 f14 f15, (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ ⌜Filled x5 x4 (arg12.view.read (Elt F) f12) (arg13.view.read (Elt F) f13) (arg15.view.read (Elt F) f15) ∧ (∀ s ∈ S, s.Done (arg13.view.read (Elt F) f13) (arg15.view.read (Elt F) f15) (arg14.view.read (Elt F) f14)) ∧ Done (wts0 x6 x7 x8) oa (oa + na) (arg13.view.read (Elt F) f13) (arg15.view.read (Elt F) f15) (arg14.view.read (Elt F) f14) ∧ Done (wts1 x6 x7 x8) ob (ob + nb) (arg13.view.read (Elt F) f13) (arg15.view.read (Elt F) f15) (arg14.view.read (Elt F) f14) ∧ (k0_cond4 i = 1#1 → (arg11.view.read (Elt F) f11) = k0_pay8 x9 (arg12.view.read (Elt F) f12) (arg14.view.read (Elt F) f14) x10)⌝))) := by
  rw [cc0_moe_eq_skeleton]; unfold cc0_moe_skel
  iintro ⟨HP, H6, H7, H8, H9, H10, H11⟩
  rw [wp_bind]
  iapply wp_wand_r
  isplitl [HP]
  · iapply hp; iexact HP
  iintro %r ⟨%hr, HR, %f12, %f13, %f14, %f15, H12, H13, H14, H15, %hG⟩
  obtain ⟨v31, v36, hr⟩ := hr
  obtain ⟨hF, hSd⟩ := hG
  subst hr; dsimp only
  by_cases h : na ≤ 128
  · have hc := (words_c2 ⟨na, by omega⟩).2 h
    have c3 : ¬ (k0_cond3 (BitVec.ofNat 32 na) = 1#1) := fun h' => absurd ((words_c3 ⟨na, by omega⟩).1 h') (by dsimp only; omega)
    rw [dif_pos hc, dif_neg c3, k0_part6_eq_skeleton]
    unfold k0_part6_skel
    sl_exec
    have e3 := off3_at oa (by omega)
    have e4 := off4_at oa (by omega)
    have e5 := off5_at ob (by omega)
    have e6 := off6_at ob (by omega)
    by_cases h4 : k0_cond4 i = 1#1
    · rw [dif_pos h4]
      sl_exec
      sl_step
      have e9 := load_x9 arg9 harg9 x9 inb_S1024x1024_S1024x1024_0_0
      have e10 := load_x10 arg10 harg10 x10 inb_S1x1024_S1x1024_0_0
      isplitl [HR]; · iexact HR
      isplitl [H6]; · iexact H6
      isplitl [H7]; · iexact H7
      isplitl [H8]; · iexact H8
      isplitl [H9]; · iexact H9
      isplitl [H10]; · iexact H10
      iexists _; iexists _; iexists _; iexists _; iexists _
      isplitl [H11]; · iexact H11
      isplitl [H12]; · iexact H12
      isplitl [H13]; · iexact H13
      isplitl [H14]; · iexact H14
      isplitl [H15]; · iexact H15
      ipureintro
      refine all_of hF (tiles_short c i arg2 harg2 arg3 harg3 arg4 harg4 arg5 harg5 arg6 harg6 arg7 harg7 arg8 harg8 arg9 harg9 arg10 harg10 arg11 harg11 arg12 harg12 arg13 harg13 arg14 harg14 arg15 harg15 x6 x7 x8 oa ob na nb h2 hc h hab hnb f13 f14 f15 S hS hSd _ _ e3 e5 _ _ _ _ (by omega) (by omega) (tile0_at arg6 harg6 arg7 harg7 arg8 harg8 arg13 arg15 x6 x7 x8 f13 f15 _ _ oa (by omega) e3 e4 (k0_off3_inb (BitVec.ofNat 32 oa) (BitVec.ofNat 32 ob) (BitVec.ofNat 32 na) h1 hc) (k0_off4_inb (BitVec.ofNat 32 oa) (BitVec.ofNat 32 ob) (BitVec.ofNat 32 na) h1 hc)) (tile1_at arg6 harg6 arg7 harg7 arg8 harg8 arg13 arg15 x6 x7 x8 f13 f15 _ _ ob (by omega) e5 e6 (k0_off5_inb (BitVec.ofNat 32 oa) (BitVec.ofNat 32 ob) (BitVec.ofNat 32 na) h1 hc) (k0_off6_inb (BitVec.ofNat 32 oa) (BitVec.ofNat 32 ob) (BitVec.ofNat 32 na) h1 hc)) _ rfl) fun _ => ?_
      refine (View.read_writes_full _ _ _ _ _).trans ?_
      exact pay8_congr e9 (load_full arg12 _ _) (load_full arg14 _ _) e10
    · rw [dif_neg h4]
      sl_step
      isplitl [HR]; · iexact HR
      isplitl [H6]; · iexact H6
      isplitl [H7]; · iexact H7
      isplitl [H8]; · iexact H8
      isplitl [H9]; · iexact H9
      isplitl [H10]; · iexact H10
      iexists _; iexists _; iexists _; iexists _; iexists _
      isplitl [H11]; · iexact H11
      isplitl [H12]; · iexact H12
      isplitl [H13]; · iexact H13
      isplitl [H14]; · iexact H14
      isplitl [H15]; · iexact H15
      ipureintro
      exact all_of hF (tiles_short c i arg2 harg2 arg3 harg3 arg4 harg4 arg5 harg5 arg6 harg6 arg7 harg7 arg8 harg8 arg9 harg9 arg10 harg10 arg11 harg11 arg12 harg12 arg13 harg13 arg14 harg14 arg15 harg15 x6 x7 x8 oa ob na nb h2 hc h hab hnb f13 f14 f15 S hS hSd _ _ e3 e5 _ _ _ _ (by omega) (by omega) (tile0_at arg6 harg6 arg7 harg7 arg8 harg8 arg13 arg15 x6 x7 x8 f13 f15 _ _ oa (by omega) e3 e4 (k0_off3_inb (BitVec.ofNat 32 oa) (BitVec.ofNat 32 ob) (BitVec.ofNat 32 na) h1 hc) (k0_off4_inb (BitVec.ofNat 32 oa) (BitVec.ofNat 32 ob) (BitVec.ofNat 32 na) h1 hc)) (tile1_at arg6 harg6 arg7 harg7 arg8 harg8 arg13 arg15 x6 x7 x8 f13 f15 _ _ ob (by omega) e5 e6 (k0_off5_inb (BitVec.ofNat 32 oa) (BitVec.ofNat 32 ob) (BitVec.ofNat 32 na) h1 hc) (k0_off6_inb (BitVec.ofNat 32 oa) (BitVec.ofNat 32 ob) (BitVec.ofNat 32 na) h1 hc)) _ rfl) fun h => absurd h h4
  · have hc := (words_c3 ⟨na, by omega⟩).2 (by dsimp only; omega)
    have c2 : ¬ (k0_cond2 (BitVec.ofNat 32 na) = 1#1) := fun h' => absurd ((words_c2 ⟨na, by omega⟩).1 h') h
    rw [dif_neg c2, dif_pos hc]
    sl_exec
    by_cases h4 : k0_cond4 i = 1#1
    · rw [dif_pos h4]
      sl_exec
      sl_step
      have e9 := load_x9 arg9 harg9 x9 inb_S1024x1024_S1024x1024_0_0
      have e10 := load_x10 arg10 harg10 x10 inb_S1x1024_S1x1024_0_0
      isplitl [HR]; · iexact HR
      isplitl [H6]; · iexact H6
      isplitl [H7]; · iexact H7
      isplitl [H8]; · iexact H8
      isplitl [H9]; · iexact H9
      isplitl [H10]; · iexact H10
      iexists _; iexists _; iexists _; iexists _; iexists _
      isplitl [H11]; · iexact H11
      isplitl [H12]; · iexact H12
      isplitl [H13]; · iexact H13
      isplitl [H14]; · iexact H14
      isplitl [H15]; · iexact H15
      ipureintro
      refine all_of hF (tiles_long c i arg2 harg2 arg3 harg3 arg4 harg4 arg5 harg5 arg6 harg6 arg7 harg7 arg8 harg8 arg9 harg9 arg10 harg10 arg11 harg11 arg12 harg12 arg13 harg13 arg14 harg14 arg15 harg15 x6 x7 x8 oa ob na nb h1 h2 hc hab hna hnb f13 f14 f15 S hS hSd _ rfl) fun _ => ?_
      refine (View.read_writes_full _ _ _ _ _).trans ?_
      exact pay8_congr e9 (load_full arg12 _ _) (load_full arg14 _ _) e10
    · rw [dif_neg h4]
      sl_step
      isplitl [HR]; · iexact HR
      isplitl [H6]; · iexact H6
      isplitl [H7]; · iexact H7
      isplitl [H8]; · iexact H8
      isplitl [H9]; · iexact H9
      isplitl [H10]; · iexact H10
      iexists _; iexists _; iexists _; iexists _; iexists _
      isplitl [H11]; · iexact H11
      isplitl [H12]; · iexact H12
      isplitl [H13]; · iexact H13
      isplitl [H14]; · iexact H14
      isplitl [H15]; · iexact H15
      ipureintro
      exact all_of hF (tiles_long c i arg2 harg2 arg3 harg3 arg4 harg4 arg5 harg5 arg6 harg6 arg7 harg7 arg8 harg8 arg9 harg9 arg10 harg10 arg11 harg11 arg12 harg12 arg13 harg13 arg14 harg14 arg15 harg15 x6 x7 x8 oa ob na nb h1 h2 hc hab hna hnb f13 f14 f15 S hS hSd _ rfl) fun h => absurd h h4

end Cert.Proof.Moe

end
-- ==== Proof.MoePoint.lean ====
/-
  The experts' kernel's grid: what the host hands it, the blocks its windows read at a grid point, and the words of
  its tables there.
-/
module

public import proofs.«01_k».proof.Proof.MoeBody
public import proofs.«01_k».proof.Proof.Gen.ExpertsIdeal.Launch
public import Idealize.ShloMosaic.Lib.Claim
public import Idealize.ShloMosaic.Lib.Pointwise
public import Idealize.ShloMosaic.Lib.StableHlo.ReadAt
public import Idealize.ShloMosaic.Lib.Pipeline.Value
public import Idealize.ShloMosaic.Lib.Pipeline.ValueKit

@[expose] public section

set_option maxRecDepth 16384

noncomputable section

namespace Cert.Proof.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What core `c`'s buffers hold when the kernel is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No operation before the kernel writes an argument. -/
theorem V_arg (c : Dev nD) (b : Ref sig .tc) (h : b ∈ ([main_arg0, main_arg1, main_arg2, main_arg3, main_arg4, main_arg5, main_arg6, main_arg7, main_arg8, main_arg9, main_arg10] : List (Ref sig .tc))) :
    V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.nary_writes, Finset.mem_singleton]
    revert b
    simp only [List.forall_mem_cons]
    repeat' apply And.intro
    all_goals first | exact StableHlo.devRef_ne_of_ne (by decide) | exact fun _ h => absurd h (List.not_mem_nil)))

/-- The tables as the kernel finds them. -/
def adm : (p : Fin 1) → (pcfgs (F := F) p).Adm := fun _ => ⟨fun k => V m 0 (pre0.ref k), trivial⟩

abbrev cfgA : Cfg sig Λ₀ := cfg0 (adm m 0)

/-- A window's block at a grid point. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

theorem idx_table (t : Fin grid0.N) : cc0_transform_0 (grid0.coords t) = ![t.val / 16, 0] ∧ cc0_transform_1 (grid0.coords t) = ![t.val / 16, 0, 0]
    ∧ cc0_transform_2 (grid0.coords t) = ![t.val % 16, 0, 0] ∧ cc0_transform_3 (grid0.coords t) = ![t.val % 16, 0, 0] ∧ cc0_transform_4 (grid0.coords t) = ![t.val % 16, 0, 0]
    ∧ cc0_transform_5 (grid0.coords t) = ![t.val / 16, 0] ∧ cc0_transform_6 (grid0.coords t) = ![0, 0] ∧ cc0_transform_7 (grid0.coords t) = ![t.val / 16, 0] := by
  revert t; decide +kernel

theorem off_table (t : Fin grid0.N) : k0_off1 (grid0.coords t) 0 = 2 * t.val ∧ k0_off2 (grid0.coords t) 0 = 2 * t.val + 1 := by
  revert t; decide +kernel

theorem first_table (t : Fin grid0.N) : Scalar.cmpi .ne (Scalar.extui (Scalar.cmpi .eq (BitVec.ofNat 32 (grid0.coords t 1).val) 0#32) : BitVec 32) 0#32 = 1#1 ↔ t.val % 16 = 0 := by
  revert t; decide +kernel

theorem last_table (t : Fin grid0.N) : k0_cond4 (grid0.coords t) = 1#1 ↔ t.val % 16 = 15 := by
  revert t; decide +kernel

theorem idx (t : Fin (cfgA m).N) : ((cfgA m).win 0).index t = ![t.val / 16, 0] ∧ ((cfgA m).win 1).index t = ![t.val / 16, 0, 0]
    ∧ ((cfgA m).win 2).index t = ![t.val % 16, 0, 0] ∧ ((cfgA m).win 3).index t = ![t.val % 16, 0, 0] ∧ ((cfgA m).win 4).index t = ![t.val % 16, 0, 0]
    ∧ ((cfgA m).win 5).index t = ![t.val / 16, 0] ∧ ((cfgA m).win 6).index t = ![0, 0] ∧ ((cfgA m).win 7).index t = ![t.val / 16, 0] :=
  idx_table t

theorem point_lt (t : Fin (cfgA m).N) : t.val < 512 := lt_of_lt_of_eq t.isLt N_0

variable (c : Dev nD)

/-! ## The windows' contents -/

def row (b : Fin 32) (t : Fin 1024) : Fin 32768 := ⟨1024 * b + t, by omega⟩

/-- A block's activations, routing information and residual stream, -/
def acts (b : Fin 32) : Vec F S1024x1024 .bf16 := fun x => (V m c main_v3 : Vec F S32768x1024 .bf16) (ix2 (row b (x 0)) (x 1))
def info (b : Fin 32) : Vec F S1x8x1024 .f32 := fun x => (V m c main_v2 : Vec F S32x8x1024 .f32) (ix3 b (x 1) (x 2))
def resid (b : Fin 32) : Vec F S1024x1024 .f32 := fun x => (V m c main_arg1 : Vec F S32768x1024 .f32) (ix2 (row b (x 0)) (x 1))
/-- the gains, and an expert's weights. -/
def gain : Vec F S1x1024 .f32 := (V m c main_v7 : Vec F S1x1024 .f32)
def wts (e : Fin 32) : Wts F :=
  ⟨fun x => (V m c main_v4 : Vec F S32x1024x256 .bf16) (ix3 e (x 1) (x 2)), fun x => (V m c main_v5 : Vec F S32x1024x256 .bf16) (ix3 e (x 1) (x 2)),
    fun x => (V m c main_v6 : Vec F S32x256x1024 .bf16) (ix3 e (x 1) (x 2))⟩

variable (t : Fin (cfgA m).N)

theorem blk0_at (b : Fin 32) (h : t.val / 16 = b.val) : (iblk m c 0 t : Vec F S1024x1024 .bf16) = acts m c b := by
  obtain ⟨_, _⟩ := b
  obtain rfl := h
  funext x
  unfold acts row
  blk_ext [iblk, idx m t]

theorem blk1_at (b : Fin 32) (h : t.val / 16 = b.val) : (iblk m c 1 t : Vec F S1x8x1024 .f32) = info m c b := by
  obtain ⟨_, _⟩ := b
  obtain rfl := h
  funext x
  unfold info
  blk_ext [iblk, idx m t]

theorem blk5_at (b : Fin 32) (h : t.val / 16 = b.val) : (iblk m c 5 t : Vec F S1024x1024 .f32) = resid m c b := by
  obtain ⟨_, _⟩ := b
  obtain rfl := h
  funext x
  unfold resid row
  blk_ext [iblk, idx m t]

theorem blk6_at : (iblk m c 6 t : Vec F S1x1024 .f32) = gain m c := by
  funext x
  unfold gain
  blk_ext [iblk, idx m t]

theorem ld0_wide (v : Vec F S2x1024x256 .bf16) (inb : ∀ a, (![0, 0, 0] : Fin 3 → ℕ) a + S1x1024x256.size a ≤ S2x1024x256.size a) (x : S1x1024x256.Idx) :
    View.ld v (Rect.unit (s := S2x1024x256) ![0, 0, 0] S1x1024x256.size inb) x = v (ix3 0 (x 1) (x 2)) := by
  refine congrArg v (funext fun a => Fin.ext ?_)
  have h0 : (x 0).val = 0 := by have : (x 0).val < 1 := (x 0).isLt; omega
  fin_cases a
  · change 0 + 1 * (x 0).val = 0; omega
  · change 0 + 1 * (x 1).val = (x 1).val; omega
  · change 0 + 1 * (x 2).val = (x 2).val; omega

theorem ld0_tall (v : Vec F S2x256x1024 .bf16) (inb : ∀ a, (![0, 0, 0] : Fin 3 → ℕ) a + S1x256x1024.size a ≤ S2x256x1024.size a) (x : S1x256x1024.Idx) :
    View.ld v (Rect.unit (s := S2x256x1024) ![0, 0, 0] S1x256x1024.size inb) x = v (ix3 0 (x 1) (x 2)) := by
  refine congrArg v (funext fun a => Fin.ext ?_)
  have h0 : (x 0).val = 0 := by have : (x 0).val < 1 := (x 0).isLt; omega
  fin_cases a
  · change 0 + 1 * (x 0).val = 0; omega
  · change 0 + 1 * (x 1).val = (x 1).val; omega
  · change 0 + 1 * (x 2).val = (x 2).val; omega

theorem ld1_wide (v : Vec F S2x1024x256 .bf16) (inb : ∀ a, (![1, 0, 0] : Fin 3 → ℕ) a + S1x1024x256.size a ≤ S2x1024x256.size a) (x : S1x1024x256.Idx) :
    View.ld v (Rect.unit (s := S2x1024x256) ![1, 0, 0] S1x1024x256.size inb) x = v (ix3 1 (x 1) (x 2)) := by
  refine congrArg v (funext fun a => Fin.ext ?_)
  have h0 : (x 0).val = 0 := by have : (x 0).val < 1 := (x 0).isLt; omega
  fin_cases a
  · change 1 + 1 * (x 0).val = 1; omega
  · change 0 + 1 * (x 1).val = (x 1).val; omega
  · change 0 + 1 * (x 2).val = (x 2).val; omega

theorem ld1_tall (v : Vec F S2x256x1024 .bf16) (inb : ∀ a, (![1, 0, 0] : Fin 3 → ℕ) a + S1x256x1024.size a ≤ S2x256x1024.size a) (x : S1x256x1024.Idx) :
    View.ld v (Rect.unit (s := S2x256x1024) ![1, 0, 0] S1x256x1024.size inb) x = v (ix3 1 (x 1) (x 2)) := by
  refine congrArg v (funext fun a => Fin.ext ?_)
  have h0 : (x 0).val = 0 := by have : (x 0).val < 1 := (x 0).isLt; omega
  fin_cases a
  · change 1 + 1 * (x 0).val = 1; omega
  · change 0 + 1 * (x 1).val = (x 1).val; omega
  · change 0 + 1 * (x 2).val = (x 2).val; omega

/-- The two experts' weights at a grid point. -/
theorem wts0_at (e : Fin 32) (h : e.val = 2 * (t.val % 16)) : wts0 (iblk m c 2 t : Vec F S2x1024x256 .bf16) (iblk m c 3 t : Vec F S2x1024x256 .bf16) (iblk m c 4 t : Vec F S2x256x1024 .bf16) = wts m c e := by
  obtain ⟨_, _⟩ := e
  obtain rfl := h
  have h2 : ∀ (i : Fin 1024) (j : Fin 256), (iblk m c 2 t : Vec F S2x1024x256 .bf16) (ix3 0 i j) = (V m c main_v4 : Vec F S32x1024x256 .bf16) (ix3 ⟨_, ‹_›⟩ i j) := fun i j => by blk_ext [iblk, idx m t]
  have h3 : ∀ (i : Fin 1024) (j : Fin 256), (iblk m c 3 t : Vec F S2x1024x256 .bf16) (ix3 0 i j) = (V m c main_v5 : Vec F S32x1024x256 .bf16) (ix3 ⟨_, ‹_›⟩ i j) := fun i j => by blk_ext [iblk, idx m t]
  have h4 : ∀ (i : Fin 256) (j : Fin 1024), (iblk m c 4 t : Vec F S2x256x1024 .bf16) (ix3 0 i j) = (V m c main_v6 : Vec F S32x256x1024 .bf16) (ix3 ⟨_, ‹_›⟩ i j) := fun i j => by blk_ext [iblk, idx m t]
  unfold wts0 wts
  congr 1
  · funext x; exact (ld0_wide _ _ x).trans (h2 _ _)
  · funext x; exact (ld0_wide _ _ x).trans (h3 _ _)
  · funext x; exact (ld0_tall _ _ x).trans (h4 _ _)

theorem wts1_at (e : Fin 32) (h : e.val = 2 * (t.val % 16) + 1) : wts1 (iblk m c 2 t : Vec F S2x1024x256 .bf16) (iblk m c 3 t : Vec F S2x1024x256 .bf16) (iblk m c 4 t : Vec F S2x256x1024 .bf16) = wts m c e := by
  obtain ⟨_, _⟩ := e
  obtain rfl := h
  have h2 : ∀ (i : Fin 1024) (j : Fin 256), (iblk m c 2 t : Vec F S2x1024x256 .bf16) (ix3 1 i j) = (V m c main_v4 : Vec F S32x1024x256 .bf16) (ix3 ⟨_, ‹_›⟩ i j) := fun i j => by blk_ext [iblk, idx m t]
  have h3 : ∀ (i : Fin 1024) (j : Fin 256), (iblk m c 3 t : Vec F S2x1024x256 .bf16) (ix3 1 i j) = (V m c main_v5 : Vec F S32x1024x256 .bf16) (ix3 ⟨_, ‹_›⟩ i j) := fun i j => by blk_ext [iblk, idx m t]
  have h4 : ∀ (i : Fin 256) (j : Fin 1024), (iblk m c 4 t : Vec F S2x256x1024 .bf16) (ix3 1 i j) = (V m c main_v6 : Vec F S32x256x1024 .bf16) (ix3 ⟨_, ‹_›⟩ i j) := fun i j => by blk_ext [iblk, idx m t]
  unfold wts1 wts
  congr 1
  · funext x; exact (ld1_wide _ _ x).trans (h2 _ _)
  · funext x; exact (ld1_wide _ _ x).trans (h3 _ _)
  · funext x; exact (ld1_tall _ _ x).trans (h4 _ _)

/-! ## The tables -/

/-- The tables hold the segments' first rows `O` and lengths `N`, block by block of 32 experts: aligned, within the
    buffer, one after another. -/
structure Tab (off cnt : Vec F S1024 .i32) (O N : ℕ → ℕ) : Prop where
  off : ∀ y : S1024.Idx, off y = BitVec.ofNat 32 (O (y 0).val)
  cnt : ∀ y : S1024.Idx, cnt y = BitVec.ofNat 32 (N (y 0).val)
  al : ∀ k, k < 1024 → 16 ∣ O k
  le : ∀ k, k < 1024 → O k + N k ≤ 2560
  next : ∀ k, k < 1024 → k % 32 ≠ 31 → O k + N k ≤ O (k + 1)

theorem Tab.before {off cnt : Vec F S1024 .i32} {O N : ℕ → ℕ} (h : Tab off cnt O N) (b : ℕ) (hb : b < 32) (e : ℕ) :
    ∀ d, e + d + 1 < 32 → O (32 * b + e) + N (32 * b + e) ≤ O (32 * b + (e + d + 1))
  | 0, hd => h.next (32 * b + e) (by omega) (by omega)
  | d + 1, hd => by
    have := h.before b hb e d (by omega)
    have := h.next (32 * b + (e + d + 1)) (by omega) (by omega)
    exact le_trans (le_trans ‹_› (Nat.le_add_right _ _)) this

/-- An expert's segment in a block. -/
def seg (O N : ℕ → ℕ) (b e : Fin 32) : Seg F := (wts m c e, O (32 * b + e), O (32 * b + e) + N (32 * b + e))

/-- What the scratch buffers hold before a grid point: nothing to say at a block's first; else the sorted rows and
    the segments of the experts gone by. -/
def Inv (O N : ℕ → ℕ) (t : ℕ) (pm xs ow : Vec F S2688x1024 .bf16) (cs : Vec F S2688x1 .f32) : Prop :=
  t % 16 ≠ 0 → ∀ b : Fin 32, t / 16 = b.val → Filled (info m c b) (acts m c b) pm xs cs ∧ ∀ e : Fin 32, e.val < 2 * (t % 16) → (seg m c O N b e).Done xs cs ow

/-- What a block's last grid point leaves. -/
def Left (O N : ℕ → ℕ) (t : ℕ) (X : Vec F S1024x1024 .f32) : Prop :=
  t % 16 = 15 → ∀ b : Fin 32, t / 16 = b.val → ∃ (pm xs ow : Vec F S2688x1024 .bf16) (cs : Vec F S2688x1 .f32),
    Filled (info m c b) (acts m c b) pm xs cs ∧ (∀ e : Fin 32, (seg m c O N b e).Done xs cs ow) ∧ X = k0_pay8 (resid m c b) pm ow (gain m c)

end Cert.Proof.Moe

end
-- ==== Proof.MoeRun.lean ====
/-
  The experts' kernel's launch: every grid point runs the body, so the pipeline leaves, block by block of tokens, the
  result of the sorted rows. The frame and the run with the result array named.
-/
module

public import proofs.«01_k».proof.Proof.MoePoint
public import Idealize.ShloMosaic.Lib.Pipeline.DatRel
public import Idealize.ShloMosaic.Lib.Pipeline.ArrRel

@[expose] public section

set_option maxRecDepth 16384

noncomputable section

namespace Cert.Proof.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD) (t : Fin (cfgA m).N) (O N : ℕ → ℕ)

/-! ## The staging buffers at a grid point -/

abbrev ms0_0 : Memref sig .tc .vmem S1024x1024 .bf16 := spec0_0.stage ((cfgA m).slots t 0)
abbrev hs0_0 : (ms0_0 m t).IsWhole := hstage0_0 (((cfgA m).slots t 0).cast nbuf0_0)
abbrev ms0_1 : Memref sig .tc .vmem S1x8x1024 .f32 := spec0_1.stage ((cfgA m).slots t 1)
abbrev hs0_1 : (ms0_1 m t).IsWhole := hstage0_1 (((cfgA m).slots t 1).cast nbuf0_1)
abbrev ms0_2 : Memref sig .tc .vmem S2x1024x256 .bf16 := spec0_2.stage ((cfgA m).slots t 2)
abbrev hs0_2 : (ms0_2 m t).IsWhole := hstage0_2 (((cfgA m).slots t 2).cast nbuf0_2)
abbrev ms0_3 : Memref sig .tc .vmem S2x1024x256 .bf16 := spec0_3.stage ((cfgA m).slots t 3)
abbrev hs0_3 : (ms0_3 m t).IsWhole := hstage0_3 (((cfgA m).slots t 3).cast nbuf0_3)
abbrev ms0_4 : Memref sig .tc .vmem S2x256x1024 .bf16 := spec0_4.stage ((cfgA m).slots t 4)
abbrev hs0_4 : (ms0_4 m t).IsWhole := hstage0_4 (((cfgA m).slots t 4).cast nbuf0_4)
abbrev ms0_5 : Memref sig .tc .vmem S1024x1024 .f32 := spec0_5.stage ((cfgA m).slots t 5)
abbrev hs0_5 : (ms0_5 m t).IsWhole := hstage0_5 (((cfgA m).slots t 5).cast nbuf0_5)
abbrev ms0_6 : Memref sig .tc .vmem S1x1024 .f32 := spec0_6.stage ((cfgA m).slots t 6)
abbrev hs0_6 : (ms0_6 m t).IsWhole := hstage0_6 (((cfgA m).slots t 6).cast nbuf0_6)
abbrev ms0_7 : Memref sig .tc .vmem S1024x1024 .f32 := spec0_7.stage ((cfgA m).slots t 7)
abbrev hs0_7 : (ms0_7 m t).IsWhole := hstage0_7 (((cfgA m).slots t 7).cast nbuf0_7)

/-- The segments of the experts gone by in a block. -/
def gone (b : Fin 32) : Set (Seg F) := {s | ∃ e : Fin 32, e.val < 2 * (t.val % 16) ∧ s = seg m c O N b e}

/-- With a point's two experts done, those before the next point are. -/
theorem done_next (b : Fin 32) (hb : t.val / 16 = b.val) (xs ow : Vec F S2688x1024 .bf16) (cs : Vec F S2688x1 .f32) (hS : ∀ s ∈ gone m c t O N b, s.Done xs cs ow)
    (h0 : Done (wts0 (iblk m c 2 t : Vec F S2x1024x256 .bf16) (iblk m c 3 t : Vec F S2x1024x256 .bf16) (iblk m c 4 t : Vec F S2x256x1024 .bf16)) (O (2 * t.val)) (O (2 * t.val) + N (2 * t.val)) xs cs ow)
    (h1 : Done (wts1 (iblk m c 2 t : Vec F S2x1024x256 .bf16) (iblk m c 3 t : Vec F S2x1024x256 .bf16) (iblk m c 4 t : Vec F S2x256x1024 .bf16)) (O (2 * t.val + 1)) (O (2 * t.val + 1) + N (2 * t.val + 1)) xs cs ow)
    (e : Fin 32) (he : e.val < 2 * (t.val % 16) + 2) : (seg m c O N b e).Done xs cs ow := by
  rcases Nat.lt_or_ge e.val (2 * (t.val % 16)) with h | h
  · exact hS _ ⟨e, h, rfl⟩
  · rcases Nat.eq_or_lt_of_le h with h | h
    · rw [wts0_at m c t e h.symm] at h0
      have e0 : 32 * b.val + e.val = 2 * t.val := by omega
      unfold seg; rw [e0]; exact h0
    · rw [wts1_at m c t e (by omega)] at h1
      have e0 : 32 * b.val + e.val = 2 * t.val + 1 := by omega
      unfold seg; rw [e0]; exact h1

/-- The body's first part at a grid point, on what the scratch buffers hold there. -/
theorem part_at (hT : Tab (V m c main_arg5 : Vec F S1024 .i32) (V m c main_arg6 : Vec F S1024 .i32) O N) (b : Fin 32) (hb : t.val / 16 = b.val) (h1 : k0_chk1 (BitVec.ofNat 32 (O (2 * t.val))) (BitVec.ofNat 32 (O (2 * t.val + 1))) (BitVec.ofNat 32 (N (2 * t.val)))) (h2 : k0_chk2 (BitVec.ofNat 32 (O (2 * t.val + 1))) (BitVec.ofNat 32 (N (2 * t.val))) (BitVec.ofNat 32 (N (2 * t.val + 1)))) (f12 : BufTy.Contents (Elt F) (Memref.whole cc0_scratch0 : Memref sig .tc .vmem S2688x1024 .bf16).view.ty) (f13 : BufTy.Contents (Elt F) (Memref.whole cc0_scratch1 : Memref sig .tc .vmem S2688x1024 .bf16).view.ty) (f14 : BufTy.Contents (Elt F) (Memref.whole cc0_scratch2 : Memref sig .tc .vmem S2688x1024 .bf16).view.ty) (f15 : BufTy.Contents (Elt F) (Memref.whole cc0_scratch3 : Memref sig .tc .vmem S2688x1 .f32).view.ty)
    (hI : Inv m c O N t.val ((Memref.whole cc0_scratch0 : Memref sig .tc .vmem S2688x1024 .bf16).view.read (Elt F) f12) ((Memref.whole cc0_scratch1 : Memref sig .tc .vmem S2688x1024 .bf16).view.read (Elt F) f13) ((Memref.whole cc0_scratch2 : Memref sig .tc .vmem S2688x1024 .bf16).view.read (Elt F) f14) ((Memref.whole cc0_scratch3 : Memref sig .tc .vmem S2688x1 .f32).view.read (Elt F) f15)) :
    (iprop(((Memref.whole main_arg5 : Memref sig .tc .smem S1024 .i32).view.loc (c : Thread nD τ) ↦[(Memref.whole main_arg5 : Memref sig .tc .smem S1024 .i32).view.set]{fullShare.right} (Memref.isWhole_whole main_arg5).unread (V m c main_arg5 : Vec F S1024 .i32)) ∗ ((Memref.whole main_arg6 : Memref sig .tc .smem S1024 .i32).view.loc (c : Thread nD τ) ↦[(Memref.whole main_arg6 : Memref sig .tc .smem S1024 .i32).view.set]{fullShare.right} (Memref.isWhole_whole main_arg6).unread (V m c main_arg6 : Vec F S1024 .i32)) ∗ ((ms0_0 m t).view.loc (c : Thread nD τ) ↦[(ms0_0 m t).view.set]{fullShare} (hs0_0 m t).unread (iblk m c 0 t : Vec F S1024x1024 .bf16)) ∗ ((ms0_1 m t).view.loc (c : Thread nD τ) ↦[(ms0_1 m t).view.set]{fullShare} (hs0_1 m t).unread (iblk m c 1 t : Vec F S1x8x1024 .f32)) ∗ ((Memref.whole cc0_scratch0 : Memref sig .tc .vmem S2688x1024 .bf16).view.loc (c : Thread nD τ) ↦[(Memref.whole cc0_scratch0 : Memref sig .tc .vmem S2688x1024 .bf16).view.set]{fullShare} f12) ∗ ((Memref.whole cc0_scratch1 : Memref sig .tc .vmem S2688x1024 .bf16).view.loc (c : Thread nD τ) ↦[(Memref.whole cc0_scratch1 : Memref sig .tc .vmem S2688x1024 .bf16).view.set]{fullShare} f13) ∗ ((Memref.whole cc0_scratch2 : Memref sig .tc .vmem S2688x1024 .bf16).view.loc (c : Thread nD τ) ↦[(Memref.whole cc0_scratch2 : Memref sig .tc .vmem S2688x1024 .bf16).view.set]{fullShare} f14) ∗ ((Memref.whole cc0_scratch3 : Memref sig .tc .vmem S2688x1 .f32).view.loc (c : Thread nD τ) ↦[(Memref.whole cc0_scratch3 : Memref sig .tc .vmem S2688x1 .f32).view.set]{fullShare} f15)) : sProp 𝕄) ⊢ wp frame (wpE (defs₀ (F := F)) Variants.none (c : Thread nD τ) none) Set.univ (k0_part7 (F := F) (grid0.coords t) (Memref.whole main_arg5) (Memref.isWhole_whole _) (Memref.whole main_arg6) (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (Memref.whole cc0_scratch0) (Memref.isWhole_whole _) (Memref.whole cc0_scratch1) (Memref.isWhole_whole _) (Memref.whole cc0_scratch2) (Memref.isWhole_whole _) (Memref.whole cc0_scratch3) (Memref.isWhole_whole _))
      (fun r => iprop(⌜∃ v31 v36 : BitVec 32, r = ⟨BitVec.ofNat 32 (grid0.coords t 1).val, BitVec.ofNat 32 (O (2 * t.val)), BitVec.ofNat 32 (O (2 * t.val + 1)), BitVec.ofNat 32 (N (2 * t.val)), h1, v31, BitVec.ofNat 32 (N (2 * t.val + 1)), h2, v36, 128#32⟩⌝ ∗ iprop(((Memref.whole main_arg5 : Memref sig .tc .smem S1024 .i32).view.loc (c : Thread nD τ) ↦[(Memref.whole main_arg5 : Memref sig .tc .smem S1024 .i32).view.set]{fullShare.right} (Memref.isWhole_whole main_arg5).unread (V m c main_arg5 : Vec F S1024 .i32)) ∗ ((Memref.whole main_arg6 : Memref sig .tc .smem S1024 .i32).view.loc (c : Thread nD τ) ↦[(Memref.whole main_arg6 : Memref sig .tc .smem S1024 .i32).view.set]{fullShare.right} (Memref.isWhole_whole main_arg6).unread (V m c main_arg6 : Vec F S1024 .i32)) ∗ ((ms0_0 m t).view.loc (c : Thread nD τ) ↦[(ms0_0 m t).view.set]{fullShare} (hs0_0 m t).unread (iblk m c 0 t : Vec F S1024x1024 .bf16)) ∗ ((ms0_1 m t).view.loc (c : Thread nD τ) ↦[(ms0_1 m t).view.set]{fullShare} (hs0_1 m t).unread (iblk m c 1 t : Vec F S1x8x1024 .f32)))
        ∗ (∃ f12 f13 f14 f15, ((Memref.whole cc0_scratch0 : Memref sig .tc .vmem S2688x1024 .bf16).view.loc (c : Thread nD τ) ↦[(Memref.whole cc0_scratch0 : Memref sig .tc .vmem S2688x1024 .bf16).view.set]{fullShare} f12) ∗ ((Memref.whole cc0_scratch1 : Memref sig .tc .vmem S2688x1024 .bf16).view.loc (c : Thread nD τ) ↦[(Memref.whole cc0_scratch1 : Memref sig .tc .vmem S2688x1024 .bf16).view.set]{fullShare} f13) ∗ ((Memref.whole cc0_scratch2 : Memref sig .tc .vmem S2688x1024 .bf16).view.loc (c : Thread nD τ) ↦[(Memref.whole cc0_scratch2 : Memref sig .tc .vmem S2688x1024 .bf16).view.set]{fullShare} f14) ∗ ((Memref.whole cc0_scratch3 : Memref sig .tc .vmem S2688x1 .f32).view.loc (c : Thread nD τ) ↦[(Memref.whole cc0_scratch3 : Memref sig .tc .vmem S2688x1 .f32).view.set]{fullShare} f15) ∗ ⌜Filled (iblk m c 1 t : Vec F S1x8x1024 .f32) (iblk m c 0 t : Vec F S1024x1024 .bf16) ((Memref.whole cc0_scratch0 : Memref sig .tc .vmem S2688x1024 .bf16).view.read (Elt F) f12) ((Memref.whole cc0_scratch1 : Memref sig .tc .vmem S2688x1024 .bf16).view.read (Elt F) f13) ((Memref.whole cc0_scratch3 : Memref sig .tc .vmem S2688x1 .f32).view.read (Elt F) f15) ∧ ∀ s ∈ gone m c t O N b, s.Done ((Memref.whole cc0_scratch1 : Memref sig .tc .vmem S2688x1024 .bf16).view.read (Elt F) f13) ((Memref.whole cc0_scratch3 : Memref sig .tc .vmem S2688x1 .f32).view.read (Elt F) f15) ((Memref.whole cc0_scratch2 : Memref sig .tc .vmem S2688x1024 .bf16).view.read (Elt F) f14)⌝))) := by
  have a1 : ∀ y : S1024.Idx, (y 0).val = k0_off1 (grid0.coords t) 0 → (V m c main_arg5 : Vec F S1024 .i32) y = BitVec.ofNat 32 (O (2 * t.val)) := fun y h => by rw [hT.off, h, (off_table t).1]
  have a2 : ∀ y : S1024.Idx, (y 0).val = k0_off2 (grid0.coords t) 0 → (V m c main_arg5 : Vec F S1024 .i32) y = BitVec.ofNat 32 (O (2 * t.val + 1)) := fun y h => by rw [hT.off, h, (off_table t).2]
  have a3 : ∀ y : S1024.Idx, (y 0).val = k0_off1 (grid0.coords t) 0 → (V m c main_arg6 : Vec F S1024 .i32) y = BitVec.ofNat 32 (N (2 * t.val)) := fun y h => by rw [hT.cnt, h, (off_table t).1]
  have a4 : ∀ y : S1024.Idx, (y 0).val = k0_off2 (grid0.coords t) 0 → (V m c main_arg6 : Vec F S1024 .i32) y = BitVec.ofNat 32 (N (2 * t.val + 1)) := fun y h => by rw [hT.cnt, h, (off_table t).2]
  by_cases h0 : t.val % 16 = 0
  · refine (part_first c (grid0.coords t) (Memref.whole main_arg5) (Memref.isWhole_whole _) (Memref.whole main_arg6) (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (Memref.whole cc0_scratch0) (Memref.isWhole_whole _) (Memref.whole cc0_scratch1) (Memref.isWhole_whole _) (Memref.whole cc0_scratch2) (Memref.isWhole_whole _) (Memref.whole cc0_scratch3) (Memref.isWhole_whole _) _ _ (iblk m c 0 t : Vec F S1024x1024 .bf16) (iblk m c 1 t : Vec F S1x8x1024 .f32) fullShare.right fullShare.right Set.univ _ _ _ _ h1 h2 a1 a2 a3 a4 ((first_table t).2 h0) f12 f13 f14 f15).trans (wp_mono _ _ _ fun r => ?_)
    iintro ⟨%hr, H2, H3, H4, H5, %g12, %g13, %g14, %g15, H12, H13, H14, H15, %hF⟩
    isplitr; · ipureintro; exact hr
    isplitl [H2 H3 H4 H5]
    · isplitl [H2]; · iexact H2
      isplitl [H3]; · iexact H3
      isplitl [H4]; · iexact H4
      iexact H5
    iexists g12; iexists g13; iexists g14; iexists g15
    isplitl [H12]; · iexact H12
    isplitl [H13]; · iexact H13
    isplitl [H14]; · iexact H14
    isplitl [H15]; · iexact H15
    ipureintro
    exact ⟨hF, fun s ⟨e, he, _⟩ => absurd he (by omega)⟩
  · iintro ⟨H2, H3, H4, H5, H12, H13, H14, H15⟩
    iapply wp_wand_r
    isplitl [H2 H3]
    · iapply (part_later c (grid0.coords t) (Memref.whole main_arg5) (Memref.isWhole_whole _) (Memref.whole main_arg6) (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (Memref.whole cc0_scratch0) (Memref.isWhole_whole _) (Memref.whole cc0_scratch1) (Memref.isWhole_whole _) (Memref.whole cc0_scratch2) (Memref.isWhole_whole _) (Memref.whole cc0_scratch3) (Memref.isWhole_whole _) _ _ fullShare.right fullShare.right Set.univ _ _ _ _ h1 h2 a1 a2 a3 a4 (fun h => h0 ((first_table t).1 h)))
      isplitl [H2]; · iexact H2
      iexact H3
    iintro %r ⟨%hr, H2, H3⟩
    isplitr; · ipureintro; exact hr
    isplitl [H2 H3 H4 H5]
    · isplitl [H2]; · iexact H2
      isplitl [H3]; · iexact H3
      isplitl [H4]; · iexact H4
      iexact H5
    iexists f12; iexists f13; iexists f14; iexists f15
    isplitl [H12]; · iexact H12
    isplitl [H13]; · iexact H13
    isplitl [H14]; · iexact H14
    isplitl [H15]; · iexact H15
    ipureintro
    rw [blk0_at m c t b hb, blk1_at m c t b hb]
    exact ⟨(hI h0 b hb).1, fun s ⟨e, he, hs⟩ => hs ▸ (hI h0 b hb).2 e he⟩

/-- The tracked state before a grid point. -/
def Phi (k : ℕ) : sProp 𝕄 :=
  iprop(owns (c : Thread nD τ) (Memref.whole main_arg5 : Memref sig .tc .smem S1024 .i32) fullShare.right (V m c main_arg5 : Vec F S1024 .i32) ∗ owns (c : Thread nD τ) (Memref.whole main_arg6 : Memref sig .tc .smem S1024 .i32) fullShare.right (V m c main_arg6 : Vec F S1024 .i32) ∗ (∃ r, prngReg (c : Dev nD) r)
    ∗ ∃ (pm xs ow : Vec F S2688x1024 .bf16) (cs : Vec F S2688x1 .f32), owns (c : Thread nD τ) (Memref.whole cc0_scratch0 : Memref sig .tc .vmem S2688x1024 .bf16) fullShare pm ∗ owns (c : Thread nD τ) (Memref.whole cc0_scratch1 : Memref sig .tc .vmem S2688x1024 .bf16) fullShare xs ∗ owns (c : Thread nD τ) (Memref.whole cc0_scratch2 : Memref sig .tc .vmem S2688x1024 .bf16) fullShare ow ∗ owns (c : Thread nD τ) (Memref.whole cc0_scratch3 : Memref sig .tc .vmem S2688x1 .f32) fullShare cs ∗ ⌜Inv m c O N k pm xs ow cs⌝)

set_option maxHeartbeats 1600000 in
/-- The body at a grid point. -/
theorem point (hT : Tab (V m c main_arg5 : Vec F S1024 .i32) (V m c main_arg6 : Vec F S1024 .i32) O N) :
    iprop(Phi m c O N t.val ∗ owns (c : Thread nD τ) (ms0_0 m t) fullShare (iblk m c 0 t : Vec F S1024x1024 .bf16) ∗ owns (c : Thread nD τ) (ms0_1 m t) fullShare (iblk m c 1 t : Vec F S1x8x1024 .f32) ∗ owns (c : Thread nD τ) (ms0_2 m t) fullShare (iblk m c 2 t : Vec F S2x1024x256 .bf16) ∗ owns (c : Thread nD τ) (ms0_3 m t) fullShare (iblk m c 3 t : Vec F S2x1024x256 .bf16) ∗ owns (c : Thread nD τ) (ms0_4 m t) fullShare (iblk m c 4 t : Vec F S2x256x1024 .bf16) ∗ owns (c : Thread nD τ) (ms0_5 m t) fullShare (iblk m c 5 t : Vec F S1024x1024 .f32) ∗ owns (c : Thread nD τ) (ms0_6 m t) fullShare (iblk m c 6 t : Vec F S1x1024 .f32) ∗ ∃ Y, owns (c : Thread nD τ) (ms0_7 m t) fullShare Y)
      ⊢ wp frame (wpE (defs₀ (F := F)) Variants.none (c : Thread nD τ) none) Set.univ (cc0_moe (F := F) (grid0.coords t) (Memref.whole main_arg5) (Memref.isWhole_whole _) (Memref.whole main_arg6) (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (Memref.whole cc0_scratch0) (Memref.isWhole_whole _) (Memref.whole cc0_scratch1) (Memref.isWhole_whole _) (Memref.whole cc0_scratch2) (Memref.isWhole_whole _) (Memref.whole cc0_scratch3) (Memref.isWhole_whole _)) fun _ =>
        iprop(Phi m c O N (t.val + 1) ∗ owns (c : Thread nD τ) (ms0_0 m t) fullShare (iblk m c 0 t : Vec F S1024x1024 .bf16) ∗ owns (c : Thread nD τ) (ms0_1 m t) fullShare (iblk m c 1 t : Vec F S1x8x1024 .f32) ∗ owns (c : Thread nD τ) (ms0_2 m t) fullShare (iblk m c 2 t : Vec F S2x1024x256 .bf16) ∗ owns (c : Thread nD τ) (ms0_3 m t) fullShare (iblk m c 3 t : Vec F S2x1024x256 .bf16) ∗ owns (c : Thread nD τ) (ms0_4 m t) fullShare (iblk m c 4 t : Vec F S2x256x1024 .bf16) ∗ owns (c : Thread nD τ) (ms0_5 m t) fullShare (iblk m c 5 t : Vec F S1024x1024 .f32) ∗ owns (c : Thread nD τ) (ms0_6 m t) fullShare (iblk m c 6 t : Vec F S1x1024 .f32) ∗ ∃ X, ⌜Left m c O N t.val X⌝ ∗ owns (c : Thread nD τ) (ms0_7 m t) fullShare X) := by
  have ht := point_lt m t
  obtain ⟨b, hb⟩ : ∃ b : Fin 32, t.val / 16 = b.val := ⟨⟨t.val / 16, by omega⟩, rfl⟩
  have l0 := hT.le (2 * t.val) (by omega)
  have l1 := hT.le (2 * t.val + 1) (by omega)
  have ln := hT.next (2 * t.val) (by omega) (by omega)
  have d0 := hT.al (2 * t.val) (by omega)
  have d1 := hT.al (2 * t.val + 1) (by omega)
  have h1 := chk1_at (O (2 * t.val)) (O (2 * t.val + 1)) (N (2 * t.val)) d0 d1 l0 (by omega)
  have h2 := chk2_at (O (2 * t.val + 1)) (N (2 * t.val)) (N (2 * t.val + 1)) d1 l1
  have hS : ∀ s ∈ gone m c t O N b, s.2.2 ≤ O (2 * t.val) := by
    rintro s ⟨e, he, rfl⟩
    have := hT.before b.val b.isLt e.val (2 * (t.val % 16) - 1 - e.val) (by omega)
    have e0 : 32 * b.val + (e.val + (2 * (t.val % 16) - 1 - e.val) + 1) = 2 * t.val := by omega
    rw [e0] at this
    exact this
  unfold Phi owns
  iintro ⟨⟨⟨%f2, %h2', H2⟩, ⟨%f3, %h3', H3⟩, Hg, %pm, %xs, %ow, %cs, ⟨%f12, %e12, H12⟩, ⟨%f13, %e13, H13⟩, ⟨%f14, %e14, H14⟩, ⟨%f15, %e15, H15⟩, %hI⟩, ⟨%g0, %hf0, H4⟩, ⟨%g1, %hf1, H5⟩, ⟨%g2, %hf2, H6⟩, ⟨%g3, %hf3, H7⟩, ⟨%g4, %hf4, H8⟩, ⟨%g5, %hf5, H9⟩, ⟨%g6, %hf6, H10⟩, ⟨%Y, %f11, %hf7, H11⟩⟩
  obtain rfl := (Memref.isWhole_whole main_arg5).eq_unread h2'
  obtain rfl := (Memref.isWhole_whole main_arg6).eq_unread h3'
  obtain rfl := (hs0_0 m t).eq_unread hf0
  obtain rfl := (hs0_1 m t).eq_unread hf1
  obtain rfl := (hs0_2 m t).eq_unread hf2
  obtain rfl := (hs0_3 m t).eq_unread hf3
  obtain rfl := (hs0_4 m t).eq_unread hf4
  obtain rfl := (hs0_5 m t).eq_unread hf5
  obtain rfl := (hs0_6 m t).eq_unread hf6
  subst e12 e13 e14 e15
  iapply wp_wand_r
  isplitl [H2 H3 H4 H5 H6 H7 H8 H9 H10 H11 H12 H13 H14 H15]
  · iapply (body_of c (grid0.coords t) (Memref.whole main_arg5) (Memref.isWhole_whole _) (Memref.whole main_arg6) (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t : Vec F S1024x1024 .bf16) (iblk m c 1 t : Vec F S1x8x1024 .f32) (iblk m c 2 t : Vec F S2x1024x256 .bf16) (iblk m c 3 t : Vec F S2x1024x256 .bf16) (iblk m c 4 t : Vec F S2x256x1024 .bf16) (iblk m c 5 t : Vec F S1024x1024 .f32) (iblk m c 6 t : Vec F S1x1024 .f32) Set.univ _ _ _ _ h1 h2 ln l0 l1 (gone m c t O N b) hS f11 _ _ (part_at m c t O N hT b hb h1 h2 f12 f13 f14 f15 hI))
    isplitl [H2 H3 H4 H5 H12 H13 H14 H15]
    · isplitl [H2]; · iexact H2
      isplitl [H3]; · iexact H3
      isplitl [H4]; · iexact H4
      isplitl [H5]; · iexact H5
      isplitl [H12]; · iexact H12
      isplitl [H13]; · iexact H13
      isplitl [H14]; · iexact H14
      iexact H15
    isplitl [H6]; · iexact H6
    isplitl [H7]; · iexact H7
    isplitl [H8]; · iexact H8
    isplitl [H9]; · iexact H9
    isplitl [H10]; · iexact H10
    iexact H11
  iintro %_ ⟨⟨H2, H3, H4, H5⟩, H6, H7, H8, H9, H10, %k11, %k12, %k13, %k14, %k15, H11, H12, H13, H14, H15, %hG⟩
  obtain ⟨hF, hgone, hd0, hd1, hout⟩ := hG
  have hn := done_next m c t O N b hb _ _ _ hgone hd0 hd1
  rw [blk0_at m c t b hb, blk1_at m c t b hb] at hF
  isplitl [H2 H3 Hg H12 H13 H14 H15]
  · isplitl [H2]
    · iexists _; isplitr; swap; · iexact H2
      ipureintro; exact h2'
    isplitl [H3]
    · iexists _; isplitr; swap; · iexact H3
      ipureintro; exact h3'
    isplitl [Hg]; · iexact Hg
    iexists _; iexists _; iexists _; iexists _
    isplitl [H12]
    · iexists _; isplitr; swap; · iexact H12
      ipureintro; rfl
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    ipureintro
    intro hk b' hb'
    obtain rfl : b' = b := Fin.ext (by omega)
    exact ⟨hF, fun e he => hn e (by omega)⟩
  isplitl [H4]
  · iexists _; isplitr; swap; · iexact H4
    ipureintro; exact hf0
  isplitl [H5]
  · iexists _; isplitr; swap; · iexact H5
    ipureintro; exact hf1
  isplitl [H6]
  · iexists _; isplitr; swap; · iexact H6
    ipureintro; exact hf2
  isplitl [H7]
  · iexists _; isplitr; swap; · iexact H7
    ipureintro; exact hf3
  isplitl [H8]
  · iexists _; isplitr; swap; · iexact H8
    ipureintro; exact hf4
  isplitl [H9]
  · iexists _; isplitr; swap; · iexact H9
    ipureintro; exact hf5
  isplitl [H10]
  · iexists _; isplitr; swap; · iexact H10
    ipureintro; exact hf6
  iexists _
  isplitr; swap
  · iexists _; isplitr; swap; · iexact H11
    ipureintro; rfl
  ipureintro
  intro hk b' hb'
  obtain rfl : b' = b := Fin.ext (by omega)
  refine ⟨_, _, _, _, hF, fun e => hn e (by have := e.isLt; omega), ?_⟩
  rw [hout ((last_table t).2 hk), blk5_at m c t b' hb, blk6_at m c t]

end Cert.Proof.Moe

end
-- ==== Proof.MoeLaunch.lean ====
/-
  The experts' kernel launched: the frame, and the run with what its result array holds.
-/
module

public import proofs.«01_k».proof.Proof.MoeRun
public import Idealize.ShloMosaic.Lib.Pipeline.DatRel
public import Idealize.ShloMosaic.Lib.Pipeline.ArrRel

@[expose] public section

set_option maxRecDepth 16384

noncomputable section

namespace Cert.Proof.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (O N : ℕ → ℕ)

/-- The pipeline's proof data: the inputs' blocks stay; of the result's, see `Held`. -/
def dats (c : Dev nD) : Dat τ (Elt F) Unit ℕ (UR sig nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ k := Phi m c O N k.val
  q _ := fullShare
  owed _ := 0

/-- Only the result's window is held to a predicate. -/
def marked : Fin (cfgA m).W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true

def Held (c : Dev nD) (w : Fin (cfgA m).W) (t : Fin (cfgA m).N) (X : ((cfgA m).win w).block.Idx → Elt F ((cfgA m).win w).elt) : Prop := match w, X with
  | ⟨0, _⟩, _ => True
  | ⟨1, _⟩, _ => True
  | ⟨2, _⟩, _ => True
  | ⟨3, _⟩, _ => True
  | ⟨4, _⟩, _ => True
  | ⟨5, _⟩, _ => True
  | ⟨6, _⟩, _ => True
  | ⟨7, _⟩, X => Left m c O N t.val X

theorem A_eq (c : Dev nD) (w : Fin (cfgA m).W) : (dats m O N c).A w = V m c (Pipeline.arrRef spec0 w) := by
  dsimp only [dats]

theorem before_0 (c : Dev nD) (t : Fin (cfgA m).N) (d) : (dats m O N c).before 0 t d = iblk m c 0 t :=
  ((dats m O N c).before_in_eq_fetched 0 rfl (fun _ => rfl) (fun _ _ _ => rfl) (fun t => by rw [show (dats m O N c).after 0 t = iblk m c 0 t from rfl]; unfold Dat.blockOf iblk; rw [A_eq]; try rfl) t d).trans
    (by unfold Dat.fetched Dat.blockOf iblk; rw [A_eq]; try rfl)
theorem before_1 (c : Dev nD) (t : Fin (cfgA m).N) (d) : (dats m O N c).before 1 t d = iblk m c 1 t :=
  ((dats m O N c).before_in_eq_fetched 1 rfl (fun _ => rfl) (fun _ _ _ => rfl) (fun t => by rw [show (dats m O N c).after 1 t = iblk m c 1 t from rfl]; unfold Dat.blockOf iblk; rw [A_eq]; try rfl) t d).trans
    (by unfold Dat.fetched Dat.blockOf iblk; rw [A_eq]; try rfl)
theorem before_2 (c : Dev nD) (t : Fin (cfgA m).N) (d) : (dats m O N c).before 2 t d = iblk m c 2 t :=
  ((dats m O N c).before_in_eq_fetched 2 rfl (fun _ => rfl) (fun _ _ _ => rfl) (fun t => by rw [show (dats m O N c).after 2 t = iblk m c 2 t from rfl]; unfold Dat.blockOf iblk; rw [A_eq]; try rfl) t d).trans
    (by unfold Dat.fetched Dat.blockOf iblk; rw [A_eq]; try rfl)
theorem before_3 (c : Dev nD) (t : Fin (cfgA m).N) (d) : (dats m O N c).before 3 t d = iblk m c 3 t :=
  ((dats m O N c).before_in_eq_fetched 3 rfl (fun _ => rfl) (fun _ _ _ => rfl) (fun t => by rw [show (dats m O N c).after 3 t = iblk m c 3 t from rfl]; unfold Dat.blockOf iblk; rw [A_eq]; try rfl) t d).trans
    (by unfold Dat.fetched Dat.blockOf iblk; rw [A_eq]; try rfl)
theorem before_4 (c : Dev nD) (t : Fin (cfgA m).N) (d) : (dats m O N c).before 4 t d = iblk m c 4 t :=
  ((dats m O N c).before_in_eq_fetched 4 rfl (fun _ => rfl) (fun _ _ _ => rfl) (fun t => by rw [show (dats m O N c).after 4 t = iblk m c 4 t from rfl]; unfold Dat.blockOf iblk; rw [A_eq]; try rfl) t d).trans
    (by unfold Dat.fetched Dat.blockOf iblk; rw [A_eq]; try rfl)
theorem before_5 (c : Dev nD) (t : Fin (cfgA m).N) (d) : (dats m O N c).before 5 t d = iblk m c 5 t :=
  ((dats m O N c).before_in_eq_fetched 5 rfl (fun _ => rfl) (fun _ _ _ => rfl) (fun t => by rw [show (dats m O N c).after 5 t = iblk m c 5 t from rfl]; unfold Dat.blockOf iblk; rw [A_eq]; try rfl) t d).trans
    (by unfold Dat.fetched Dat.blockOf iblk; rw [A_eq]; try rfl)
theorem before_6 (c : Dev nD) (t : Fin (cfgA m).N) (d) : (dats m O N c).before 6 t d = iblk m c 6 t :=
  ((dats m O N c).before_in_eq_fetched 6 rfl (fun _ => rfl) (fun _ _ _ => rfl) (fun t => by rw [show (dats m O N c).after 6 t = iblk m c 6 t from rfl]; unfold Dat.blockOf iblk; rw [A_eq]; try rfl) t d).trans
    (by unfold Dat.fetched Dat.blockOf iblk; rw [A_eq]; try rfl)

/-- The body at a grid point, as the pipeline calls it. -/
abbrev bodyAt (t : Fin (cfgA m).N) : Prog (TpuEff nD τ sig (Elt F) Λ₀ .tc) PUnit :=
  cc0_moe (F := F) (grid0.coords t) (Memref.whole main_arg5) (Memref.isWhole_whole _) (Memref.whole main_arg6) (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t) (ms0_6 m t) (hs0_6 m t) (ms0_7 m t) (hs0_7 m t) (Memref.whole cc0_scratch0) (Memref.isWhole_whole _) (Memref.whole cc0_scratch1) (Memref.isWhole_whole _) (Memref.whole cc0_scratch2) (Memref.isWhole_whole _) (Memref.whole cc0_scratch3) (Memref.isWhole_whole _)

theorem defs₀_row (t : Fin (cfgA m).N) :
    defs₀ (F := F) .tc (cfgA m).body ((cfgA m).bodyArgs t ((cfgA m).slots t)) = bodyAt m t := by
  unfold defs₀; rw [Defs.onTc_tc]

def bodyPre (c : Dev nD) (t : Fin (cfgA m).N) : sProp 𝕄 :=
  iprop((dats m O N c).Φ t.castSucc ∗ (dats m O N c).owesAt () t.castSucc
    ∗ (∃ d, owns (c : Thread nD τ) (ms0_0 m t) fullShare ((dats m O N c).before 0 t d))
    ∗ (∃ d, owns (c : Thread nD τ) (ms0_1 m t) fullShare ((dats m O N c).before 1 t d))
    ∗ (∃ d, owns (c : Thread nD τ) (ms0_2 m t) fullShare ((dats m O N c).before 2 t d))
    ∗ (∃ d, owns (c : Thread nD τ) (ms0_3 m t) fullShare ((dats m O N c).before 3 t d))
    ∗ (∃ d, owns (c : Thread nD τ) (ms0_4 m t) fullShare ((dats m O N c).before 4 t d))
    ∗ (∃ d, owns (c : Thread nD τ) (ms0_5 m t) fullShare ((dats m O N c).before 5 t d))
    ∗ (∃ d, owns (c : Thread nD τ) (ms0_6 m t) fullShare ((dats m O N c).before 6 t d))
    ∗ (∃ Y, ⌜((dats m O N c).toRRel (marked m) (Held m O N c)).Finds 7 t Y⌝ ∗ owns (c : Thread nD τ) (ms0_7 m t) fullShare Y))

def bodyPost (c : Dev nD) (t : Fin (cfgA m).N) : sProp 𝕄 :=
  iprop((dats m O N c).Φ t.succ ∗ (dats m O N c).owesAt () t.succ
    ∗ owns (c : Thread nD τ) (ms0_0 m t) fullShare ((dats m O N c).after 0 t)
    ∗ owns (c : Thread nD τ) (ms0_1 m t) fullShare ((dats m O N c).after 1 t)
    ∗ owns (c : Thread nD τ) (ms0_2 m t) fullShare ((dats m O N c).after 2 t)
    ∗ owns (c : Thread nD τ) (ms0_3 m t) fullShare ((dats m O N c).after 3 t)
    ∗ owns (c : Thread nD τ) (ms0_4 m t) fullShare ((dats m O N c).after 4 t)
    ∗ owns (c : Thread nD τ) (ms0_5 m t) fullShare ((dats m O N c).after 5 t)
    ∗ owns (c : Thread nD τ) (ms0_6 m t) fullShare ((dats m O N c).after 6 t)
    ∗ (∃ X, ⌜Held m O N c 7 t X⌝ ∗ owns (c : Thread nD τ) (ms0_7 m t) fullShare X))

theorem Phi_at (c : Dev nD) (k : Fin ((cfgA m).N + 1)) : (dats m O N c).Φ k = Phi m c O N k.val := rfl

set_option maxHeartbeats 1600000 in
theorem sound_body (c : Dev nD) (t : Fin (cfgA m).N) (hT : Tab (V m c main_arg5 : Vec F S1024 .i32) (V m c main_arg6 : Vec F S1024 .i32) O N) :
    bodyPre m O N c t ⊢ wp frame (wpE (defs₀ (F := F)) Variants.none (c : Thread nD τ) none) Set.univ (bodyAt m t) (fun _ => bodyPost m O N c t) := by
  unfold bodyPre bodyPost
  simp only [before_0, before_1, before_2, before_3, before_4, before_5, before_6]
  rw [Phi_at, Phi_at, Fin.val_succ, Fin.val_castSucc,
    show (dats m O N c).owesAt () t.succ = (dats m O N c).owesAt () t.castSucc from rfl,
    show (dats m O N c).after 0 t = iblk m c 0 t from rfl, show (dats m O N c).after 1 t = iblk m c 1 t from rfl, show (dats m O N c).after 2 t = iblk m c 2 t from rfl, show (dats m O N c).after 3 t = iblk m c 3 t from rfl, show (dats m O N c).after 4 t = iblk m c 4 t from rfl, show (dats m O N c).after 5 t = iblk m c 5 t from rfl, show (dats m O N c).after 6 t = iblk m c 6 t from rfl]
  iintro ⟨HP, Ho, ⟨%_, H0⟩, ⟨%_, H1⟩, ⟨%_, H2⟩, ⟨%_, H3⟩, ⟨%_, H4⟩, ⟨%_, H5⟩, ⟨%_, H6⟩, ⟨%Y, %_, H7⟩⟩
  iapply wp_wand_r
  isplitl [HP H0 H1 H2 H3 H4 H5 H6 H7]
  · iapply (point m c t O N hT)
    isplitl [HP]; · iexact HP
    isplitl [H0]; · iexact H0
    isplitl [H1]; · iexact H1
    isplitl [H2]; · iexact H2
    isplitl [H3]; · iexact H3
    isplitl [H4]; · iexact H4
    isplitl [H5]; · iexact H5
    isplitl [H6]; · iexact H6
    iexists Y; iexact H7
  iintro %_ ⟨HP, H0, H1, H2, H3, H4, H5, H6, %X, %hX, H7⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X
  isplitr; · ipureintro; exact hX
  iexact H7

set_option maxHeartbeats 1600000 in
theorem obligation (c : Dev nD) (hT : Tab (V m c main_arg5 : Vec F S1024 .i32) (V m c main_arg6 : Vec F S1024 .i32) O N) :
    BodyObligationRel (dats m O N c) (defs₀ (F := F)) Variants.none () Set.univ (marked m) (Held m O N c) := fun t => by
  rw [bigSep_W0, bigSep_W0, defs₀_row]
  exact triple_restated (sound_body m O N c t hT) rfl .rfl fun _ => .rfl

/-- The tables, each whole at half its share. -/
theorem tables_eq (c : Dev nD) : (Pipeline.ΦT pre0 (adm m 0).1 c : sProp 𝕄)
    = iprop((((c : Thread nD τ).loc main_arg5) ↦{fullShare.right} (adm m 0).1 0) ∗ (((c : Thread nD τ).loc main_arg6) ↦{fullShare.right} (adm m 0).1 1)) :=
  bigSep_univ_eq_bigSepL [(0 : Fin 2), (1 : Fin 2)] (by decide) (by decide) _

theorem enter (c : Dev nD) : (iprop(Pipeline.ΦA spec0 c ∗ Pipeline.ΦT pre0 (adm m 0).1 c) : sProp 𝕄) ⊢ Phi m c O N 0 := by
  obtain rfl : c = 0 := Subsingleton.elim _ _
  unfold Pipeline.ΦA
  rw [scopedRest0_eq, tables_eq]
  unfold Phi
  simp only [owns_whole]
  iintro ⟨⟨⟨⟨%f0, H0⟩, ⟨%f1, H1⟩, ⟨%f2, H2⟩, ⟨%f3, H3⟩⟩, Hg⟩, Ht, Hu⟩
  isplitl [Ht]; · iexact Ht
  isplitl [Hu]; · iexact Hu
  isplitl [Hg]; · iexact Hg
  iexists f0; iexists f1; iexists f2; iexists f3
  isplitl [H0]; · iexact H0
  isplitl [H1]; · iexact H1
  isplitl [H2]; · iexact H2
  isplitl [H3]; · iexact H3
  ipureintro
  intro h; exact absurd rfl h

theorem leave (c : Dev nD) (k : ℕ) : Phi m c O N k ⊢ (Pipeline.ΦA spec0 c : sProp 𝕄) := by
  unfold Pipeline.ΦA
  rw [scopedRest0_eq]
  unfold Phi
  simp only [owns_whole]
  iintro ⟨_, _, Hg, %pm, %xs, %ow, %cs, H0, H1, H2, H3, _⟩
  isplitr [Hg]
  · isplitl [H0]; · iexists pm; iexact H0
    isplitl [H1]; · iexists xs; iexact H1
    isplitl [H2]; · iexists ow; iexact H2
    iexists cs; iexact H3
  iexact Hg

abbrev rdat (c : Dev nD) : RDat τ (Elt F) Unit ℕ (UR sig nD τ) ℕ (cfgA m) c := (dats m O N c).toRRel (marked m) (Held m O N c)

set_option backward.isDefEq.respectTransparency.types false in
/-- The launch. -/
theorem launched (hT : ∀ c : Dev nD, Tab (V m c main_arg5 : Vec F S1024 .i32) (V m c main_arg6 : Vec F S1024 .i32) O N) :
    θ_run defs (onTc (τ := τ) (main (F := F))) (s₀ m ρ) (fun r => RDat.FramePost (cfgA m) (rdat m O N) (V m) r ∧ r.2.sem = fun _ => 0) :=
  Pipeline.RDat.θ_run_frameP_track (Q' := _) pcfgs (adm m) (0 : Fin 1) launch0 defs₀ Variants.none (rdat m O N) m ρ main
    (hbody := fun c => (obligation m O N c (hT c)).toRRel) (hshare := fun c => (dats m O N c).share_full fun _ => rfl)
    (howed := fun _ _ => rfl) (V := V m) (hmain := hmain m Variants.none) (hA := A_eq m O N)
    (hpf := fun c k => by obtain rfl : c = 0 := Subsingleton.elim _ _; rfl) (hin := enter m O N) (hout := fun c => leave m O N c _)

end Cert.Proof.Moe

end
-- ==== Proof.MoeFrame.lean ====
/-
  The experts' call leaves its arguments as they were.
-/
module

public import proofs.«01_k».proof.Proof.MoeLaunch

@[expose] public section

set_option maxRecDepth 16384

noncomputable section

namespace Cert.Proof.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (O N : ℕ → ℕ)

theorem unchanged (hT : ∀ c : Dev nD, Tab (V m c main_arg5 : Vec F S1024 .i32) (V m c main_arg6 : Vec F S1024 .i32) O N) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    refine ⟨?_, ?_, ?_, ?_, ?_, ?_, ?_, ?_, ?_, ?_, ?_⟩
    · exact ((h.1 c).2 main_arg0 (Pipeline.mem_restRefs_of main_arg0 (by decide) (show ∀ w, (spec0 w).arr.view.ref ≠ main_arg0 by decide))).trans (V_arg m c main_arg0 (by decide))
    · exact (Pipeline.RDat.FramePost.arr_in h.1 c 5 rfl).trans (V_arg m c main_arg1 (by decide))
    · exact ((h.1 c).2 main_arg2 (Pipeline.mem_restRefs_of main_arg2 (by decide) (show ∀ w, (spec0 w).arr.view.ref ≠ main_arg2 by decide))).trans (V_arg m c main_arg2 (by decide))
    · exact ((h.1 c).2 main_arg3 (Pipeline.mem_restRefs_of main_arg3 (by decide) (show ∀ w, (spec0 w).arr.view.ref ≠ main_arg3 by decide))).trans (V_arg m c main_arg3 (by decide))
    · exact ((h.1 c).2 main_arg4 (Pipeline.mem_restRefs_of main_arg4 (by decide) (show ∀ w, (spec0 w).arr.view.ref ≠ main_arg4 by decide))).trans (V_arg m c main_arg4 (by decide))
    · exact ((h.1 c).2 main_arg5 (Pipeline.mem_restRefs_of main_arg5 (by decide) (show ∀ w, (spec0 w).arr.view.ref ≠ main_arg5 by decide))).trans (V_arg m c main_arg5 (by decide))
    · exact ((h.1 c).2 main_arg6 (Pipeline.mem_restRefs_of main_arg6 (by decide) (show ∀ w, (spec0 w).arr.view.ref ≠ main_arg6 by decide))).trans (V_arg m c main_arg6 (by decide))
    · exact ((h.1 c).2 main_arg7 (Pipeline.mem_restRefs_of main_arg7 (by decide) (show ∀ w, (spec0 w).arr.view.ref ≠ main_arg7 by decide))).trans (V_arg m c main_arg7 (by decide))
    · exact ((h.1 c).2 main_arg8 (Pipeline.mem_restRefs_of main_arg8 (by decide) (show ∀ w, (spec0 w).arr.view.ref ≠ main_arg8 by decide))).trans (V_arg m c main_arg8 (by decide))
    · exact ((h.1 c).2 main_arg9 (Pipeline.mem_restRefs_of main_arg9 (by decide) (show ∀ w, (spec0 w).arr.view.ref ≠ main_arg9 by decide))).trans (V_arg m c main_arg9 (by decide))
    · exact ((h.1 c).2 main_arg10 (Pipeline.mem_restRefs_of main_arg10 (by decide) (show ∀ w, (spec0 w).arr.view.ref ≠ main_arg10 by decide))).trans (V_arg m c main_arg10 (by decide))
    ) (launched m ρ O N hT)

/-- THE FRAME. -/
theorem framed (hT : ∀ c : Dev nD, Tab (V m c main_arg5 : Vec F S1024 .i32) (V m c main_arg6 : Vec F S1024 .i32) O N) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ O N hT) ((θ_run defs _ _).mono (fun _ h => h.2) (launched m ρ O N hT))

end Cert.Proof.Moe

end
-- ==== Proof.MoePre.lean ====
/-
  What the precondition of the experts' call says, in natural numbers.
-/
module

public import proofs.«01_k».proof.Defs
public import proofs.«01_k».proof.Proof.Gen.Pre_dispatch
public import Idealize.ShloMosaic.Lib.ReduceAll
public import Idealize.ShloMosaic.Lib.Pointwise

@[expose] public section

set_option maxRecDepth 16384

noncomputable section

namespace Cert.Proof.Moe

open Cert.Pre_dispatch Cert.Pre_dispatch.Gen
open Idealize.ShloMosaic

/-- The word before and after a `not`, and the comparisons as the propositions they decide. -/
theorem noti_eq_one (d : BitVec 1) : ~~~d = 1#1 ↔ ¬ d = 1#1 := by revert d; decide

theorem one_iff (b : Bool) : BitVec.ofBool b = 1#1 ↔ b = true := by cases b <;> decide

theorem ge_zero (x : BitVec 32) (h : IntOp.cmpi .sge x 0#32 = 1#1) : x.toInt = x.toNat ∧ x.toNat < 2147483648 := by
  have h' : (0#32).sle x = true := (one_iff _).1 h
  have hx : (0 : ℤ) ≤ x.toInt := by simpa [BitVec.sle] using h'
  rw [BitVec.toInt_eq_toNat_cond] at hx ⊢
  have := x.isLt
  split_ifs at hx ⊢ <;> omega

theorem sle_iff (x y : BitVec 32) : IntOp.cmpi .sle x y = 1#1 ↔ x.toInt ≤ y.toInt := by
  refine (one_iff _).trans ?_
  simp [BitVec.sle]

theorem slt_iff (x y : BitVec 32) : IntOp.cmpi .slt x y = 1#1 ↔ x.toInt < y.toInt := by
  refine (one_iff _).trans ?_
  simp [BitVec.slt]

theorem ne_iff (x y : BitVec 32) : IntOp.cmpi .ne x y = 1#1 ↔ x ≠ y := by
  refine (one_iff _).trans ?_
  simp

theorem eq_iff (x y : BitVec 32) : IntOp.cmpi .eq x y = 1#1 ↔ x = y := by
  refine (one_iff _).trans ?_
  simp

/-- The floor remainder by 16 of a word that is not negative. -/
theorem rem_zero (x : BitVec 32) (h0 : IntOp.cmpi .sge x 0#32 = 1#1)
    (h : Scalar.select (IntOp.andi (IntOp.cmpi .ne (IntOp.cmpi .slt (IntOp.remsi .host x 16#32) 0#32) (IntOp.cmpi .slt 16#32 0#32)) (IntOp.cmpi .ne (IntOp.remsi .host x 16#32) 0#32))
      (IntOp.addi (IntOp.remsi .host x 16#32) 16#32) (IntOp.remsi .host x 16#32) = 0#32) : 16 ∣ x.toNat := by
  have hr : IntOp.remsi .host x 16#32 = x.srem 16#32 := by
    unfold IntOp.remsi
    rw [if_neg (by simp [IntOp.SDivCorner])]
  obtain ⟨hi, hlt⟩ := ge_zero x h0
  have hn : (x.srem 16#32).toInt = x.toNat % 16 := by
    rw [BitVec.toInt_srem, hi]; rfl
  have hs : ¬ IntOp.cmpi .slt (x.srem 16#32) 0#32 = 1#1 := by
    rw [slt_iff, hn]; simp; omega
  have hz : IntOp.cmpi .slt (x.srem 16#32) 0#32 = 0#1 := by
    revert hs; generalize IntOp.cmpi .slt (x.srem 16#32) 0#32 = d; revert d; decide
  rw [hr, hz, show IntOp.cmpi .ne (0#1) (IntOp.cmpi .slt 16#32 0#32) = 0#1 from by decide] at h
  have hzero : ∀ d : BitVec 1, IntOp.andi 0#1 d = 0#1 := by decide
  rw [hzero, show ∀ a b : BitVec 32, Scalar.select (0#1) a b = b from fun _ _ => rfl] at h
  rw [h] at hn
  have : ((x.toNat % 16 : ℕ) : ℤ) = 0 := by push_cast; rw [← hn]; rfl
  omega

/-- The sum of two counts that stays below the sign. -/
theorem add_nat (x y : BitVec 32) (h : x.toNat + y.toNat < 2147483648) : (IntOp.addi x y).toInt = x.toNat + y.toNat := by
  have e : (IntOp.addi x y).toNat = x.toNat + y.toNat := by
    show (x + y).toNat = _
    rw [BitVec.toNat_add]; omega
  rw [BitVec.toInt_eq_toNat_cond, if_pos (by omega), e]; push_cast; rfl

/-- A dispatch: the segments of a block of tokens and the tokens' places in them. -/
structure Routed (ex sl : IVec S32x2x1024 32) (off cnt : IVec S1024 32) : Prop where
  al : ∀ b e : Fin 32, 16 ∣ (off (ix1 ⟨b * 32 + e, by omega⟩)).toNat
  le : ∀ b e : Fin 32, (off (ix1 ⟨b * 32 + e, by omega⟩)).toNat + (cnt (ix1 ⟨b * 32 + e, by omega⟩)).toNat ≤ 2560
  next : ∀ (b : Fin 32) (e : Fin 31), (off (ix1 ⟨b * 32 + e, by omega⟩)).toNat + (cnt (ix1 ⟨b * 32 + e, by omega⟩)).toNat ≤ (off (ix1 ⟨b * 32 + (1 + e), by omega⟩)).toNat
  lt : ∀ (b : Fin 32) (j : Fin 2) (t : Fin 1024), (ex (ix3 b j t)).toNat < 32
  ne : ∀ (b : Fin 32) (t : Fin 1024), ex (ix3 b 0 t) ≠ ex (ix3 b 1 t)
  lo : ∀ (b : Fin 32) (j : Fin 2) (t : Fin 1024) (e : Fin 32), ex (ix3 b j t) = BitVec.ofNat 32 e → (off (ix1 ⟨b * 32 + e, by omega⟩)).toNat ≤ (sl (ix3 b j t)).toNat
  hi : ∀ (b : Fin 32) (j : Fin 2) (t : Fin 1024) (e : Fin 32), ex (ix3 b j t) = BitVec.ofNat 32 e →
    (sl (ix3 b j t)).toNat < (off (ix1 ⟨b * 32 + e, by omega⟩)).toNat + (cnt (ix1 ⟨b * 32 + e, by omega⟩)).toNat
  inj : ∀ (b : Fin 32) (j : Fin 2) (s t : Fin 1024), s ≠ t → sl (ix3 b j s) ≠ sl (ix3 b j t)
  apart : ∀ (b : Fin 32) (s t : Fin 1024), sl (ix3 b 0 s) ≠ sl (ix3 b 1 t)

theorem none_left (i j : S_.Idx) : i = j := funext fun d => Fin.elim0 d

variable {F : FTy → Type} [FloatOps F]

theorem routed (a0 : FVec F S32768x1024 .f32) (a1 : FVec F S32768x1024 .f32) (ex sl : IVec S32x2x1024 32) (a4 : FVec F S32x2x1024 .f32) (off cnt : IVec S1024 32)
    (a7 : FVec F S32x1024x256 .f32) (a8 : FVec F S32x1024x256 .f32) (a9 : FVec F S32x256x1024 .f32) (a10 : FVec F S1024 .f32)
    (e : Cert.Pre_dispatch.fn (F := F) a0 a1 ex sl a4 off cnt a7 a8 a9 a10 = fun _ => 1#1) : Routed ex sl off cnt := by
  have e0 := congrFun e fun d => Fin.elim0 d
  dsimp only [Cert.Pre_dispatch.fn, Cert.Pre_dispatch.fn_part1, Cert.Pre_dispatch.fn_part2, Cert.Pre_dispatch.fn_part3, Cert.Pre_dispatch.fn_part4, Cert.Pre_dispatch.fn_remainder, Cert.Pre_dispatch.fn_where] at e0
  obtain ⟨e1, h97⟩ := IntOp.andi_eq_one.1 e0
  obtain ⟨e2, e91⟩ := IntOp.andi_eq_one.1 e1
  obtain ⟨h80, h89⟩ := IntOp.andi_eq_one.1 e91
  obtain ⟨e40, h59⟩ := IntOp.andi_eq_one.1 e2
  obtain ⟨e26, e39⟩ := IntOp.andi_eq_one.1 e40
  obtain ⟨h31, h37⟩ := IntOp.andi_eq_one.1 e39
  obtain ⟨h20, h24⟩ := IntOp.andi_eq_one.1 e26
  have k20 : ∀ b e : Fin 32, _ := fun b e => Host.reduce_andi_eq_one _ _ _ _ _ h20 (ix2 b e) (none_left _ _)
  have k24 : ∀ (b : Fin 32) (e : Fin 31), _ := fun b e => Host.reduce_andi_eq_one _ _ _ _ _ h24 (ix2 b e) (none_left _ _)
  have k31 : ∀ (b : Fin 32) (j : Fin 2) (t : Fin 1024), _ := fun b j t => Host.reduce_andi_eq_one _ _ _ _ _ h31 (ix3 b j t) (none_left _ _)
  have k37 : ∀ (b : Fin 32) (t : Fin 1024), _ := fun b t => Host.reduce_andi_eq_one _ _ _ _ _ h37 (ix2 b t) (none_left _ _)
  have k59 : ∀ (b : Fin 32) (j : Fin 2) (t : Fin 1024) (e : Fin 32), _ := fun b j t e => Host.reduce_andi_eq_one _ _ _ _ _ h59 (ix4 b j t e) (none_left _ _)
  have k80 : ∀ (b : Fin 32) (s t : Fin 1024), _ := fun b s t => Host.reduce_andi_eq_one _ _ _ _ _ h80 (ix3 b s t) (none_left _ _)
  have k89 : ∀ (b : Fin 32) (s t : Fin 1024), _ := fun b s t => Host.reduce_andi_eq_one _ _ _ _ _ h89 (ix3 b s t) (none_left _ _)
  have k97 : ∀ (b : Fin 32) (s t : Fin 1024), _ := fun b s t => Host.reduce_andi_eq_one _ _ _ _ _ h97 (ix3 b s t) (none_left _ _)
  clear h20 h24 h31 h37 h59 h80 h89 h97 e0 e1 e2 e91 e40 e26 e39 e
  pointwise at k20
  pointwise at k24
  pointwise at k31
  pointwise at k37
  pointwise at k59
  pointwise at k80
  pointwise at k89
  pointwise at k97
  have cell : ∀ b e : Fin 32, (off (ix1 ⟨b * 32 + e, by omega⟩)).toInt = (off (ix1 ⟨b * 32 + e, by omega⟩)).toNat
      ∧ (cnt (ix1 ⟨b * 32 + e, by omega⟩)).toInt = (cnt (ix1 ⟨b * 32 + e, by omega⟩)).toNat
      ∧ (IntOp.addi (off (ix1 ⟨b * 32 + e, by omega⟩)) (cnt (ix1 ⟨b * 32 + e, by omega⟩))).toInt = (off (ix1 ⟨b * 32 + e, by omega⟩)).toNat + (cnt (ix1 ⟨b * 32 + e, by omega⟩)).toNat
      ∧ (off (ix1 ⟨b * 32 + e, by omega⟩)).toNat + (cnt (ix1 ⟨b * 32 + e, by omega⟩)).toNat ≤ 2560 ∧ 16 ∣ (off (ix1 ⟨b * 32 + e, by omega⟩)).toNat := by
    intro b e
    obtain ⟨k5, hs⟩ := IntOp.andi_eq_one.1 (k20 b e)
    obtain ⟨k4, ho⟩ := IntOp.andi_eq_one.1 k5
    obtain ⟨k3, hc⟩ := IntOp.andi_eq_one.1 k4
    obtain ⟨k2, hc0⟩ := IntOp.andi_eq_one.1 k3
    obtain ⟨ho0, hr⟩ := IntOp.andi_eq_one.1 k2
    obtain ⟨i1, l1⟩ := ge_zero _ ho0
    obtain ⟨i2, l2⟩ := ge_zero _ hc0
    have n1 := (sle_iff _ _).1 ho
    have n2 := (sle_iff _ _).1 hc
    rw [i1, show (2560#32 : BitVec 32).toInt = 2560 from rfl] at n1
    rw [i2, show (2560#32 : BitVec 32).toInt = 2560 from rfl] at n2
    have a := add_nat _ _ (show (off (ix1 ⟨b * 32 + e, by omega⟩)).toNat + (cnt (ix1 ⟨b * 32 + e, by omega⟩)).toNat < 2147483648 by omega)
    have n3 := (sle_iff _ _).1 hs
    rw [a, show (2560#32 : BitVec 32).toInt = 2560 from rfl] at n3
    exact ⟨i1, i2, a, by omega, rem_zero _ ho0 ((eq_iff _ _).1 hr)⟩
  have inside : ∀ (b e : Fin 32) (x y : BitVec 32), IntOp.ori (~~~IntOp.cmpi .eq x (BitVec.ofNat 32 e))
        (IntOp.andi (IntOp.cmpi .sle (off (ix1 ⟨b * 32 + e, by omega⟩)) y)
          (IntOp.cmpi .slt y (IntOp.addi (off (ix1 ⟨b * 32 + e, by omega⟩)) (cnt (ix1 ⟨b * 32 + e, by omega⟩))))) = 1#1 → x = BitVec.ofNat 32 e →
      (off (ix1 ⟨b * 32 + e, by omega⟩)).toNat ≤ y.toNat ∧ y.toNat < (off (ix1 ⟨b * 32 + e, by omega⟩)).toNat + (cnt (ix1 ⟨b * 32 + e, by omega⟩)).toNat := by
    intro b e x y h hx
    obtain ⟨i1, i2, a, l, -⟩ := cell b e
    rcases IntOp.ori_eq_one.1 h with h | h
    · exact absurd ((eq_iff _ _).2 hx) ((noti_eq_one _).1 h)
    obtain ⟨h1, h2⟩ := IntOp.andi_eq_one.1 h
    have n1 := (sle_iff _ _).1 h1
    have n2 := (slt_iff _ _).1 h2
    rw [i1] at n1; rw [a] at n2
    have := y.isLt
    rw [BitVec.toInt_eq_toNat_cond] at n1 n2
    split_ifs at n1 n2 <;> omega
  have small : ∀ x : BitVec 32, IntOp.andi (IntOp.cmpi .sge x 0#32) (IntOp.cmpi .slt x 32#32) = 1#1 → x.toNat < 32 := by
    intro x h
    obtain ⟨h1, h2⟩ := IntOp.andi_eq_one.1 h
    obtain ⟨i, -⟩ := ge_zero _ h1
    have n := (slt_iff _ _).1 h2
    rw [i, show (32#32 : BitVec 32).toInt = 32 from rfl] at n
    omega
  have differ : ∀ (x y : BitVec 32) (s t : Fin 1024), IntOp.ori (IntOp.cmpi .ne x y) (IntOp.cmpi .eq (BitVec.ofNat 32 s) (BitVec.ofNat 32 t)) = 1#1 → s ≠ t → x ≠ y := by
    intro x y s t h hst
    rcases IntOp.ori_eq_one.1 h with h | h
    · exact (ne_iff _ _).1 h
    · refine absurd (Fin.ext ?_) hst
      have := congrArg BitVec.toNat ((eq_iff _ _).1 h)
      simp only [BitVec.toNat_ofNat] at this
      omega
  refine ⟨fun b e => (cell b e).2.2.2.2, fun b e => (cell b e).2.2.2.1, fun b e => ?_, fun b j t => ?_, fun b t => (ne_iff _ _).1 (k37 b t), fun b j t e h => ?_, fun b j t e h => ?_,
    fun b j s t h => ?_, fun b s t => (ne_iff _ _).1 (k97 b s t)⟩
  · have n := (sle_iff _ _).1 (k24 b e)
    have c0 := cell b ⟨e, by omega⟩
    have c1 := cell b ⟨1 + e, by omega⟩
    rw [c0.2.2.1, c1.1] at n
    exact_mod_cast n
  · fin_cases j
    · exact small _ ((k31 b).1 t)
    · exact small _ ((k31 b).2 t)
  · fin_cases j
    · exact (inside b e _ _ ((k59 b).1 t e) h).1
    · exact (inside b e _ _ ((k59 b).2 t e) h).1
  · fin_cases j
    · exact (inside b e _ _ ((k59 b).1 t e) h).2
    · exact (inside b e _ _ ((k59 b).2 t e) h).2
  · fin_cases j
    · exact differ _ _ s t (k80 b s t) h
    · exact differ _ _ s t (k89 b s t) h

end Cert.Proof.Moe

end
-- ==== Proof.MoeMath.lean ====
/-
  The experts' call over the extended reals: sorting a block's tokens by expert, running each expert on its rows
  and adding each token's two rows up is the sum of its two experts' outputs.
-/
module

public import proofs.«01_k».proof.Proof.MoeFill
public import Idealize.ShloMosaic.Lib.Pointwise

@[expose] public section

set_option maxRecDepth 16384

noncomputable section

namespace Cert.Proof.Moe

open Cert.ExpertsIdeal Cert.ExpertsIdeal.Gen
open Idealize.ShloMosaic

/-- An expert's output of one token. -/
def ffn (h : Fin 1024 → EReal) (g u : Fin 1024 → Fin 256 → EReal) (w : Fin 256 → Fin 1024 → EReal) (d : Fin 1024) : EReal :=
  ∑ f, ((∑ k, h k * g k f) * Ideal.logistic (∑ k, h k * g k f) * ∑ k, h k * u k f) * w f d

/-- The final norm of a row. -/
def normed (x g : Fin 1024 → EReal) (d : Fin 1024) : EReal :=
  x d * Ideal.rsqrt (Ideal.div (∑ k, x k * x k) (Ideal.ofBits .f32 0x44800000#32) + Ideal.ofBits .f32 0x358637BD#32) * g d

/-- A small word read as a number and rounded back is the word. -/
theorem word_back (s : BitVec 32) (h : s.toNat < 2147483648) : (FloatOps.fptosi 32 (FloatOps.sitofp .f32 s : Ideal .f32) : BitVec 32) = s := by
  have hi : s.toInt = s.toNat := by
    rw [BitVec.toInt_eq_toNat_cond, if_pos (by omega)]
  have e : (FloatOps.sitofp .f32 s : Ideal .f32) = (((s.toNat : ℝ) : ℝ) : EReal) := by
    show (((s.toInt : ℝ)) : EReal) = _
    rw [hi]; norm_cast
  rw [e]
  show Ideal.fptosi 32 _ = s
  rw [Ideal.fptosi, Ideal.toIntClamped_coe, if_pos (by positivity)]
  have hf : ⌊(s.toNat : ℝ)⌋ = (s.toNat : ℤ) := Int.floor_natCast _
  rw [hf, min_eq_right (by push_cast; omega), max_eq_right (by push_cast; omega), ← hi, BitVec.ofInt_toInt]

/-- What a block's routing information says: each token's two places and two weights. -/
structure Told (info : Vec Ideal S1x8x1024 .f32) (p q : Fin 1024 → Fin 2688) (v w : Fin 1024 → EReal) : Prop where
  sp : ∀ t, FloatOps.fptosi (F := Ideal) (φ := .f32) 32 (info (ix3 0 0 t)) = BitVec.ofNat 32 (p t)
  sq : ∀ t, FloatOps.fptosi (F := Ideal) (φ := .f32) 32 (info (ix3 0 1 t)) = BitVec.ofNat 32 (q t)
  sv : ∀ t, info (ix3 0 2 t) = v t
  sw : ∀ t, info (ix3 0 3 t) = w t
  pp : ∀ s t, s ≠ t → p s ≠ p t
  qq : ∀ s t, s ≠ t → q s ≠ q t
  pq : ∀ s t, p s ≠ q t

/-- A row's comparison with a place. -/
theorem row_eq (n : Fin 6) (x : Fin 448) (y s : Fin 2688) (hy : y.val = 448 * n.val + x.val) :
    IntOp.cmpi .eq (IntOp.addi (BitVec.ofNat 32 x) (BitVec.ofNat 32 (448 * n.val))) (BitVec.ofNat 32 s) = if y = s then 1#1 else 0#1 := by
  have e : IntOp.addi (BitVec.ofNat 32 x) (BitVec.ofNat 32 (448 * n.val)) = BitVec.ofNat 32 y := by
    show BitVec.ofNat 32 x + BitVec.ofNat 32 (448 * n.val) = _
    rw [← BitVec.ofNat_add, hy, Nat.add_comm]
  rw [e]
  by_cases h : y = s
  · subst h; rw [if_pos rfl]; simp [IntOp.cmpi]
  · rw [if_neg h]
    have : ¬ BitVec.ofNat 32 (y : ℕ) = BitVec.ofNat 32 (s : ℕ) := fun hh => h (Fin.ext (by
      have := congrArg BitVec.toNat hh
      simp only [BitVec.toNat_ofNat] at this
      omega))
    show BitVec.ofBool (_ == _) = _
    rw [beq_eq_false_iff_ne.2 this]; rfl

section block
variable {info : Vec Ideal S1x8x1024 .f32} {h : Vec Ideal S1024x1024 .bf16} {pm xs ow : Vec Ideal S2688x1024 .bf16} {cs : Vec Ideal S2688x1 .f32}
  {p q : Fin 1024 → Fin 2688} {v w : Fin 1024 → EReal}

/-- A row is in one of six chunks. -/
theorem chunk_of (y : Fin 2688) : ∃ (n : Fin 6) (x : Fin 448), y.val = 448 * n.val + x.val :=
  ⟨⟨y.val / 448, by omega⟩, ⟨y.val % 448, by omega⟩, by simp only []; omega⟩

theorem pm_chunk (T : Told info p q v w) (n : Fin 6) (x : Fin 448) (y : Fin 2688) (hy : y.val = 448 * n.val + x.val) (t : Fin 1024) :
    pmOf info (BitVec.ofNat 32 (448 * n.val)) (ix2 x t) = if y = p t ∨ y = q t then 1 else 0 := by
  pointwise [pmOf, hit, k0_pay10, k0_pay11, k0_pay9]
  rw [T.sp, T.sq, row_eq n x y _ hy, row_eq n x y _ hy]
  by_cases h1 : y = p t
  · rw [if_pos h1, if_neg (fun e => T.pq t t (h1.symm.trans e)), if_pos (Or.inl h1)]; simp [IntOp.ori, Scalar.select]
  · by_cases h2 : y = q t
    · rw [if_neg h1, if_pos h2, if_pos (Or.inr h2)]; simp [IntOp.ori, Scalar.select]
    · rw [if_neg h1, if_neg h2, if_neg (not_or.2 ⟨h1, h2⟩)]; simp [IntOp.ori, Scalar.select]

theorem pm_at (T : Told info p q v w) (hF : Filled info h pm xs cs) (y : Fin 2688) (t : Fin 1024) :
    pm (ix2 y t) = if y = p t ∨ y = q t then 1 else 0 := by
  obtain ⟨n, x, hy⟩ := chunk_of y
  refine (hF.pm n (ix2 x t) (ix2 y t) hy rfl).trans ?_
  refine Eq.trans ?_ (pm_chunk T n x y hy t)
  pointwise [chunkPm]

theorem xs_at (T : Told info p q v w) (hF : Filled info h pm xs cs) (y : Fin 2688) (k : Fin 1024) :
    xs (ix2 y k) = ∑ t, (if y = p t ∨ y = q t then 1 else 0) * h (ix2 t k) := by
  obtain ⟨n, x, hy⟩ := chunk_of y
  refine (hF.xs n (ix2 x k) (ix2 y k) hy rfl).trans ?_
  pointwise [chunkXs]
  exact Finset.sum_congr rfl fun t _ => by rw [pm_chunk T n x y hy t]

theorem cs_at (T : Told info p q v w) (hF : Filled info h pm xs cs) (y : Fin 2688) :
    cs (ix2 y 0) = ∑ t, ((if y = p t then v t else 0) + (if y = q t then w t else 0)) := by
  obtain ⟨n, x, hy⟩ := chunk_of y
  refine (hF.cs n (ix2 x 0) (ix2 y 0) hy rfl).trans ?_
  pointwise [chunkCs, hit, k0_pay10, k0_pay11, k0_pay9]
  refine Finset.sum_congr rfl fun t _ => ?_
  rw [T.sp, T.sq, row_eq n x y _ hy, row_eq n x y _ hy, T.sv, T.sw]
  by_cases h1 : y = p t <;> by_cases h2 : y = q t <;> simp [h1, h2, Scalar.select]

/-- One term of a sum. -/
theorem one_term {n : ℕ} (f : Fin n → EReal) (t : Fin n) (hf : ∀ s, s ≠ t → f s = 0) : ∑ s, f s = f t :=
  Finset.sum_eq_single t (fun s _ hs => hf s hs) fun hn => absurd (Finset.mem_univ t) hn

theorem xs_p (T : Told info p q v w) (hF : Filled info h pm xs cs) (t k : Fin 1024) : xs (ix2 (p t) k) = h (ix2 t k) := by
  rw [xs_at T hF, one_term _ t fun s hs => by rw [if_neg (by rintro (e | e); exacts [T.pp t s hs.symm e, T.pq t s e]), zero_mul],
    if_pos (Or.inl rfl), one_mul]
theorem xs_q (T : Told info p q v w) (hF : Filled info h pm xs cs) (t k : Fin 1024) : xs (ix2 (q t) k) = h (ix2 t k) := by
  rw [xs_at T hF, one_term _ t fun s hs => by rw [if_neg (by rintro (e | e); exacts [T.pq s t e.symm, T.qq t s hs.symm e]), zero_mul],
    if_pos (Or.inr rfl), one_mul]
theorem cs_p (T : Told info p q v w) (hF : Filled info h pm xs cs) (t : Fin 1024) : cs (ix2 (p t) 0) = v t := by
  rw [cs_at T hF, one_term _ t fun s hs => by rw [if_neg (T.pp t s hs.symm), if_neg (T.pq t s), add_zero], if_pos rfl, if_neg (T.pq t t), add_zero]
theorem cs_q (T : Told info p q v w) (hF : Filled info h pm xs cs) (t : Fin 1024) : cs (ix2 (q t) 0) = w t := by
  rw [cs_at T hF, one_term _ t fun s hs => by rw [if_neg (fun e => T.pq s t e.symm), if_neg (T.qq t s hs.symm), add_zero],
    if_neg (fun e => T.pq t t e.symm), if_pos rfl, zero_add]

/-- A tile at an index. -/
theorem tile_at (W : Wts Ideal) (x : Vec Ideal S128x1024 .bf16) (c : Vec Ideal S128x1 .f32) (i : Fin 128) (d : Fin 1024) :
    tile W x c (ix2 i d) = ffn (fun k => x (ix2 i k)) (fun k f => W.g (ix3 0 k f)) (fun k f => W.u (ix3 0 k f)) (fun f d => W.d (ix3 0 f d)) d * c (ix2 i 0) := by
  pointwise [tile, k0_pay2]
  rfl

theorem rows_at (xs : Vec Ideal S2688x1024 .bf16) (o : ℕ) (ho : o + 128 ≤ 2688) (i : Fin 128) (k : Fin 1024) (y : Fin 2688) (hy : y.val = o + i.val) :
    rows xs o ho (ix2 i k) = xs (ix2 y k) := by
  unfold rows
  refine congrArg xs ?_
  funext a
  match a with
  | ⟨0, _⟩ => exact Fin.ext (by simp [hy])
  | ⟨1, _⟩ => exact Fin.ext (by simp)
theorem col_at (cs : Vec Ideal S2688x1 .f32) (o : ℕ) (ho : o + 128 ≤ 2688) (i : Fin 128) (y : Fin 2688) (hy : y.val = o + i.val) :
    col cs o ho (ix2 i 0) = cs (ix2 y 0) := by
  unfold col
  refine congrArg cs ?_
  funext a
  match a with
  | ⟨0, _⟩ => exact Fin.ext (by simp [hy])
  | ⟨1, _⟩ => exact Fin.ext (by simp)

/-- A row of a segment that is done. -/
theorem done_at (W : Wts Ideal) (lo hi : ℕ) (D : Done W lo hi xs cs ow) (y : Fin 2688) (h1 : lo ≤ y.val) (h2 : y.val < hi) (d : Fin 1024) :
    ow (ix2 y d) = ffn (fun k => xs (ix2 y k)) (fun k f => W.g (ix3 0 k f)) (fun k f => W.u (ix3 0 k f)) (fun f d => W.d (ix3 0 f d)) d * cs (ix2 y 0) := by
  obtain ⟨r, hr, x, e0, e1, e⟩ := D (ix2 y d) h1 h2
  have hx : x = ix2 (x 0) d := by
    funext a
    match a with
    | ⟨0, _⟩ => rfl
    | ⟨1, _⟩ => exact Fin.ext e1.symm
  rw [e, hx]
  refine (tile_at W _ _ (x 0) d).trans ?_
  rw [col_at cs r hr (x 0) y e0]
  simp only [fun k => rows_at xs r hr (x 0) k y e0]

/-- The two rows of a token. -/
theorem two_rows (a b : Fin 2688) (hab : a ≠ b) (f : Fin 2688 → EReal) : ∑ y, (if y = a ∨ y = b then (1 : EReal) else 0) * f y = f a + f b := by
  have : ∀ y, (if y = a ∨ y = b then (1 : EReal) else 0) * f y = (if y = a then f y else 0) + (if y = b then f y else 0) := by
    intro y
    by_cases h1 : y = a
    · subst h1; rw [if_pos (Or.inl rfl), if_pos rfl, if_neg hab, one_mul, add_zero]
    · by_cases h2 : y = b
      · rw [if_neg h1, if_pos (Or.inr h2), if_pos h2, one_mul, zero_add]
      · rw [if_neg h1, if_neg (not_or.2 ⟨h1, h2⟩), if_neg h2, zero_mul, add_zero]
  simp only [this, Finset.sum_add_distrib, Finset.sum_ite_eq', Finset.mem_univ, if_true]

theorem pay_at (x : Vec Ideal S1024x1024 .f32) (g : Vec Ideal S1x1024 .f32) (t d : Fin 1024) :
    k0_pay8 x pm ow g (ix2 t d) = normed (fun d => x (ix2 t d) + ∑ y, pm (ix2 y t) * ow (ix2 y d)) (fun d => g (ix2 0 d)) d := by
  pointwise [k0_pay8]
  rfl

/-- A block's result at an index: the token's two experts, weighted, the residual stream and the norm. -/
theorem block_at (T : Told info p q v w) (hF : Filled info h pm xs cs) (x : Vec Ideal S1024x1024 .f32) (g : Vec Ideal S1x1024 .f32) (t d : Fin 1024)
    (W0 W1 : Wts Ideal) (lo0 hi0 lo1 hi1 : ℕ) (D0 : Done W0 lo0 hi0 xs cs ow) (D1 : Done W1 lo1 hi1 xs cs ow)
    (p0 : lo0 ≤ (p t).val) (p1 : (p t).val < hi0) (q0 : lo1 ≤ (q t).val) (q1 : (q t).val < hi1) :
    k0_pay8 x pm ow g (ix2 t d) = normed (fun d => x (ix2 t d)
        + (v t * ffn (fun k => h (ix2 t k)) (fun k f => W0.g (ix3 0 k f)) (fun k f => W0.u (ix3 0 k f)) (fun f d => W0.d (ix3 0 f d)) d
          + w t * ffn (fun k => h (ix2 t k)) (fun k f => W1.g (ix3 0 k f)) (fun k f => W1.u (ix3 0 k f)) (fun f d => W1.d (ix3 0 f d)) d))
      (fun d => g (ix2 0 d)) d := by
  rw [pay_at]
  refine congrArg (fun r => normed r (fun d => g (ix2 0 d)) d) (funext fun d => ?_)
  simp only [pm_at T hF]
  rw [two_rows _ _ (T.pq t t), done_at W0 lo0 hi0 D0 (p t) p0 p1 d, done_at W1 lo1 hi1 D1 (q t) q0 q1 d, cs_p T hF, cs_q T hF, mul_comm _ (v t), mul_comm _ (w t)]
  simp only [xs_p T hF, xs_q T hF]
end block

end Cert.Proof.Moe

end
-- ==== Proof.MoeValue.lean ====
/-
  The experts' call's result over the extended reals: each token's residual stream and the weighted outputs of its two
  experts, normed; and the tables of a dispatch as the run wants them.
-/
module

public import proofs.«01_k».proof.Proof.MoeFrame
public import proofs.«01_k».proof.Proof.MoePre
public import proofs.«01_k».proof.Proof.MoeMath

@[expose] public section

set_option maxRecDepth 16384

noncomputable section

namespace Cert.Proof.Moe

open Cert.ExpertsIdeal Cert.ExpertsIdeal.Gen
open Idealize.ShloMosaic Idealize.ShloMosaic.TcCoe Idealize.ShloMosaic.Tactic Idealize.SL.Sem
open Idealize.ShloMosaic.Pipeline (Dat RDat Window)

/-! ## The tables of a dispatch -/

/-- A table as a function of numbers. -/
def nums (a : IVec S1024 32) (k : ℕ) : ℕ := (a (ix1 ⟨k % 1024, Nat.mod_lt _ (by norm_num)⟩)).toNat

theorem nums_at (a : IVec S1024 32) (b e k : ℕ) (hb : b < 32) (he : e < 32) (hk : k = b * 32 + e) (h) : nums a k = (a (ix1 ⟨b * 32 + e, h⟩)).toNat := by
  unfold nums
  congr 3
  exact Fin.ext (by simp only []; omega)

theorem nums_word (a : IVec S1024 32) (y : S1024.Idx) : a y = BitVec.ofNat 32 (nums a (y 0).val) := by
  unfold nums
  rw [BitVec.ofNat_toNat, BitVec.setWidth_eq]
  refine congrArg a (funext fun d => ?_)
  match d with
  | ⟨0, _⟩ => exact Fin.ext (Nat.mod_eq_of_lt (y 0).isLt).symm

theorem tab {F : FTy → Type} [FloatOps F] {ex sl : IVec S32x2x1024 32} {off cnt : IVec S1024 32} (h : Routed ex sl off cnt) :
    Tab (F := F) off cnt (nums off) (nums cnt) where
  off := nums_word off
  cnt := nums_word cnt
  al k hk := by
    rw [nums_at off (k / 32) (k % 32) k (by omega) (by omega) (by omega) (by omega)]
    exact h.al ⟨k / 32, by omega⟩ ⟨k % 32, by omega⟩
  le k hk := by
    rw [nums_at off (k / 32) (k % 32) k (by omega) (by omega) (by omega) (by omega), nums_at cnt (k / 32) (k % 32) k (by omega) (by omega) (by omega) (by omega)]
    exact h.le ⟨k / 32, by omega⟩ ⟨k % 32, by omega⟩
  next k hk hn := by
    rw [nums_at off (k / 32) (k % 32) k (by omega) (by omega) (by omega) (by omega), nums_at cnt (k / 32) (k % 32) k (by omega) (by omega) (by omega) (by omega),
      nums_at off (k / 32) (1 + k % 32) (k + 1) (by omega) (by omega) (by omega) (by omega)]
    exact h.next ⟨k / 32, by omega⟩ ⟨k % 32, by omega⟩

/-- The tables as the kernel finds them. -/
theorem tabs {F : FTy → Type} [FloatOps F] (m : (ℓ : Loc nD τ sig) → Buf (Elt F) ℓ) {ex sl : IVec S32x2x1024 32}
    (h : Routed ex sl (m ((0 : Dev nD).tc.loc main_arg5) : IVec S1024 32) (m ((0 : Dev nD).tc.loc main_arg6) : IVec S1024 32)) (c : Dev nD) :
    Tab (V m c main_arg5 : Vec F S1024 .i32) (V m c main_arg6 : Vec F S1024 .i32)
      (nums (m ((0 : Dev nD).tc.loc main_arg5))) (nums (m ((0 : Dev nD).tc.loc main_arg6))) := by
  obtain rfl : c = 0 := Subsingleton.elim _ _
  rw [V_arg m 0 main_arg5 (by decide), V_arg m 0 main_arg6 (by decide)]
  exact tab h

/-! ## The result -/

/-- A token's expert, as a number below 32. -/
def pick (ex : IVec S32x2x1024 32) (b : Fin 32) (j : Fin 2) (t : Fin 1024) : Fin 32 := ⟨(ex (ix3 b j t)).toNat % 32, Nat.mod_lt _ (by norm_num)⟩

/-- The weighted outputs of a token's two experts on top of its residual stream, normed. -/
def mixed (h x1 : FVec Ideal S32768x1024 .f32) (ex : IVec S32x2x1024 32) (w : FVec Ideal S32x2x1024 .f32)
    (wg wu : FVec Ideal S32x1024x256 .f32) (wd : FVec Ideal S32x256x1024 .f32) (g : FVec Ideal S1024 .f32) (b : Fin 32) (t d : Fin 1024) : EReal :=
  normed (fun d => x1 (ix2 (row b t) d)
      + (w (ix3 b 0 t) * ffn (fun k => h (ix2 (row b t) k)) (fun k f => wg (ix3 (pick ex b 0 t) k f)) (fun k f => wu (ix3 (pick ex b 0 t) k f)) (fun f d => wd (ix3 (pick ex b 0 t) f d)) d
        + w (ix3 b 1 t) * ffn (fun k => h (ix2 (row b t) k)) (fun k f => wg (ix3 (pick ex b 1 t) k f)) (fun k f => wu (ix3 (pick ex b 1 t) k f)) (fun f d => wd (ix3 (pick ex b 1 t) f d)) d))
    (fun d => g (ix1 d)) d

/-- A row's block and place in it. -/
def blockOf (r : Fin 32768) : Fin 32 := ⟨r / 1024, by omega⟩
def placeOf (r : Fin 32768) : Fin 1024 := ⟨r % 1024, by omega⟩
theorem row_of (r : Fin 32768) : row (blockOf r) (placeOf r) = r := Fin.ext (by simp only [row, blockOf, placeOf]; omega)
theorem blockOf_row (b : Fin 32) (t : Fin 1024) : blockOf (row b t) = b := Fin.ext (by simp only [row, blockOf]; omega)
theorem placeOf_row (b : Fin 32) (t : Fin 1024) : placeOf (row b t) = t := Fin.ext (by simp only [row, placeOf]; omega)

/-- The result array. -/
def mix (h x1 : FVec Ideal S32768x1024 .f32) (ex : IVec S32x2x1024 32) (w : FVec Ideal S32x2x1024 .f32)
    (wg wu : FVec Ideal S32x1024x256 .f32) (wd : FVec Ideal S32x256x1024 .f32) (g : FVec Ideal S1024 .f32) : FVec Ideal S32768x1024 .f32 :=
  fun i => mixed h x1 ex w wg wu wd g (blockOf (i 0)) (placeOf (i 0)) (i 1)

theorem mix_at (h x1 : FVec Ideal S32768x1024 .f32) (ex : IVec S32x2x1024 32) (w : FVec Ideal S32x2x1024 .f32)
    (wg wu : FVec Ideal S32x1024x256 .f32) (wd : FVec Ideal S32x256x1024 .f32) (g : FVec Ideal S1024 .f32) (b : Fin 32) (t d : Fin 1024) :
    mix h x1 ex w wg wu wd g (ix2 (row b t) d) = mixed h x1 ex w wg wu wd g b t d := by
  show mixed _ _ _ _ _ _ _ _ (blockOf (row b t)) (placeOf (row b t)) d = _
  rw [blockOf_row, placeOf_row]

/-! ## What the host hands the kernel -/

variable (m : (ℓ : Loc nD τ sig) → Buf (Elt Ideal) ℓ) (c : Dev nD)

def A0 : FVec Ideal S32768x1024 .f32 := m ((c.tc : Thread nD τ).loc main_arg0)
def A1 : FVec Ideal S32768x1024 .f32 := m ((c.tc : Thread nD τ).loc main_arg1)
def A2 : IVec S32x2x1024 32 := m ((c.tc : Thread nD τ).loc main_arg2)
def A3 : IVec S32x2x1024 32 := m ((c.tc : Thread nD τ).loc main_arg3)
def A4 : FVec Ideal S32x2x1024 .f32 := m ((c.tc : Thread nD τ).loc main_arg4)
def A5 : IVec S1024 32 := m ((c.tc : Thread nD τ).loc main_arg5)
def A6 : IVec S1024 32 := m ((c.tc : Thread nD τ).loc main_arg6)
def A7 : FVec Ideal S32x1024x256 .f32 := m ((c.tc : Thread nD τ).loc main_arg7)
def A8 : FVec Ideal S32x1024x256 .f32 := m ((c.tc : Thread nD τ).loc main_arg8)
def A9 : FVec Ideal S32x256x1024 .f32 := m ((c.tc : Thread nD τ).loc main_arg9)
def A10 : FVec Ideal S1024 .f32 := m ((c.tc : Thread nD τ).loc main_arg10)

/-- What the run leaves. -/
def result : FVec Ideal S32768x1024 .f32 := mix (A0 m c) (A1 m c) (A2 m c) (A4 m c) (A7 m c) (A8 m c) (A9 m c) (A10 m c)

theorem v2_apply (b : Fin 32) (j : Fin 8) (t : Fin 1024) : (V m c main_v2 : Vec Ideal S32x8x1024 .f32) (ix3 b j t)
    = if h : (j : ℕ) < 2 then FloatOps.sitofp .f32 (A3 m c (ix3 b ⟨j, h⟩ t)) else if h : (j : ℕ) - 2 < 2 then A4 m c (ix3 b ⟨j - 2, h⟩ t) else 0 := by
  unfold V
  after_reads_at
  after_reads_at
  rfl
theorem v3_apply (r : Fin 32768) (k : Fin 1024) : (V m c main_v3 : Vec Ideal S32768x1024 .bf16) (ix2 r k) = A0 m c (ix2 r k) := by
  unfold V
  after_reads_at
  rfl
theorem v4_apply (e : Fin 32) (k : Fin 1024) (f : Fin 256) : (V m c main_v4 : Vec Ideal S32x1024x256 .bf16) (ix3 e k f) = A7 m c (ix3 e k f) := by
  unfold V
  after_reads_at
  rfl
theorem v5_apply (e : Fin 32) (k : Fin 1024) (f : Fin 256) : (V m c main_v5 : Vec Ideal S32x1024x256 .bf16) (ix3 e k f) = A8 m c (ix3 e k f) := by
  unfold V
  after_reads_at
  rfl
theorem v6_apply (e : Fin 32) (f : Fin 256) (d : Fin 1024) : (V m c main_v6 : Vec Ideal S32x256x1024 .bf16) (ix3 e f d) = A9 m c (ix3 e f d) := by
  unfold V
  after_reads_at
  rfl
theorem v7_apply (d : Fin 1024) : (V m c main_v7 : Vec Ideal S1x1024 .f32) (ix2 0 d) = A10 m c (ix1 d) := by
  unfold V
  after_reads_at
  rfl

/-- A token's slot is within the buffer. -/
theorem slot_lt {ex sl : IVec S32x2x1024 32} {off cnt : IVec S1024 32} (h : Routed ex sl off cnt) (b : Fin 32) (j : Fin 2) (t : Fin 1024) : (sl (ix3 b j t)).toNat < 2560 := by
  have := h.hi b j t ⟨_, h.lt b j t⟩ (by simp only [BitVec.ofNat_toNat, BitVec.setWidth_eq])
  exact lt_of_lt_of_le this (h.le b _)

variable (h : Routed (A2 m c) (A3 m c) (A5 m c) (A6 m c))

include h

theorem pick_word (b : Fin 32) (j : Fin 2) (t : Fin 1024) : A2 m c (ix3 b j t) = BitVec.ofNat 32 (pick (A2 m c) b j t) := by
  simp only [pick, Nat.mod_eq_of_lt (h.lt b j t), BitVec.ofNat_toNat, BitVec.setWidth_eq]

def place (b : Fin 32) (j : Fin 2) (t : Fin 1024) : Fin 2688 := ⟨(A3 m c (ix3 b j t)).toNat, lt_trans (slot_lt h b j t) (by norm_num)⟩

theorem same_word {b : Fin 32} {i j : Fin 2} {s t : Fin 1024} (e : place m c h b i s = place m c h b j t) : A3 m c (ix3 b i s) = A3 m c (ix3 b j t) := by
  have := congrArg (fun x : Fin 2688 => x.val) e
  exact BitVec.eq_of_toNat_eq this

theorem told (b : Fin 32) : Told (info m c b) (place m c h b 0) (place m c h b 1) (fun t => A4 m c (ix3 b 0 t)) (fun t => A4 m c (ix3 b 1 t)) where
  sp t := by
    have e : info m c b (ix3 0 0 t) = FloatOps.sitofp (F := Ideal) .f32 (A3 m c (ix3 b 0 t)) := v2_apply m c b 0 t
    rw [e]
    refine (word_back _ (lt_trans (slot_lt h b 0 t) (by norm_num))).trans ?_
    simp only [place, BitVec.ofNat_toNat, BitVec.setWidth_eq]
  sq t := by
    have e : info m c b (ix3 0 1 t) = FloatOps.sitofp (F := Ideal) .f32 (A3 m c (ix3 b 1 t)) := v2_apply m c b 1 t
    rw [e]
    refine (word_back _ (lt_trans (slot_lt h b 1 t) (by norm_num))).trans ?_
    simp only [place, BitVec.ofNat_toNat, BitVec.setWidth_eq]
  sv t := v2_apply m c b 2 t
  sw t := v2_apply m c b 3 t
  pp s t hs e := h.inj b 0 s t hs (same_word m c h e)
  qq s t hs e := h.inj b 1 s t hs (same_word m c h e)
  pq s t e := h.apart b s t (same_word m c h e)

/-- A token's slot is in its expert's segment. -/
theorem seg_lo (b : Fin 32) (j : Fin 2) (t : Fin 1024) : nums (A5 m c) (32 * b + pick (A2 m c) b j t) ≤ (place m c h b j t).val := by
  rw [nums_at (A5 m c) b (pick (A2 m c) b j t) _ b.isLt (pick (A2 m c) b j t).isLt (by omega) (by omega)]
  exact h.lo b j t _ (pick_word m c h b j t)
theorem seg_hi (b : Fin 32) (j : Fin 2) (t : Fin 1024) :
    (place m c h b j t).val < nums (A5 m c) (32 * b + pick (A2 m c) b j t) + nums (A6 m c) (32 * b + pick (A2 m c) b j t) := by
  rw [nums_at (A5 m c) b (pick (A2 m c) b j t) _ b.isLt (pick (A2 m c) b j t).isLt (by omega) (by omega),
    nums_at (A6 m c) b (pick (A2 m c) b j t) _ b.isLt (pick (A2 m c) b j t).isLt (by omega) (by omega)]
  exact h.hi b j t _ (pick_word m c h b j t)

/-- What a block's last grid point leaves, at an index. -/
theorem left_at (n : ℕ) (hn : n % 16 = 15) (b : Fin 32) (hb : n / 16 = b.val) (X : Vec Ideal S1024x1024 .f32) (hX : Left m c (nums (A5 m c)) (nums (A6 m c)) n X) (t d : Fin 1024) :
    X (ix2 t d) = mixed (A0 m c) (A1 m c) (A2 m c) (A4 m c) (A7 m c) (A8 m c) (A9 m c) (A10 m c) b t d := by
  obtain ⟨pm, xs, ow, cs, hF, hD, rfl⟩ := hX hn b hb
  refine (block_at (told m c h b) hF (resid m c b) (gain m c) t d (wts m c (pick (A2 m c) b 0 t)) (wts m c (pick (A2 m c) b 1 t)) _ _ _ _
    (hD (pick (A2 m c) b 0 t)) (hD (pick (A2 m c) b 1 t)) (seg_lo m c h b 0 t) (seg_hi m c h b 0 t) (seg_lo m c h b 1 t) (seg_hi m c h b 1 t)).trans ?_
  have e0 : ∀ k, acts m c b (ix2 t k) = A0 m c (ix2 (row b t) k) := fun k => v3_apply m c (row b t) k
  have e1 : ∀ k, resid m c b (ix2 t k) = A1 m c (ix2 (row b t) k) := fun k => congrFun (V_arg m c main_arg1 (by decide)) (ix2 (row b t) k)
  have e2 : ∀ k, gain m c (ix2 0 k) = A10 m c (ix1 k) := v7_apply m c
  have e3 : ∀ e k f, (wts m c e).g (ix3 0 k f) = A7 m c (ix3 e k f) := v4_apply m c
  have e4 : ∀ e k f, (wts m c e).u (ix3 0 k f) = A8 m c (ix3 e k f) := v5_apply m c
  have e5 : ∀ e f d, (wts m c e).d (ix3 0 f d) = A9 m c (ix3 e f d) := v6_apply m c
  simp only [e0, e1, e2, e3, e4, e5]
  rfl

omit h

theorem flush_table (t : Fin grid0.N) : Window.flushOf grid0 true cc0_transform_7 t = decide (t.val % 16 = 15) := by
  revert t; decide +kernel

/-- The result's blocks are written back after a block's last grid point, -/
theorem flush7 (t : Fin (cfgA m).N) : ((cfgA m).win 7).flush t = decide (t.val % 16 = 15) := flush_table t

/-- and they cover the array. -/
theorem covers7 : ((cfgA m).win 7).Covers := by
  refine ⟨?_, fun β => ?_⟩
  · intro a
    match a with
    | ⟨0, _⟩ => exact (by decide : 0 < 1024)
    | ⟨1, _⟩ => exact (by decide : 0 < 1024)
  · have h0 : (β (0 : Fin 2)).val < 32 := lt_of_lt_of_eq (β (0 : Fin 2)).isLt (show (32768 + 1024 - 1) / 1024 = 32 from by norm_num)
    have h1 : (β (1 : Fin 2)).val < 1 := lt_of_lt_of_eq (β (1 : Fin 2)).isLt (show (1024 + 1024 - 1) / 1024 = 1 from by norm_num)
    refine ⟨⟨16 * (β (0 : Fin 2)).val + 15, lt_of_lt_of_eq (by omega : _ < 512) N_0.symm⟩, ?_, ?_⟩
    · rw [flush7]; simp only [decide_eq_true_eq]; omega
    · intro a
      rw [(idx m _).2.2.2.2.2.2.2]
      match a with
      | ⟨0, _⟩ => exact ⟨show (16 * (β (0 : Fin 2)).val + 15) / 16 = (β (0 : Fin 2)).val by omega, Or.inl rfl⟩
      | ⟨1, _⟩ => exact ⟨show 0 = (β (1 : Fin 2)).val by omega, Or.inl rfl⟩

instance some_value (e : EltTy) : Nonempty (Elt Ideal e) := by
  cases e <;> first | exact ⟨(0 : EReal)⟩ | exact ⟨(0 : BitVec _)⟩

/-- The run: the result array, and the arguments unchanged. -/
theorem ran (ρ : Dev nD → PrngReg) (h : ∀ c : Dev nD, Routed (A2 m c) (A3 m c) (A5 m c) (A6 m c)) :
    θ_run (defs (F := Ideal)) (onTc (τ := τ) (main (F := Ideal))) ⟨m, fun _ => 0, ρ⟩ (fun r => ∀ c : Dev nD,
      r.2.mem ((c.tc : Thread nD τ).loc main_v8) = result m c) := by
  have hT := tabs m (h 0)
  refine (θ_run _ _ _).mono (fun r hr c => ?_) (launched m ρ (nums (A5 m 0)) (nums (A6 m 0)) hT)
  obtain rfl : c = 0 := Subsingleton.elim _ _
  obtain ⟨after, hL, hA⟩ := RDat.FramePost.exists_exact hr.1 0
  refine (hA 7).trans ?_
  refine ((rdat m (nums (A5 m 0)) (nums (A6 m 0)) 0).withAfter after).arrAt_eq_of_covers 7 _ (covers7 m) fun t hf y => ?_
  have ht : t.val % 16 = 15 := by
    have := (flush7 m t).symm.trans hf
    exact of_decide_eq_true this
  have hX := (dats m (nums (A5 m 0)) (nums (A6 m 0)) 0).toRRel_leaves (fgt := marked m) (w := 7) rfl (hL 7 t hf)
  have hb : t.val / 16 < 32 := by have := point_lt m t; omega
  have e := left_at m 0 (h 0) t.val ht ⟨t.val / 16, hb⟩ rfl (after 7 t) hX
  blk_simp
  have hy : y = (ix2 (y (0 : Fin 2)) (y (1 : Fin 2)) : S1024x1024.Idx) := by
    funext d
    match d with
    | ⟨0, _⟩ => rfl
    | ⟨1, _⟩ => rfl
  refine (congrArg (after 7 t) hy).trans ((e (y (0 : Fin 2)) (y (1 : Fin 2))).trans ?_)
  have he : (((cfgA m).win 7).blk t).view.emb y = (ix2 (row ⟨t.val / 16, hb⟩ (y (0 : Fin 2))) (y (1 : Fin 2)) : S32768x1024.Idx) := by blk_ext [row, idx m t]
  refine Eq.trans ?_ (congrArg (result m 0) he).symm
  exact (mix_at _ _ _ _ _ _ _ _ _ _ _).symm

end Cert.Proof.Moe

end
-- ==== Proof.MoeRef.lean ====
/-
  The reference of the experts' call at an index: of the sum over the experts the token's two remain.
-/
module

public import proofs.«01_k».proof.Proof.MoeValue
public import proofs.«01_k».proof.Proof.Gen.MixtureIdeal.Run

@[expose] public section

set_option maxRecDepth 16384

noncomputable section

namespace Cert.Proof.Moe.Ref

open Cert.MixtureIdeal Cert.MixtureIdeal.Gen
open Idealize.ShloMosaic Idealize.ShloMosaic.TcCoe Idealize.SL.Sem

section
variable (h x1 : FVec Ideal S32768x1024 .f32) (ex : IVec S32x2x1024 32) (w : FVec Ideal S32x2x1024 .f32)
  (wg wu : FVec Ideal S32x1024x256 .f32) (wd : FVec Ideal S32x256x1024 .f32) (b : Fin 32) (t : Fin 1024)

/-- A token's row before the norm, summed over all the experts. -/
def mid (d : Fin 1024) : EReal :=
  x1 (ix2 (row b t) d) + ∑ e : Fin 32, (∑ j : Fin 2, FloatOps.uitofp (F := Ideal) .f32 (IntOp.cmpi .eq (ex (ix3 b j t)) (BitVec.ofNat 32 e)) * w (ix3 b j t))
    * ∑ f : Fin 256, ((∑ k : Fin 1024, wg (ix3 e k f) * h (ix2 (row b t) k)) * Ideal.div 1 (1 + Ideal.exp (-∑ k : Fin 1024, wg (ix3 e k f) * h (ix2 (row b t) k)))
        * ∑ k : Fin 1024, wu (ix3 e k f) * h (ix2 (row b t) k)) * wd (ix3 e f d)

theorem ffn_eq (e : Fin 32) (d : Fin 1024) :
    (∑ f : Fin 256, ((∑ k : Fin 1024, wg (ix3 e k f) * h (ix2 (row b t) k)) * Ideal.div 1 (1 + Ideal.exp (-∑ k : Fin 1024, wg (ix3 e k f) * h (ix2 (row b t) k)))
        * ∑ k : Fin 1024, wu (ix3 e k f) * h (ix2 (row b t) k)) * wd (ix3 e f d))
      = ffn (fun k => h (ix2 (row b t) k)) (fun k f => wg (ix3 e k f)) (fun k f => wu (ix3 e k f)) (fun f d => wd (ix3 e f d)) d := by
  refine Finset.sum_congr rfl fun f _ => ?_
  have e1 : (∑ k : Fin 1024, wg (ix3 e k f) * h (ix2 (row b t) k)) = ∑ k : Fin 1024, h (ix2 (row b t) k) * wg (ix3 e k f) := Finset.sum_congr rfl fun k _ => mul_comm _ _
  have e2 : (∑ k : Fin 1024, wu (ix3 e k f) * h (ix2 (row b t) k)) = ∑ k : Fin 1024, h (ix2 (row b t) k) * wu (ix3 e k f) := Finset.sum_congr rfl fun k _ => mul_comm _ _
  rw [e1, e2]
  rfl

/-- The indicator of a token's expert. -/
theorem hot (j : Fin 2) (hl : (ex (ix3 b j t)).toNat < 32) (e : Fin 32) :
    FloatOps.uitofp (F := Ideal) .f32 (IntOp.cmpi .eq (ex (ix3 b j t)) (BitVec.ofNat 32 e)) = if e = pick ex b j t then (1 : EReal) else 0 := by
  by_cases hc : ex (ix3 b j t) = BitVec.ofNat 32 e
  · have : e = pick ex b j t := Fin.ext (by
      have := congrArg BitVec.toNat hc
      simp only [BitVec.toNat_ofNat] at this
      simp only [pick]
      omega)
    rw [if_pos this, (eq_iff _ _).2 hc]
    show (((1#1 : BitVec 1).toNat : ℝ) : EReal) = 1
    simp
  · have : ¬ e = pick ex b j t := fun he => hc (by
      apply BitVec.eq_of_toNat_eq
      rw [he]
      simp only [pick, BitVec.toNat_ofNat]
      omega)
    rw [if_neg this]
    have hz : IntOp.cmpi .eq (ex (ix3 b j t)) (BitVec.ofNat 32 e) = 0#1 := by
      show BitVec.ofBool (_ == _) = _
      rw [beq_eq_false_iff_ne.2 hc]; rfl
    rw [hz]
    show (((0#1 : BitVec 1).toNat : ℝ) : EReal) = 0
    simp

theorem mid_eq (hl : ∀ j, (ex (ix3 b j t)).toNat < 32) (hne : ex (ix3 b 0 t) ≠ ex (ix3 b 1 t)) (d : Fin 1024) :
    mid h x1 ex w wg wu wd b t d = x1 (ix2 (row b t) d)
      + (w (ix3 b 0 t) * ffn (fun k => h (ix2 (row b t) k)) (fun k f => wg (ix3 (pick ex b 0 t) k f)) (fun k f => wu (ix3 (pick ex b 0 t) k f)) (fun f d => wd (ix3 (pick ex b 0 t) f d)) d
        + w (ix3 b 1 t) * ffn (fun k => h (ix2 (row b t) k)) (fun k f => wg (ix3 (pick ex b 1 t) k f)) (fun k f => wu (ix3 (pick ex b 1 t) k f)) (fun f d => wd (ix3 (pick ex b 1 t) f d)) d) := by
  have hp : pick ex b 0 t ≠ pick ex b 1 t := fun he => hne (by
    apply BitVec.eq_of_toNat_eq
    have := congrArg (fun x : Fin 32 => x.val) he
    simp only [pick] at this
    have := hl 0
    have := hl 1
    omega)
  unfold mid
  congr 1
  have hs : ∀ e : Fin 32, (∑ j : Fin 2, FloatOps.uitofp (F := Ideal) .f32 (IntOp.cmpi .eq (ex (ix3 b j t)) (BitVec.ofNat 32 e)) * w (ix3 b j t))
      * ffn (fun k => h (ix2 (row b t) k)) (fun k f => wg (ix3 e k f)) (fun k f => wu (ix3 e k f)) (fun f d => wd (ix3 e f d)) d
      = (if e = pick ex b 0 t then w (ix3 b 0 t) * ffn (fun k => h (ix2 (row b t) k)) (fun k f => wg (ix3 e k f)) (fun k f => wu (ix3 e k f)) (fun f d => wd (ix3 e f d)) d else 0)
        + (if e = pick ex b 1 t then w (ix3 b 1 t) * ffn (fun k => h (ix2 (row b t) k)) (fun k f => wg (ix3 e k f)) (fun k f => wu (ix3 e k f)) (fun f d => wd (ix3 e f d)) d else 0) := by
    intro e
    rw [Fin.sum_univ_two, hot ex b t 0 (hl 0) e, hot ex b t 1 (hl 1) e]
    by_cases h0 : e = pick ex b 0 t
    · have h1 : ¬ e = pick ex b 1 t := fun h1 => hp (h0.symm.trans h1)
      rw [if_pos h0, if_neg h1, if_pos h0, if_neg h1, one_mul, zero_mul, add_zero, add_zero]
    · by_cases h1 : e = pick ex b 1 t
      · rw [if_neg h0, if_pos h1, if_neg h0, if_pos h1, one_mul, zero_mul, zero_add, zero_add]
      · rw [if_neg h0, if_neg h1, if_neg h0, if_neg h1, zero_mul, zero_mul, add_zero, zero_mul]
  simp only [ffn_eq, hs, Finset.sum_add_distrib, Finset.sum_ite_eq', Finset.mem_univ, if_true]
end

variable (m : (ℓ : Loc nD τ sig) → Buf (Elt Ideal) ℓ) (c : Dev nD)

def A0 : FVec Ideal S32768x1024 .f32 := m ((c.tc : Thread nD τ).loc main_arg0)
def A1 : FVec Ideal S32768x1024 .f32 := m ((c.tc : Thread nD τ).loc main_arg1)
def A2 : IVec S32x2x1024 32 := m ((c.tc : Thread nD τ).loc main_arg2)
def A4 : FVec Ideal S32x2x1024 .f32 := m ((c.tc : Thread nD τ).loc main_arg4)
def A7 : FVec Ideal S32x1024x256 .f32 := m ((c.tc : Thread nD τ).loc main_arg7)
def A8 : FVec Ideal S32x1024x256 .f32 := m ((c.tc : Thread nD τ).loc main_arg8)
def A9 : FVec Ideal S32x256x1024 .f32 := m ((c.tc : Thread nD τ).loc main_arg9)
def A10 : FVec Ideal S1024 .f32 := m ((c.tc : Thread nD τ).loc main_arg10)

theorem res_at (b : Fin 32) (t d : Fin 1024) : (Cert.MixtureIdeal.Value.res_main_v31 m c : FVec Ideal S32768x1024 .f32) (ix2 (row b t) d)
    = normed (mid (A0 m c) (A1 m c) (A2 m c) (A4 m c) (A7 m c) (A8 m c) (A9 m c) b t) (fun d => A10 m c (ix1 d)) d := by
  have hb : ∀ p, (⟨(row b t).val / 1024, p⟩ : Fin 32) = b := fun _ => blockOf_row b t
  have ht : ∀ p, (⟨(row b t).val % 1024, p⟩ : Fin 1024) = t := fun _ => placeOf_row b t
  unfold Cert.MixtureIdeal.Value.res_main_v31
  pointwise []
  simp only [hb, ht]
  rfl

/-- The reference's result is the two experts' mixture. -/
theorem res_eq (hl : ∀ b j t, (A2 m c (ix3 b j t)).toNat < 32) (hne : ∀ b t, A2 m c (ix3 b 0 t) ≠ A2 m c (ix3 b 1 t)) :
    Cert.MixtureIdeal.Value.res_main_v31 m c = mix (A0 m c) (A1 m c) (A2 m c) (A4 m c) (A7 m c) (A8 m c) (A9 m c) (A10 m c) := by
  have key : ∀ b t d, (Cert.MixtureIdeal.Value.res_main_v31 m c : FVec Ideal S32768x1024 .f32) (ix2 (row b t) d)
      = mix (A0 m c) (A1 m c) (A2 m c) (A4 m c) (A7 m c) (A8 m c) (A9 m c) (A10 m c) (ix2 (row b t) d) := fun b t d => by
    rw [res_at, mix_at]
    exact congrArg (fun r => normed r (fun d => A10 m c (ix1 d)) d) (funext fun d => mid_eq _ _ _ _ _ _ _ b t (hl b · t) (hne b t) d)
  funext i
  have hi : i = (ix2 (row (blockOf (i (0 : Fin 2))) (placeOf (i (0 : Fin 2)))) (i (1 : Fin 2)) : S32768x1024.Idx) := by
    funext a
    match a with
    | ⟨0, _⟩ => exact (row_of _).symm
    | ⟨1, _⟩ => rfl
  exact (congrArg (Cert.MixtureIdeal.Value.res_main_v31 m c) hi).trans ((key _ _ _).trans (congrArg (mix (A0 m c) (A1 m c) (A2 m c) (A4 m c) (A7 m c) (A8 m c) (A9 m c) (A10 m c)) hi).symm)

end Cert.Proof.Moe.Ref

end
-- ==== Proof.lean ====
/-
  The proof of `Cert.Claim`. The two programs have the same text, so their frames, and the
  result, are one run (`Proof/Run.lean`); the result is read as the reference's in `Proof/Value.lean`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Gen.ExpertsIdeal
public import proofs.«01_k».proof.Proof.Gen.ExpertsIdeal.Skeleton
public import proofs.«01_k».proof.Proof.Gen.ExpertsIdeal.Loops
public import proofs.«01_k».proof.Proof.Gen.ExpertsIdeal.Launch
public import proofs.«01_k».proof.Proof.Gen.Experts
public import proofs.«01_k».proof.Proof.Gen.MixtureIdeal
public import proofs.«01_k».proof.Proof.Gen.MixtureIdeal.Run
public import proofs.«01_k».proof.Proof.Gen.Pre_dispatch
public import proofs.«01_k».proof.Proof.Run
public import proofs.«01_k».proof.Proof.Same
public import proofs.«01_k».proof.Proof.Ref
public import proofs.«01_k».proof.Proof.Finite
public import proofs.«01_k».proof.Proof.Value
public import proofs.«01_k».proof.Proof.MoeSame
public import proofs.«01_k».proof.Proof.MoeValue
public import proofs.«01_k».proof.Proof.MoeRef

@[expose] public section

noncomputable section

namespace Cert.Proof

open Idealize.ShloMosaic Idealize.SL.Sem

/-- The printed program's frame: the same run, over the machine's floats. -/
theorem printed_frame : Cert.quiescent_Kernel (hKernel := Cert.Kernel.Gen.facts) := fun m g _ => by
  refine Eq.mp (congrArg₂ (fun d p => θ_run d (onTc (τ := Cert.Kernel.τ) p) ⟨m, fun _ => 0, g⟩ _) defs_same.symm main_same.symm) ?_
  exact Attn.framed (F := Bits) m g

/-- The reference's frame: its run, and no counter to speak of. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun _ h => ⟨fun c => (h c).2, funext fun g => nomatch g.2⟩) (Ref.ran m g)

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hpre hag => by
  refine ⟨fun c => Attn.result m c, ?_, ?_⟩
  · refine (θ_run _ _ _).mono (fun _ h c => ?_) (Attn.ran (F := Ideal) m g)
    have e := Attn.array m c (Finite.entries _ _ _ _ _ (hpre c))
    exact ⟨(h c).1.trans e, (h c).2⟩
  · refine (θ_run _ _ _).mono (fun _ h c => ⟨?_, (h c).2⟩) (Ref.ran m' g')
    obtain ⟨e0, e1, e2, e3, e4⟩ := hag c
    refine (h c).1.trans ?_
    rw [e0, e1, e2, e3, e4]
    rfl

/-- The experts' call, printed: its frame is the same run over the machine's floats. -/
theorem experts_frame : Cert.quiescent_Experts (hExperts := Cert.Experts.Gen.facts) (hPre_dispatch := Cert.Pre_dispatch.Gen.facts) := fun m g hpre => by
  refine Eq.mp (congrArg₂ (fun d p => θ_run d (onTc (τ := Cert.Experts.τ) p) ⟨m, fun _ => 0, g⟩ _) Moe.defs_same.symm Moe.main_same.symm) ?_
  exact Moe.framed (F := Bits) m g _ _ (Moe.tabs m (Moe.routed (F := Bits) _ _ _ _ _ _ _ _ _ _ _ (hpre 0)))

theorem experts_ideal_frame : Cert.quiescent_ExpertsIdeal (hExpertsIdeal := Cert.ExpertsIdeal.Gen.facts) (hPre_dispatch := Cert.Pre_dispatch.Gen.facts) :=
  fun m g hpre => Moe.framed (F := Ideal) m g _ _ (Moe.tabs m (Moe.routed (F := Ideal) _ _ _ _ _ _ _ _ _ _ _ (hpre 0)))

/-- Its reference's frame. -/
theorem mixture_frame : Cert.quiescent_MixtureIdeal (hMixtureIdeal := Cert.MixtureIdeal.Gen.facts) := fun m g _ =>
  (θ_run _ _ _).mono (fun _ h => ⟨fun c => (h c).2, funext fun g => nomatch g.2⟩) (Cert.MixtureIdeal.Value.run m g)

/-- The experts' call and its reference leave the same result. -/
theorem experts_algebraic : Cert.algebraic_ExpertsIdeal_MixtureIdeal (hExpertsIdeal := Cert.ExpertsIdeal.Gen.facts)
    (hMixtureIdeal := Cert.MixtureIdeal.Gen.facts) (hPre_dispatch := Cert.Pre_dispatch.Gen.facts) := fun m g m' g' hpre hag => by
  have hr := fun c => Moe.routed (F := Ideal) _ _ _ _ _ _ _ _ _ _ _ (hpre c)
  refine ⟨fun c => Moe.result m c, ?_, ?_⟩
  · refine (θ_run _ _ _).mono (fun _ h c => ⟨h.1 c, h.2 c⟩) (θ_run_and (Moe.ran m g hr) (Moe.unchanged (F := Ideal) m g _ _ (Moe.tabs m (hr 0))))
  · refine (θ_run _ _ _).mono (fun _ h c => ⟨?_, (h c).2⟩) (Cert.MixtureIdeal.Value.run m' g')
    refine (h c).1.trans ?_
    obtain ⟨e0, e1, e2, e3, e4, e5, e6, e7, e8, e9, e10⟩ := hag c
    have e : Moe.Ref.A2 m' c = Moe.A2 m c := e2
    refine (Moe.Ref.res_eq m' c (fun b j t => by rw [e]; exact (hr c).lt b j t) (fun b t => by rw [e]; exact (hr c).ne b t)).trans ?_
    unfold Moe.Ref.A0 Moe.Ref.A1 Moe.Ref.A2 Moe.Ref.A4 Moe.Ref.A7 Moe.Ref.A8 Moe.Ref.A9 Moe.Ref.A10
    rw [e0, e1, e2, e4, e7, e8, e9, e10]
    rfl

theorem claim : Cert.Claim :=
  ⟨Cert.Kernel.Gen.facts, Cert.KernelIdeal.Gen.facts, Cert.ReferenceIdeal.Gen.facts, Cert.Experts.Gen.facts, Cert.ExpertsIdeal.Gen.facts,
    Cert.MixtureIdeal.Gen.facts, Cert.Pre_finite.Gen.facts, Cert.Pre_dispatch.Gen.facts,
    printed_frame, fun m g _ => Attn.framed m g, fun m g _ => Attn.framed m g,
    fun m g _ => ref_frame m g, fun m g _ => ref_frame m g,
    experts_frame, experts_ideal_frame, mixture_frame, fun m g _ => mixture_frame m g trivial,
    trivial, algebraic, trivial, experts_algebraic⟩

end Cert.Proof

end
